-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S512x32 : Shape := ⟨2, ![512, 32]⟩
abbrev S4x512x256 : Shape := ⟨3, ![4, 512, 256]⟩
abbrev S4x15x32x256 : Shape := ⟨4, ![4, 15, 32, 256]⟩
abbrev S4x32x256 : Shape := ⟨3, ![4, 32, 256]⟩
abbrev S2 : Shape := ⟨1, ![2]⟩
abbrev S4x15 : Shape := ⟨2, ![4, 15]⟩
abbrev S4 : Shape := ⟨1, ![4]⟩
abbrev S_ : Shape := ⟨0, ![]⟩
abbrev S1 : Shape := ⟨1, ![1]⟩
abbrev S32x256 : Shape := ⟨2, ![32, 256]⟩
abbrev S512x256 : Shape := ⟨2, ![512, 256]⟩
abbrev S1x512x256 : Shape := ⟨3, ![1, 512, 256]⟩
abbrev S1x1 : Shape := ⟨2, ![1, 1]⟩
abbrev S1x1x32x256 : Shape := ⟨4, ![1, 1, 32, 256]⟩
abbrev S1x32x256 : Shape := ⟨3, ![1, 32, 256]⟩
abbrev S1x15x32x256 : Shape := ⟨4, ![1, 15, 32, 256]⟩
abbrev S15x32x256 : Shape := ⟨3, ![15, 32, 256]⟩

abbrev nBuf : Space → Nat
  | .hbm => 3
  | .vmem => 13
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S1024x1024, .f32⟩
  | .local _ .vmem, ⟨0, _⟩ => ⟨S1024x32, .f32⟩
  | .local _ .vmem, ⟨1, _⟩ => ⟨S32x1024, .f32⟩
  | .local _ .vmem, ⟨2, _⟩ => ⟨S1024x1024, .f32⟩
  | .local _ .vmem, ⟨3, _⟩ => ⟨S512x32, .bf16⟩
  | .local _ .vmem, ⟨4, _⟩ => ⟨S32x1024, .bf16⟩
  | .local _ .vmem, ⟨5, _⟩ => ⟨S512x32, .bf16⟩
  | .local _ .vmem, ⟨6, _⟩ => ⟨S32x1024, .bf16⟩
  | .local _ .vmem, ⟨7, _⟩ => ⟨S4x512x256, .bf16⟩
  | .local _ .vmem, ⟨8, _⟩ => ⟨S4x15x32x256, .bf16⟩
  | .local _ .vmem, ⟨9, _⟩ => ⟨S4x32x256, .bf16⟩
  | .local _ .vmem, ⟨10, _⟩ => ⟨S4x15x32x256, .bf16⟩
  | .local _ .vmem, ⟨11, _⟩ => ⟨S4x512x256, .bf16⟩
  | .local _ .vmem, ⟨12, _⟩ => ⟨S4x512x256, .bf16⟩
  | _, _ => ⟨S1024x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 255 → Bool
  | ⟨i, _⟩ => dmaSemScopedAt i

abbrev sig : RefSig :=
  (ofTc nBuf bufTy 1 255 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_17 : BitVec 32 := 1#32
  let v39 : BitVec 32 := Scalar.muli v15 c1_i32_17
  let v40 : BitVec 32 := Scalar.addi c0_i32_18 v39
  v40.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_19 : BitVec 32 := 2#32
  let v41 : BitVec 32 := Scalar.addi v2 c2_i32_19
  let c32_i32_20 : BitVec 32 := 32#32
  let c0_i32_21 : BitVec 32 := 0#32
  let v42 : BitVec 1 := Scalar.cmpi .eq c32_i32_20 c0_i32_21
  let c1_i32_22 : BitVec 32 := 1#32
  let v43 : BitVec 32 := Scalar.select v42 c1_i32_22 c32_i32_20
  let v44 : BitVec 32 := Scalar.remsi v41 v43
  let c0_i32_24 : BitVec 32 := 0#32
  let v46 : BitVec 1 := Scalar.cmpi .slt v44 c0_i32_24
  let c0_i32_25 : BitVec 32 := 0#32
  let v47 : BitVec 1 := Scalar.cmpi .slt v43 c0_i32_25
  let v48 : BitVec 1 := Scalar.xori v46 v47
  let c0_i32_23 : BitVec 32 := 0#32
  let v45 : BitVec 1 := Scalar.cmpi .ne v44 c0_i32_23
  let v49 : BitVec 1 := Scalar.andi v48 v45
  let v50 : BitVec 32 := Scalar.addi v44 v43
  let v51 : BitVec 32 := Scalar.select v49 v50 v44
  let c1_i32_27 : BitVec 32 := 1#32
  let v52 : BitVec 32 := Scalar.muli v51 c1_i32_27
  let v53 : BitVec 32 := Scalar.addi c0_i32_28 v52
  v53.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v54 : BitVec 32 := Scalar.addi v2 c4_i32
  let c32_i32_29 : BitVec 32 := 32#32
  let c0_i32_30 : BitVec 32 := 0#32
  let v55 : BitVec 1 := Scalar.cmpi .eq c32_i32_29 c0_i32_30
  let c1_i32_31 : BitVec 32 := 1#32
  let v56 : BitVec 32 := Scalar.select v55 c1_i32_31 c32_i32_29
  let v57 : BitVec 32 := Scalar.remsi v54 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c1_i32_36 : BitVec 32 := 1#32
  let v65 : BitVec 32 := Scalar.muli v64 c1_i32_36
  let v66 : BitVec 32 := Scalar.addi c0_i32_37 v65
  v66.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v67 : BitVec 32 := Scalar.addi v2 c6_i32
  let c32_i32_38 : BitVec 32 := 32#32
  let c0_i32_39 : BitVec 32 := 0#32
  let v68 : BitVec 1 := Scalar.cmpi .eq c32_i32_38 c0_i32_39
  let c1_i32_40 : BitVec 32 := 1#32
  let v69 : BitVec 32 := Scalar.select v68 c1_i32_40 c32_i32_38
  let v70 : BitVec 32 := Scalar.remsi v67 v69
  let c0_i32_42 : BitVec 32 := 0#32
  let v72 : BitVec 1 := Scalar.cmpi .slt v70 c0_i32_42
  let c0_i32_43 : BitVec 32 := 0#32
  let v73 : BitVec 1 := Scalar.cmpi .slt v69 c0_i32_43
  let v74 : BitVec 1 := Scalar.xori v72 v73
  let c0_i32_41 : BitVec 32 := 0#32
  let v71 : BitVec 1 := Scalar.cmpi .ne v70 c0_i32_41
  let v75 : BitVec 1 := Scalar.andi v74 v71
  let v76 : BitVec 32 := Scalar.addi v70 v69
  let v77 : BitVec 32 := Scalar.select v75 v76 v70
  let c1_i32_45 : BitVec 32 := 1#32
  let v78 : BitVec 32 := Scalar.muli v77 c1_i32_45
  let v79 : BitVec 32 := Scalar.addi c0_i32_46 v78
  v79.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v80 : BitVec 32 := Scalar.addi v2 c8_i32
  let c32_i32_47 : BitVec 32 := 32#32
  let c0_i32_48 : BitVec 32 := 0#32
  let v81 : BitVec 1 := Scalar.cmpi .eq c32_i32_47 c0_i32_48
  let c1_i32_49 : BitVec 32 := 1#32
  let v82 : BitVec 32 := Scalar.select v81 c1_i32_49 c32_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c1_i32_54 : BitVec 32 := 1#32
  let v91 : BitVec 32 := Scalar.muli v90 c1_i32_54
  let v92 : BitVec 32 := Scalar.addi c0_i32_55 v91
  v92.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v93 : BitVec 32 := Scalar.addi v2 c10_i32
  let c32_i32_56 : BitVec 32 := 32#32
  let c0_i32_57 : BitVec 32 := 0#32
  let v94 : BitVec 1 := Scalar.cmpi .eq c32_i32_56 c0_i32_57
  let c1_i32_58 : BitVec 32 := 1#32
  let v95 : BitVec 32 := Scalar.select v94 c1_i32_58 c32_i32_56
  let v96 : BitVec 32 := Scalar.remsi v93 v95
  let c0_i32_60 : BitVec 32 := 0#32
  let v98 : BitVec 1 := Scalar.cmpi .slt v96 c0_i32_60
  let c0_i32_61 : BitVec 32 := 0#32
  let v99 : BitVec 1 := Scalar.cmpi .slt v95 c0_i32_61
  let v100 : BitVec 1 := Scalar.xori v98 v99
  let c0_i32_59 : BitVec 32 := 0#32
  let v97 : BitVec 1 := Scalar.cmpi .ne v96 c0_i32_59
  let v101 : BitVec 1 := Scalar.andi v100 v97
  let v102 : BitVec 32 := Scalar.addi v96 v95
  let v103 : BitVec 32 := Scalar.select v101 v102 v96
  let c1_i32_63 : BitVec 32 := 1#32
  let v104 : BitVec 32 := Scalar.muli v103 c1_i32_63
  let v105 : BitVec 32 := Scalar.addi c0_i32_64 v104
  v105.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v106 : BitVec 32 := Scalar.addi v2 c12_i32
  let c32_i32_65 : BitVec 32 := 32#32
  let c0_i32_66 : BitVec 32 := 0#32
  let v107 : BitVec 1 := Scalar.cmpi .eq c32_i32_65 c0_i32_66
  let c1_i32_67 : BitVec 32 := 1#32
  let v108 : BitVec 32 := Scalar.select v107 c1_i32_67 c32_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c1_i32_72 : BitVec 32 := 1#32
  let v117 : BitVec 32 := Scalar.muli v116 c1_i32_72
  let v118 : BitVec 32 := Scalar.addi c0_i32_73 v117
  v118.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v119 : BitVec 32 := Scalar.addi v2 c14_i32
  let c32_i32_74 : BitVec 32 := 32#32
  let c0_i32_75 : BitVec 32 := 0#32
  let v120 : BitVec 1 := Scalar.cmpi .eq c32_i32_74 c0_i32_75
  let c1_i32_76 : BitVec 32 := 1#32
  let v121 : BitVec 32 := Scalar.select v120 c1_i32_76 c32_i32_74
  let v122 : BitVec 32 := Scalar.remsi v119 v121
  let c0_i32_78 : BitVec 32 := 0#32
  let v124 : BitVec 1 := Scalar.cmpi .slt v122 c0_i32_78
  let c0_i32_79 : BitVec 32 := 0#32
  let v125 : BitVec 1 := Scalar.cmpi .slt v121 c0_i32_79
  let v126 : BitVec 1 := Scalar.xori v124 v125
  let c0_i32_77 : BitVec 32 := 0#32
  let v123 : BitVec 1 := Scalar.cmpi .ne v122 c0_i32_77
  let v127 : BitVec 1 := Scalar.andi v126 v123
  let v128 : BitVec 32 := Scalar.addi v122 v121
  let v129 : BitVec 32 := Scalar.select v127 v128 v122
  let c1_i32_81 : BitVec 32 := 1#32
  let v130 : BitVec 32 := Scalar.muli v129 c1_i32_81
  let v131 : BitVec 32 := Scalar.addi c0_i32_82 v130
  v131.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v132 : BitVec 32 := Scalar.addi v2 c16_i32
  let c32_i32_83 : BitVec 32 := 32#32
  let c0_i32_84 : BitVec 32 := 0#32
  let v133 : BitVec 1 := Scalar.cmpi .eq c32_i32_83 c0_i32_84
  let c1_i32_85 : BitVec 32 := 1#32
  let v134 : BitVec 32 := Scalar.select v133 c1_i32_85 c32_i32_83
  let v135 : BitVec 32 := Scalar.remsi v132 v134
  let c0_i32_87 : BitVec 32 := 0#32
  let v137 : BitVec 1 := Scalar.cmpi .slt v135 c0_i32_87
  let c0_i32_88 : BitVec 32 := 0#32
  let v138 : BitVec 1 := Scalar.cmpi .slt v134 c0_i32_88
  let v139 : BitVec 1 := Scalar.xori v137 v138
  let c0_i32_86 : BitVec 32 := 0#32
  let v136 : BitVec 1 := Scalar.cmpi .ne v135 c0_i32_86
  let v140 : BitVec 1 := Scalar.andi v139 v136
  let v141 : BitVec 32 := Scalar.addi v135 v134
  let v142 : BitVec 32 := Scalar.select v140 v141 v135
  let c1_i32_90 : BitVec 32 := 1#32
  let v143 : BitVec 32 := Scalar.muli v142 c1_i32_90
  let v144 : BitVec 32 := Scalar.addi c0_i32_91 v143
  v144.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v145 : BitVec 32 := Scalar.addi v2 c18_i32
  let c32_i32_92 : BitVec 32 := 32#32
  let c0_i32_93 : BitVec 32 := 0#32
  let v146 : BitVec 1 := Scalar.cmpi .eq c32_i32_92 c0_i32_93
  let c1_i32_94 : BitVec 32 := 1#32
  let v147 : BitVec 32 := Scalar.select v146 c1_i32_94 c32_i32_92
  let v148 : BitVec 32 := Scalar.remsi v145 v147
  let c0_i32_96 : BitVec 32 := 0#32
  let v150 : BitVec 1 := Scalar.cmpi .slt v148 c0_i32_96
  let c0_i32_97 : BitVec 32 := 0#32
  let v151 : BitVec 1 := Scalar.cmpi .slt v147 c0_i32_97
  let v152 : BitVec 1 := Scalar.xori v150 v151
  let c0_i32_95 : BitVec 32 := 0#32
  let v149 : BitVec 1 := Scalar.cmpi .ne v148 c0_i32_95
  let v153 : BitVec 1 := Scalar.andi v152 v149
  let v154 : BitVec 32 := Scalar.addi v148 v147
  let v155 : BitVec 32 := Scalar.select v153 v154 v148
  let c1_i32_99 : BitVec 32 := 1#32
  let v156 : BitVec 32 := Scalar.muli v155 c1_i32_99
  let v157 : BitVec 32 := Scalar.addi c0_i32_100 v156
  v157.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v158 : BitVec 32 := Scalar.addi v2 c20_i32
  let c32_i32_101 : BitVec 32 := 32#32
  let c0_i32_102 : BitVec 32 := 0#32
  let v159 : BitVec 1 := Scalar.cmpi .eq c32_i32_101 c0_i32_102
  let c1_i32_103 : BitVec 32 := 1#32
  let v160 : BitVec 32 := Scalar.select v159 c1_i32_103 c32_i32_101
  let v161 : BitVec 32 := Scalar.remsi v158 v160
  let c0_i32_105 : BitVec 32 := 0#32
  let v163 : BitVec 1 := Scalar.cmpi .slt v161 c0_i32_105
  let c0_i32_106 : BitVec 32 := 0#32
  let v164 : BitVec 1 := Scalar.cmpi .slt v160 c0_i32_106
  let v165 : BitVec 1 := Scalar.xori v163 v164
  let c0_i32_104 : BitVec 32 := 0#32
  let v162 : BitVec 1 := Scalar.cmpi .ne v161 c0_i32_104
  let v166 : BitVec 1 := Scalar.andi v165 v162
  let v167 : BitVec 32 := Scalar.addi v161 v160
  let v168 : BitVec 32 := Scalar.select v166 v167 v161
  let c1_i32_108 : BitVec 32 := 1#32
  let v169 : BitVec 32 := Scalar.muli v168 c1_i32_108
  let v170 : BitVec 32 := Scalar.addi c0_i32_109 v169
  v170.toNat
def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v171 : BitVec 32 := Scalar.addi v2 c22_i32
  let c32_i32_110 : BitVec 32 := 32#32
  let c0_i32_111 : BitVec 32 := 0#32
  let v172 : BitVec 1 := Scalar.cmpi .eq c32_i32_110 c0_i32_111
  let c1_i32_112 : BitVec 32 := 1#32
  let v173 : BitVec 32 := Scalar.select v172 c1_i32_112 c32_i32_110
  let v174 : BitVec 32 := Scalar.remsi v171 v173
  let c0_i32_114 : BitVec 32 := 0#32
  let v176 : BitVec 1 := Scalar.cmpi .slt v174 c0_i32_114
  let c0_i32_115 : BitVec 32 := 0#32
  let v177 : BitVec 1 := Scalar.cmpi .slt v173 c0_i32_115
  let v178 : BitVec 1 := Scalar.xori v176 v177
  let c0_i32_113 : BitVec 32 := 0#32
  let v175 : BitVec 1 := Scalar.cmpi .ne v174 c0_i32_113
  let v179 : BitVec 1 := Scalar.andi v178 v175
  let v180 : BitVec 32 := Scalar.addi v174 v173
  let v181 : BitVec 32 := Scalar.select v179 v180 v174
  let c1_i32_117 : BitVec 32 := 1#32
  let v182 : BitVec 32 := Scalar.muli v181 c1_i32_117
  let v183 : BitVec 32 := Scalar.addi c0_i32_118 v182
  v183.toNat
def k0_dev13 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v184 : BitVec 32 := Scalar.addi v2 c24_i32
  let c32_i32_119 : BitVec 32 := 32#32
  let c0_i32_120 : BitVec 32 := 0#32
  let v185 : BitVec 1 := Scalar.cmpi .eq c32_i32_119 c0_i32_120
  let c1_i32_121 : BitVec 32 := 1#32
  let v186 : BitVec 32 := Scalar.select v185 c1_i32_121 c32_i32_119
  let v187 : BitVec 32 := Scalar.remsi v184 v186
  let c0_i32_123 : BitVec 32 := 0#32
  let v189 : BitVec 1 := Scalar.cmpi .slt v187 c0_i32_123
  let c0_i32_124 : BitVec 32 := 0#32
  let v190 : BitVec 1 := Scalar.cmpi .slt v186 c0_i32_124
  let v191 : BitVec 1 := Scalar.xori v189 v190
  let c0_i32_122 : BitVec 32 := 0#32
  let v188 : BitVec 1 := Scalar.cmpi .ne v187 c0_i32_122
  let v192 : BitVec 1 := Scalar.andi v191 v188
  let v193 : BitVec 32 := Scalar.addi v187 v186
  let v194 : BitVec 32 := Scalar.select v192 v193 v187
  let c1_i32_126 : BitVec 32 := 1#32
  let v195 : BitVec 32 := Scalar.muli v194 c1_i32_126
  let v196 : BitVec 32 := Scalar.addi c0_i32_127 v195
  v196.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v197 : BitVec 32 := Scalar.addi v2 c26_i32
  let c32_i32_128 : BitVec 32 := 32#32
  let c0_i32_129 : BitVec 32 := 0#32
  let v198 : BitVec 1 := Scalar.cmpi .eq c32_i32_128 c0_i32_129
  let c1_i32_130 : BitVec 32 := 1#32
  let v199 : BitVec 32 := Scalar.select v198 c1_i32_130 c32_i32_128
  let v200 : BitVec 32 := Scalar.remsi v197 v199
  let c0_i32_132 : BitVec 32 := 0#32
  let v202 : BitVec 1 := Scalar.cmpi .slt v200 c0_i32_132
  let c0_i32_133 : BitVec 32 := 0#32
  let v203 : BitVec 1 := Scalar.cmpi .slt v199 c0_i32_133
  let v204 : BitVec 1 := Scalar.xori v202 v203
  let c0_i32_131 : BitVec 32 := 0#32
  let v201 : BitVec 1 := Scalar.cmpi .ne v200 c0_i32_131
  let v205 : BitVec 1 := Scalar.andi v204 v201
  let v206 : BitVec 32 := Scalar.addi v200 v199
  let v207 : BitVec 32 := Scalar.select v205 v206 v200
  let c1_i32_135 : BitVec 32 := 1#32
  let v208 : BitVec 32 := Scalar.muli v207 c1_i32_135
  let v209 : BitVec 32 := Scalar.addi c0_i32_136 v208
  v209.toNat
def k0_dev15 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v210 : BitVec 32 := Scalar.addi v2 c28_i32
  let c32_i32_137 : BitVec 32 := 32#32
  let c0_i32_138 : BitVec 32 := 0#32
  let v211 : BitVec 1 := Scalar.cmpi .eq c32_i32_137 c0_i32_138
  let c1_i32_139 : BitVec 32 := 1#32
  let v212 : BitVec 32 := Scalar.select v211 c1_i32_139 c32_i32_137
  let v213 : BitVec 32 := Scalar.remsi v210 v212
  let c0_i32_141 : BitVec 32 := 0#32
  let v215 : BitVec 1 := Scalar.cmpi .slt v213 c0_i32_141
  let c0_i32_142 : BitVec 32 := 0#32
  let v216 : BitVec 1 := Scalar.cmpi .slt v212 c0_i32_142
  let v217 : BitVec 1 := Scalar.xori v215 v216
  let c0_i32_140 : BitVec 32 := 0#32
  let v214 : BitVec 1 := Scalar.cmpi .ne v213 c0_i32_140
  let v218 : BitVec 1 := Scalar.andi v217 v214
  let v219 : BitVec 32 := Scalar.addi v213 v212
  let v220 : BitVec 32 := Scalar.select v218 v219 v213
  let c1_i32_144 : BitVec 32 := 1#32
  let v221 : BitVec 32 := Scalar.muli v220 c1_i32_144
  let v222 : BitVec 32 := Scalar.addi c0_i32_145 v221
  v222.toNat
def k0_dev16 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v223 : BitVec 32 := Scalar.addi v2 c30_i32
  let c32_i32_146 : BitVec 32 := 32#32
  let c0_i32_147 : BitVec 32 := 0#32
  let v224 : BitVec 1 := Scalar.cmpi .eq c32_i32_146 c0_i32_147
  let c1_i32_148 : BitVec 32 := 1#32
  let v225 : BitVec 32 := Scalar.select v224 c1_i32_148 c32_i32_146
  let v226 : BitVec 32 := Scalar.remsi v223 v225
  let c0_i32_150 : BitVec 32 := 0#32
  let v228 : BitVec 1 := Scalar.cmpi .slt v226 c0_i32_150
  let c0_i32_151 : BitVec 32 := 0#32
  let v229 : BitVec 1 := Scalar.cmpi .slt v225 c0_i32_151
  let v230 : BitVec 1 := Scalar.xori v228 v229
  let c0_i32_149 : BitVec 32 := 0#32
  let v227 : BitVec 1 := Scalar.cmpi .ne v226 c0_i32_149
  let v231 : BitVec 1 := Scalar.andi v230 v227
  let v232 : BitVec 32 := Scalar.addi v226 v225
  let v233 : BitVec 32 := Scalar.select v231 v232 v226
  let c1_i32_153 : BitVec 32 := 1#32
  let v234 : BitVec 32 := Scalar.muli v233 c1_i32_153
  let v235 : BitVec 32 := Scalar.addi c0_i32_154 v234
  v235.toNat
def k0_off1 (d0 : Dev nD) : Fin 2 → Nat :=
  let c1_i32_6 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v17 : BitVec 32 := Scalar.subi c1_i32_6 v12
  let c512_i32_7 : BitVec 32 := 512#32
  let v18 : BitVec 32 := Scalar.muli v17 c512_i32_7
  let v236 : Index := Scalar.indexCast v18
  let c0 : Index := 0#32
  ![v236.toNat, 0]
def k0_dev17 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_164 : BitVec 32 := 1#32
  let v249 : BitVec 32 := Scalar.muli v15 c1_i32_164
  let v250 : BitVec 32 := Scalar.addi c0_i32_165 v249
  v250.toNat
def k0_dev18 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_168 : BitVec 32 := 1#32
  let v255 : BitVec 32 := Scalar.muli v15 c1_i32_168
  let v256 : BitVec 32 := Scalar.addi c0_i32_169 v255
  v256.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v269 : Index := Scalar.indexCast v16
  let c0_178 : Index := 0#32
  ![v269.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v279 : Index := Scalar.indexCast v16
  let c0_186 : Index := 0#32
  ![v279.toNat, 0]
def k0_off4 (d0 : Dev nD) (c2_i32_190 : BitVec 32) : Fin 3 → Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v285 : BitVec 32 := Scalar.addi v2 c2_i32_190
  let c32_i32_191 : BitVec 32 := 32#32
  let c0_i32_192 : BitVec 32 := 0#32
  let v286 : BitVec 1 := Scalar.cmpi .eq c32_i32_191 c0_i32_192
  let c1_i32_193 : BitVec 32 := 1#32
  let v287 : BitVec 32 := Scalar.select v286 c1_i32_193 c32_i32_191
  let v288 : BitVec 32 := Scalar.remsi v285 v287
  let c0_i32_195 : BitVec 32 := 0#32
  let v290 : BitVec 1 := Scalar.cmpi .slt v288 c0_i32_195
  let c0_i32_196 : BitVec 32 := 0#32
  let v291 : BitVec 1 := Scalar.cmpi .slt v287 c0_i32_196
  let v292 : BitVec 1 := Scalar.xori v290 v291
  let c0_i32_194 : BitVec 32 := 0#32
  let v289 : BitVec 1 := Scalar.cmpi .ne v288 c0_i32_194
  let v293 : BitVec 1 := Scalar.andi v292 v289
  let v294 : BitVec 32 := Scalar.addi v288 v287
  let v295 : BitVec 32 := Scalar.select v293 v294 v288
  let c0_i32_198 : BitVec 32 := 0#32
  let v297 : BitVec 1 := Scalar.cmpi .sgt v295 c0_i32_198
  let v298 : BitVec 32 := Scalar.extui v297
  let c0_i32_199 : BitVec 32 := 0#32
  let v299 : BitVec 1 := Scalar.cmpi .slt v295 c0_i32_199
  let v300 : BitVec 32 := Scalar.extui v299
  let v301 : BitVec 32 := Scalar.subi v298 v300
  let c2_i32_197 : BitVec 32 := 2#32
  let c0_i32_200 : BitVec 32 := 0#32
  let v302 : BitVec 1 := Scalar.cmpi .sgt c2_i32_197 c0_i32_200
  let v303 : BitVec 32 := Scalar.extui v302
  let c0_i32_201 : BitVec 32 := 0#32
  let v304 : BitVec 1 := Scalar.cmpi .slt c2_i32_197 c0_i32_201
  let v305 : BitVec 32 := Scalar.extui v304
  let v306 : BitVec 32 := Scalar.subi v303 v305
  let v307 : BitVec 1 := Scalar.cmpi .ne v301 v306
  let v308 : BitVec 32 := Scalar.remsi v295 c2_i32_197
  let c0_i32_202 : BitVec 32 := 0#32
  let v309 : BitVec 1 := Scalar.cmpi .ne v308 c0_i32_202
  let v310 : BitVec 1 := Scalar.andi v307 v309
  let v296 : BitVec 32 := Scalar.divsi v295 c2_i32_197
  let c1_i32_203 : BitVec 32 := 1#32
  let v311 : BitVec 32 := Scalar.subi v296 c1_i32_203
  let v312 : BitVec 32 := Scalar.select v310 v311 v296
  let c32_i32_204 : BitVec 32 := 32#32
  let v313 : BitVec 32 := Scalar.muli v312 c32_i32_204
  let c0_i32_216 : BitVec 32 := 0#32
  ![0, v313.toNat, 0]
def k0_dev19 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_190 : BitVec 32 := 2#32
  let v285 : BitVec 32 := Scalar.addi v2 c2_i32_190
  let c32_i32_191 : BitVec 32 := 32#32
  let c0_i32_192 : BitVec 32 := 0#32
  let v286 : BitVec 1 := Scalar.cmpi .eq c32_i32_191 c0_i32_192
  let c1_i32_193 : BitVec 32 := 1#32
  let v287 : BitVec 32 := Scalar.select v286 c1_i32_193 c32_i32_191
  let v288 : BitVec 32 := Scalar.remsi v285 v287
  let c0_i32_195 : BitVec 32 := 0#32
  let v290 : BitVec 1 := Scalar.cmpi .slt v288 c0_i32_195
  let c0_i32_196 : BitVec 32 := 0#32
  let v291 : BitVec 1 := Scalar.cmpi .slt v287 c0_i32_196
  let v292 : BitVec 1 := Scalar.xori v290 v291
  let c0_i32_194 : BitVec 32 := 0#32
  let v289 : BitVec 1 := Scalar.cmpi .ne v288 c0_i32_194
  let v293 : BitVec 1 := Scalar.andi v292 v289
  let v294 : BitVec 32 := Scalar.addi v288 v287
  let v295 : BitVec 32 := Scalar.select v293 v294 v288
  let c1_i32_212 : BitVec 32 := 1#32
  let v314 : BitVec 32 := Scalar.muli v295 c1_i32_212
  let v315 : BitVec 32 := Scalar.addi c0_i32_213 v314
  v315.toNat
def k0_dev20 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_217 : BitVec 32 := 4#32
  let v324 : BitVec 32 := Scalar.addi v2 c4_i32_217
  let c32_i32_218 : BitVec 32 := 32#32
  let c0_i32_219 : BitVec 32 := 0#32
  let v325 : BitVec 1 := Scalar.cmpi .eq c32_i32_218 c0_i32_219
  let c1_i32_220 : BitVec 32 := 1#32
  let v326 : BitVec 32 := Scalar.select v325 c1_i32_220 c32_i32_218
  let v327 : BitVec 32 := Scalar.remsi v324 v326
  let c0_i32_222 : BitVec 32 := 0#32
  let v329 : BitVec 1 := Scalar.cmpi .slt v327 c0_i32_222
  let c0_i32_223 : BitVec 32 := 0#32
  let v330 : BitVec 1 := Scalar.cmpi .slt v326 c0_i32_223
  let v331 : BitVec 1 := Scalar.xori v329 v330
  let c0_i32_221 : BitVec 32 := 0#32
  let v328 : BitVec 1 := Scalar.cmpi .ne v327 c0_i32_221
  let v332 : BitVec 1 := Scalar.andi v331 v328
  let v333 : BitVec 32 := Scalar.addi v327 v326
  let v334 : BitVec 32 := Scalar.select v332 v333 v327
  let c1_i32_239 : BitVec 32 := 1#32
  let v353 : BitVec 32 := Scalar.muli v334 c1_i32_239
  let v354 : BitVec 32 := Scalar.addi c0_i32_240 v353
  v354.toNat
def k0_dev21 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_244 : BitVec 32 := 6#32
  let v363 : BitVec 32 := Scalar.addi v2 c6_i32_244
  let c32_i32_245 : BitVec 32 := 32#32
  let c0_i32_246 : BitVec 32 := 0#32
  let v364 : BitVec 1 := Scalar.cmpi .eq c32_i32_245 c0_i32_246
  let c1_i32_247 : BitVec 32 := 1#32
  let v365 : BitVec 32 := Scalar.select v364 c1_i32_247 c32_i32_245
  let v366 : BitVec 32 := Scalar.remsi v363 v365
  let c0_i32_249 : BitVec 32 := 0#32
  let v368 : BitVec 1 := Scalar.cmpi .slt v366 c0_i32_249
  let c0_i32_250 : BitVec 32 := 0#32
  let v369 : BitVec 1 := Scalar.cmpi .slt v365 c0_i32_250
  let v370 : BitVec 1 := Scalar.xori v368 v369
  let c0_i32_248 : BitVec 32 := 0#32
  let v367 : BitVec 1 := Scalar.cmpi .ne v366 c0_i32_248
  let v371 : BitVec 1 := Scalar.andi v370 v367
  let v372 : BitVec 32 := Scalar.addi v366 v365
  let v373 : BitVec 32 := Scalar.select v371 v372 v366
  let c1_i32_266 : BitVec 32 := 1#32
  let v392 : BitVec 32 := Scalar.muli v373 c1_i32_266
  let v393 : BitVec 32 := Scalar.addi c0_i32_267 v392
  v393.toNat
def k0_dev22 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_271 : BitVec 32 := 8#32
  let v402 : BitVec 32 := Scalar.addi v2 c8_i32_271
  let c32_i32_272 : BitVec 32 := 32#32
  let c0_i32_273 : BitVec 32 := 0#32
  let v403 : BitVec 1 := Scalar.cmpi .eq c32_i32_272 c0_i32_273
  let c1_i32_274 : BitVec 32 := 1#32
  let v404 : BitVec 32 := Scalar.select v403 c1_i32_274 c32_i32_272
  let v405 : BitVec 32 := Scalar.remsi v402 v404
  let c0_i32_276 : BitVec 32 := 0#32
  let v407 : BitVec 1 := Scalar.cmpi .slt v405 c0_i32_276
  let c0_i32_277 : BitVec 32 := 0#32
  let v408 : BitVec 1 := Scalar.cmpi .slt v404 c0_i32_277
  let v409 : BitVec 1 := Scalar.xori v407 v408
  let c0_i32_275 : BitVec 32 := 0#32
  let v406 : BitVec 1 := Scalar.cmpi .ne v405 c0_i32_275
  let v410 : BitVec 1 := Scalar.andi v409 v406
  let v411 : BitVec 32 := Scalar.addi v405 v404
  let v412 : BitVec 32 := Scalar.select v410 v411 v405
  let c1_i32_292 : BitVec 32 := 1#32
  let v431 : BitVec 32 := Scalar.muli v412 c1_i32_292
  let v432 : BitVec 32 := Scalar.addi c0_i32_293 v431
  v432.toNat
def k0_dev23 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_297 : BitVec 32 := 10#32
  let v441 : BitVec 32 := Scalar.addi v2 c10_i32_297
  let c32_i32_298 : BitVec 32 := 32#32
  let c0_i32_299 : BitVec 32 := 0#32
  let v442 : BitVec 1 := Scalar.cmpi .eq c32_i32_298 c0_i32_299
  let c1_i32_300 : BitVec 32 := 1#32
  let v443 : BitVec 32 := Scalar.select v442 c1_i32_300 c32_i32_298
  let v444 : BitVec 32 := Scalar.remsi v441 v443
  let c0_i32_302 : BitVec 32 := 0#32
  let v446 : BitVec 1 := Scalar.cmpi .slt v444 c0_i32_302
  let c0_i32_303 : BitVec 32 := 0#32
  let v447 : BitVec 1 := Scalar.cmpi .slt v443 c0_i32_303
  let v448 : BitVec 1 := Scalar.xori v446 v447
  let c0_i32_301 : BitVec 32 := 0#32
  let v445 : BitVec 1 := Scalar.cmpi .ne v444 c0_i32_301
  let v449 : BitVec 1 := Scalar.andi v448 v445
  let v450 : BitVec 32 := Scalar.addi v444 v443
  let v451 : BitVec 32 := Scalar.select v449 v450 v444
  let c1_i32_319 : BitVec 32 := 1#32
  let v470 : BitVec 32 := Scalar.muli v451 c1_i32_319
  let v471 : BitVec 32 := Scalar.addi c0_i32_320 v470
  v471.toNat
def k0_dev24 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_324 : BitVec 32 := 12#32
  let v480 : BitVec 32 := Scalar.addi v2 c12_i32_324
  let c32_i32_325 : BitVec 32 := 32#32
  let c0_i32_326 : BitVec 32 := 0#32
  let v481 : BitVec 1 := Scalar.cmpi .eq c32_i32_325 c0_i32_326
  let c1_i32_327 : BitVec 32 := 1#32
  let v482 : BitVec 32 := Scalar.select v481 c1_i32_327 c32_i32_325
  let v483 : BitVec 32 := Scalar.remsi v480 v482
  let c0_i32_329 : BitVec 32 := 0#32
  let v485 : BitVec 1 := Scalar.cmpi .slt v483 c0_i32_329
  let c0_i32_330 : BitVec 32 := 0#32
  let v486 : BitVec 1 := Scalar.cmpi .slt v482 c0_i32_330
  let v487 : BitVec 1 := Scalar.xori v485 v486
  let c0_i32_328 : BitVec 32 := 0#32
  let v484 : BitVec 1 := Scalar.cmpi .ne v483 c0_i32_328
  let v488 : BitVec 1 := Scalar.andi v487 v484
  let v489 : BitVec 32 := Scalar.addi v483 v482
  let v490 : BitVec 32 := Scalar.select v488 v489 v483
  let c1_i32_345 : BitVec 32 := 1#32
  let v509 : BitVec 32 := Scalar.muli v490 c1_i32_345
  let v510 : BitVec 32 := Scalar.addi c0_i32_346 v509
  v510.toNat
def k0_dev25 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_350 : BitVec 32 := 14#32
  let v519 : BitVec 32 := Scalar.addi v2 c14_i32_350
  let c32_i32_351 : BitVec 32 := 32#32
  let c0_i32_352 : BitVec 32 := 0#32
  let v520 : BitVec 1 := Scalar.cmpi .eq c32_i32_351 c0_i32_352
  let c1_i32_353 : BitVec 32 := 1#32
  let v521 : BitVec 32 := Scalar.select v520 c1_i32_353 c32_i32_351
  let v522 : BitVec 32 := Scalar.remsi v519 v521
  let c0_i32_355 : BitVec 32 := 0#32
  let v524 : BitVec 1 := Scalar.cmpi .slt v522 c0_i32_355
  let c0_i32_356 : BitVec 32 := 0#32
  let v525 : BitVec 1 := Scalar.cmpi .slt v521 c0_i32_356
  let v526 : BitVec 1 := Scalar.xori v524 v525
  let c0_i32_354 : BitVec 32 := 0#32
  let v523 : BitVec 1 := Scalar.cmpi .ne v522 c0_i32_354
  let v527 : BitVec 1 := Scalar.andi v526 v523
  let v528 : BitVec 32 := Scalar.addi v522 v521
  let v529 : BitVec 32 := Scalar.select v527 v528 v522
  let c1_i32_372 : BitVec 32 := 1#32
  let v548 : BitVec 32 := Scalar.muli v529 c1_i32_372
  let v549 : BitVec 32 := Scalar.addi c0_i32_373 v548
  v549.toNat
def k0_dev26 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_377 : BitVec 32 := 16#32
  let v558 : BitVec 32 := Scalar.addi v2 c16_i32_377
  let c32_i32_378 : BitVec 32 := 32#32
  let c0_i32_379 : BitVec 32 := 0#32
  let v559 : BitVec 1 := Scalar.cmpi .eq c32_i32_378 c0_i32_379
  let c1_i32_380 : BitVec 32 := 1#32
  let v560 : BitVec 32 := Scalar.select v559 c1_i32_380 c32_i32_378
  let v561 : BitVec 32 := Scalar.remsi v558 v560
  let c0_i32_382 : BitVec 32 := 0#32
  let v563 : BitVec 1 := Scalar.cmpi .slt v561 c0_i32_382
  let c0_i32_383 : BitVec 32 := 0#32
  let v564 : BitVec 1 := Scalar.cmpi .slt v560 c0_i32_383
  let v565 : BitVec 1 := Scalar.xori v563 v564
  let c0_i32_381 : BitVec 32 := 0#32
  let v562 : BitVec 1 := Scalar.cmpi .ne v561 c0_i32_381
  let v566 : BitVec 1 := Scalar.andi v565 v562
  let v567 : BitVec 32 := Scalar.addi v561 v560
  let v568 : BitVec 32 := Scalar.select v566 v567 v561
  let c1_i32_398 : BitVec 32 := 1#32
  let v587 : BitVec 32 := Scalar.muli v568 c1_i32_398
  let v588 : BitVec 32 := Scalar.addi c0_i32_399 v587
  v588.toNat
def k0_dev27 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_403 : BitVec 32 := 18#32
  let v597 : BitVec 32 := Scalar.addi v2 c18_i32_403
  let c32_i32_404 : BitVec 32 := 32#32
  let c0_i32_405 : BitVec 32 := 0#32
  let v598 : BitVec 1 := Scalar.cmpi .eq c32_i32_404 c0_i32_405
  let c1_i32_406 : BitVec 32 := 1#32
  let v599 : BitVec 32 := Scalar.select v598 c1_i32_406 c32_i32_404
  let v600 : BitVec 32 := Scalar.remsi v597 v599
  let c0_i32_408 : BitVec 32 := 0#32
  let v602 : BitVec 1 := Scalar.cmpi .slt v600 c0_i32_408
  let c0_i32_409 : BitVec 32 := 0#32
  let v603 : BitVec 1 := Scalar.cmpi .slt v599 c0_i32_409
  let v604 : BitVec 1 := Scalar.xori v602 v603
  let c0_i32_407 : BitVec 32 := 0#32
  let v601 : BitVec 1 := Scalar.cmpi .ne v600 c0_i32_407
  let v605 : BitVec 1 := Scalar.andi v604 v601
  let v606 : BitVec 32 := Scalar.addi v600 v599
  let v607 : BitVec 32 := Scalar.select v605 v606 v600
  let c1_i32_425 : BitVec 32 := 1#32
  let v626 : BitVec 32 := Scalar.muli v607 c1_i32_425
  let v627 : BitVec 32 := Scalar.addi c0_i32_426 v626
  v627.toNat
def k0_dev28 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_430 : BitVec 32 := 20#32
  let v636 : BitVec 32 := Scalar.addi v2 c20_i32_430
  let c32_i32_431 : BitVec 32 := 32#32
  let c0_i32_432 : BitVec 32 := 0#32
  let v637 : BitVec 1 := Scalar.cmpi .eq c32_i32_431 c0_i32_432
  let c1_i32_433 : BitVec 32 := 1#32
  let v638 : BitVec 32 := Scalar.select v637 c1_i32_433 c32_i32_431
  let v639 : BitVec 32 := Scalar.remsi v636 v638
  let c0_i32_435 : BitVec 32 := 0#32
  let v641 : BitVec 1 := Scalar.cmpi .slt v639 c0_i32_435
  let c0_i32_436 : BitVec 32 := 0#32
  let v642 : BitVec 1 := Scalar.cmpi .slt v638 c0_i32_436
  let v643 : BitVec 1 := Scalar.xori v641 v642
  let c0_i32_434 : BitVec 32 := 0#32
  let v640 : BitVec 1 := Scalar.cmpi .ne v639 c0_i32_434
  let v644 : BitVec 1 := Scalar.andi v643 v640
  let v645 : BitVec 32 := Scalar.addi v639 v638
  let v646 : BitVec 32 := Scalar.select v644 v645 v639
  let c1_i32_451 : BitVec 32 := 1#32
  let v665 : BitVec 32 := Scalar.muli v646 c1_i32_451
  let v666 : BitVec 32 := Scalar.addi c0_i32_452 v665
  v666.toNat
def k0_dev29 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_456 : BitVec 32 := 22#32
  let v675 : BitVec 32 := Scalar.addi v2 c22_i32_456
  let c32_i32_457 : BitVec 32 := 32#32
  let c0_i32_458 : BitVec 32 := 0#32
  let v676 : BitVec 1 := Scalar.cmpi .eq c32_i32_457 c0_i32_458
  let c1_i32_459 : BitVec 32 := 1#32
  let v677 : BitVec 32 := Scalar.select v676 c1_i32_459 c32_i32_457
  let v678 : BitVec 32 := Scalar.remsi v675 v677
  let c0_i32_461 : BitVec 32 := 0#32
  let v680 : BitVec 1 := Scalar.cmpi .slt v678 c0_i32_461
  let c0_i32_462 : BitVec 32 := 0#32
  let v681 : BitVec 1 := Scalar.cmpi .slt v677 c0_i32_462
  let v682 : BitVec 1 := Scalar.xori v680 v681
  let c0_i32_460 : BitVec 32 := 0#32
  let v679 : BitVec 1 := Scalar.cmpi .ne v678 c0_i32_460
  let v683 : BitVec 1 := Scalar.andi v682 v679
  let v684 : BitVec 32 := Scalar.addi v678 v677
  let v685 : BitVec 32 := Scalar.select v683 v684 v678
  let c1_i32_478 : BitVec 32 := 1#32
  let v704 : BitVec 32 := Scalar.muli v685 c1_i32_478
  let v705 : BitVec 32 := Scalar.addi c0_i32_479 v704
  v705.toNat
def k0_dev30 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_483 : BitVec 32 := 24#32
  let v714 : BitVec 32 := Scalar.addi v2 c24_i32_483
  let c32_i32_484 : BitVec 32 := 32#32
  let c0_i32_485 : BitVec 32 := 0#32
  let v715 : BitVec 1 := Scalar.cmpi .eq c32_i32_484 c0_i32_485
  let c1_i32_486 : BitVec 32 := 1#32
  let v716 : BitVec 32 := Scalar.select v715 c1_i32_486 c32_i32_484
  let v717 : BitVec 32 := Scalar.remsi v714 v716
  let c0_i32_488 : BitVec 32 := 0#32
  let v719 : BitVec 1 := Scalar.cmpi .slt v717 c0_i32_488
  let c0_i32_489 : BitVec 32 := 0#32
  let v720 : BitVec 1 := Scalar.cmpi .slt v716 c0_i32_489
  let v721 : BitVec 1 := Scalar.xori v719 v720
  let c0_i32_487 : BitVec 32 := 0#32
  let v718 : BitVec 1 := Scalar.cmpi .ne v717 c0_i32_487
  let v722 : BitVec 1 := Scalar.andi v721 v718
  let v723 : BitVec 32 := Scalar.addi v717 v716
  let v724 : BitVec 32 := Scalar.select v722 v723 v717
  let c1_i32_504 : BitVec 32 := 1#32
  let v743 : BitVec 32 := Scalar.muli v724 c1_i32_504
  let v744 : BitVec 32 := Scalar.addi c0_i32_505 v743
  v744.toNat
def k0_dev31 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_509 : BitVec 32 := 26#32
  let v753 : BitVec 32 := Scalar.addi v2 c26_i32_509
  let c32_i32_510 : BitVec 32 := 32#32
  let c0_i32_511 : BitVec 32 := 0#32
  let v754 : BitVec 1 := Scalar.cmpi .eq c32_i32_510 c0_i32_511
  let c1_i32_512 : BitVec 32 := 1#32
  let v755 : BitVec 32 := Scalar.select v754 c1_i32_512 c32_i32_510
  let v756 : BitVec 32 := Scalar.remsi v753 v755
  let c0_i32_514 : BitVec 32 := 0#32
  let v758 : BitVec 1 := Scalar.cmpi .slt v756 c0_i32_514
  let c0_i32_515 : BitVec 32 := 0#32
  let v759 : BitVec 1 := Scalar.cmpi .slt v755 c0_i32_515
  let v760 : BitVec 1 := Scalar.xori v758 v759
  let c0_i32_513 : BitVec 32 := 0#32
  let v757 : BitVec 1 := Scalar.cmpi .ne v756 c0_i32_513
  let v761 : BitVec 1 := Scalar.andi v760 v757
  let v762 : BitVec 32 := Scalar.addi v756 v755
  let v763 : BitVec 32 := Scalar.select v761 v762 v756
  let c1_i32_531 : BitVec 32 := 1#32
  let v782 : BitVec 32 := Scalar.muli v763 c1_i32_531
  let v783 : BitVec 32 := Scalar.addi c0_i32_532 v782
  v783.toNat
def k0_dev32 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_536 : BitVec 32 := 28#32
  let v792 : BitVec 32 := Scalar.addi v2 c28_i32_536
  let c32_i32_537 : BitVec 32 := 32#32
  let c0_i32_538 : BitVec 32 := 0#32
  let v793 : BitVec 1 := Scalar.cmpi .eq c32_i32_537 c0_i32_538
  let c1_i32_539 : BitVec 32 := 1#32
  let v794 : BitVec 32 := Scalar.select v793 c1_i32_539 c32_i32_537
  let v795 : BitVec 32 := Scalar.remsi v792 v794
  let c0_i32_541 : BitVec 32 := 0#32
  let v797 : BitVec 1 := Scalar.cmpi .slt v795 c0_i32_541
  let c0_i32_542 : BitVec 32 := 0#32
  let v798 : BitVec 1 := Scalar.cmpi .slt v794 c0_i32_542
  let v799 : BitVec 1 := Scalar.xori v797 v798
  let c0_i32_540 : BitVec 32 := 0#32
  let v796 : BitVec 1 := Scalar.cmpi .ne v795 c0_i32_540
  let v800 : BitVec 1 := Scalar.andi v799 v796
  let v801 : BitVec 32 := Scalar.addi v795 v794
  let v802 : BitVec 32 := Scalar.select v800 v801 v795
  let c1_i32_557 : BitVec 32 := 1#32
  let v821 : BitVec 32 := Scalar.muli v802 c1_i32_557
  let v822 : BitVec 32 := Scalar.addi c0_i32_558 v821
  v822.toNat
def k0_dev33 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_562 : BitVec 32 := 30#32
  let v831 : BitVec 32 := Scalar.addi v2 c30_i32_562
  let c32_i32_563 : BitVec 32 := 32#32
  let c0_i32_564 : BitVec 32 := 0#32
  let v832 : BitVec 1 := Scalar.cmpi .eq c32_i32_563 c0_i32_564
  let c1_i32_565 : BitVec 32 := 1#32
  let v833 : BitVec 32 := Scalar.select v832 c1_i32_565 c32_i32_563
  let v834 : BitVec 32 := Scalar.remsi v831 v833
  let c0_i32_567 : BitVec 32 := 0#32
  let v836 : BitVec 1 := Scalar.cmpi .slt v834 c0_i32_567
  let c0_i32_568 : BitVec 32 := 0#32
  let v837 : BitVec 1 := Scalar.cmpi .slt v833 c0_i32_568
  let v838 : BitVec 1 := Scalar.xori v836 v837
  let c0_i32_566 : BitVec 32 := 0#32
  let v835 : BitVec 1 := Scalar.cmpi .ne v834 c0_i32_566
  let v839 : BitVec 1 := Scalar.andi v838 v835
  let v840 : BitVec 32 := Scalar.addi v834 v833
  let v841 : BitVec 32 := Scalar.select v839 v840 v834
  let c1_i32_584 : BitVec 32 := 1#32
  let v860 : BitVec 32 := Scalar.muli v841 c1_i32_584
  let v861 : BitVec 32 := Scalar.addi c0_i32_585 v860
  v861.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v880 : Index := Scalar.indexCast v16
  let c256_597 : Index := 256#32
  ![v880.toNat, 256]
def k0_off6 (d0 : Dev nD) (c2_i32_600 : BitVec 32) : Fin 3 → Nat :=
  let c1_i32_615 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v886 : BitVec 32 := Scalar.addi v2 c2_i32_600
  let c32_i32_601 : BitVec 32 := 32#32
  let c0_i32_602 : BitVec 32 := 0#32
  let v887 : BitVec 1 := Scalar.cmpi .eq c32_i32_601 c0_i32_602
  let c1_i32_603 : BitVec 32 := 1#32
  let v888 : BitVec 32 := Scalar.select v887 c1_i32_603 c32_i32_601
  let v889 : BitVec 32 := Scalar.remsi v886 v888
  let c0_i32_605 : BitVec 32 := 0#32
  let v891 : BitVec 1 := Scalar.cmpi .slt v889 c0_i32_605
  let c0_i32_606 : BitVec 32 := 0#32
  let v892 : BitVec 1 := Scalar.cmpi .slt v888 c0_i32_606
  let v893 : BitVec 1 := Scalar.xori v891 v892
  let c0_i32_604 : BitVec 32 := 0#32
  let v890 : BitVec 1 := Scalar.cmpi .ne v889 c0_i32_604
  let v894 : BitVec 1 := Scalar.andi v893 v890
  let v895 : BitVec 32 := Scalar.addi v889 v888
  let v896 : BitVec 32 := Scalar.select v894 v895 v889
  let c0_i32_608 : BitVec 32 := 0#32
  let v898 : BitVec 1 := Scalar.cmpi .sgt v896 c0_i32_608
  let v899 : BitVec 32 := Scalar.extui v898
  let c0_i32_609 : BitVec 32 := 0#32
  let v900 : BitVec 1 := Scalar.cmpi .slt v896 c0_i32_609
  let v901 : BitVec 32 := Scalar.extui v900
  let v902 : BitVec 32 := Scalar.subi v899 v901
  let c2_i32_607 : BitVec 32 := 2#32
  let c0_i32_610 : BitVec 32 := 0#32
  let v903 : BitVec 1 := Scalar.cmpi .sgt c2_i32_607 c0_i32_610
  let v904 : BitVec 32 := Scalar.extui v903
  let c0_i32_611 : BitVec 32 := 0#32
  let v905 : BitVec 1 := Scalar.cmpi .slt c2_i32_607 c0_i32_611
  let v906 : BitVec 32 := Scalar.extui v905
  let v907 : BitVec 32 := Scalar.subi v904 v906
  let v908 : BitVec 1 := Scalar.cmpi .ne v902 v907
  let v909 : BitVec 32 := Scalar.remsi v896 c2_i32_607
  let c0_i32_612 : BitVec 32 := 0#32
  let v910 : BitVec 1 := Scalar.cmpi .ne v909 c0_i32_612
  let v911 : BitVec 1 := Scalar.andi v908 v910
  let v897 : BitVec 32 := Scalar.divsi v896 c2_i32_607
  let c1_i32_613 : BitVec 32 := 1#32
  let v912 : BitVec 32 := Scalar.subi v897 c1_i32_613
  let v913 : BitVec 32 := Scalar.select v911 v912 v897
  let c32_i32_614 : BitVec 32 := 32#32
  let v914 : BitVec 32 := Scalar.muli v913 c32_i32_614
  let c0_i32_626 : BitVec 32 := 0#32
  ![1, v914.toNat, 0]
def k0_dev34 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_600 : BitVec 32 := 2#32
  let v886 : BitVec 32 := Scalar.addi v2 c2_i32_600
  let c32_i32_601 : BitVec 32 := 32#32
  let c0_i32_602 : BitVec 32 := 0#32
  let v887 : BitVec 1 := Scalar.cmpi .eq c32_i32_601 c0_i32_602
  let c1_i32_603 : BitVec 32 := 1#32
  let v888 : BitVec 32 := Scalar.select v887 c1_i32_603 c32_i32_601
  let v889 : BitVec 32 := Scalar.remsi v886 v888
  let c0_i32_605 : BitVec 32 := 0#32
  let v891 : BitVec 1 := Scalar.cmpi .slt v889 c0_i32_605
  let c0_i32_606 : BitVec 32 := 0#32
  let v892 : BitVec 1 := Scalar.cmpi .slt v888 c0_i32_606
  let v893 : BitVec 1 := Scalar.xori v891 v892
  let c0_i32_604 : BitVec 32 := 0#32
  let v890 : BitVec 1 := Scalar.cmpi .ne v889 c0_i32_604
  let v894 : BitVec 1 := Scalar.andi v893 v890
  let v895 : BitVec 32 := Scalar.addi v889 v888
  let v896 : BitVec 32 := Scalar.select v894 v895 v889
  let c1_i32_622 : BitVec 32 := 1#32
  let v915 : BitVec 32 := Scalar.muli v896 c1_i32_622
  let v916 : BitVec 32 := Scalar.addi c0_i32_623 v915
  v916.toNat
def k0_dev35 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_627 : BitVec 32 := 4#32
  let v925 : BitVec 32 := Scalar.addi v2 c4_i32_627
  let c32_i32_628 : BitVec 32 := 32#32
  let c0_i32_629 : BitVec 32 := 0#32
  let v926 : BitVec 1 := Scalar.cmpi .eq c32_i32_628 c0_i32_629
  let c1_i32_630 : BitVec 32 := 1#32
  let v927 : BitVec 32 := Scalar.select v926 c1_i32_630 c32_i32_628
  let v928 : BitVec 32 := Scalar.remsi v925 v927
  let c0_i32_632 : BitVec 32 := 0#32
  let v930 : BitVec 1 := Scalar.cmpi .slt v928 c0_i32_632
  let c0_i32_633 : BitVec 32 := 0#32
  let v931 : BitVec 1 := Scalar.cmpi .slt v927 c0_i32_633
  let v932 : BitVec 1 := Scalar.xori v930 v931
  let c0_i32_631 : BitVec 32 := 0#32
  let v929 : BitVec 1 := Scalar.cmpi .ne v928 c0_i32_631
  let v933 : BitVec 1 := Scalar.andi v932 v929
  let v934 : BitVec 32 := Scalar.addi v928 v927
  let v935 : BitVec 32 := Scalar.select v933 v934 v928
  let c1_i32_649 : BitVec 32 := 1#32
  let v954 : BitVec 32 := Scalar.muli v935 c1_i32_649
  let v955 : BitVec 32 := Scalar.addi c0_i32_650 v954
  v955.toNat
def k0_dev36 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_654 : BitVec 32 := 6#32
  let v964 : BitVec 32 := Scalar.addi v2 c6_i32_654
  let c32_i32_655 : BitVec 32 := 32#32
  let c0_i32_656 : BitVec 32 := 0#32
  let v965 : BitVec 1 := Scalar.cmpi .eq c32_i32_655 c0_i32_656
  let c1_i32_657 : BitVec 32 := 1#32
  let v966 : BitVec 32 := Scalar.select v965 c1_i32_657 c32_i32_655
  let v967 : BitVec 32 := Scalar.remsi v964 v966
  let c0_i32_659 : BitVec 32 := 0#32
  let v969 : BitVec 1 := Scalar.cmpi .slt v967 c0_i32_659
  let c0_i32_660 : BitVec 32 := 0#32
  let v970 : BitVec 1 := Scalar.cmpi .slt v966 c0_i32_660
  let v971 : BitVec 1 := Scalar.xori v969 v970
  let c0_i32_658 : BitVec 32 := 0#32
  let v968 : BitVec 1 := Scalar.cmpi .ne v967 c0_i32_658
  let v972 : BitVec 1 := Scalar.andi v971 v968
  let v973 : BitVec 32 := Scalar.addi v967 v966
  let v974 : BitVec 32 := Scalar.select v972 v973 v967
  let c1_i32_676 : BitVec 32 := 1#32
  let v993 : BitVec 32 := Scalar.muli v974 c1_i32_676
  let v994 : BitVec 32 := Scalar.addi c0_i32_677 v993
  v994.toNat
def k0_dev37 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_681 : BitVec 32 := 8#32
  let v1003 : BitVec 32 := Scalar.addi v2 c8_i32_681
  let c32_i32_682 : BitVec 32 := 32#32
  let c0_i32_683 : BitVec 32 := 0#32
  let v1004 : BitVec 1 := Scalar.cmpi .eq c32_i32_682 c0_i32_683
  let c1_i32_684 : BitVec 32 := 1#32
  let v1005 : BitVec 32 := Scalar.select v1004 c1_i32_684 c32_i32_682
  let v1006 : BitVec 32 := Scalar.remsi v1003 v1005
  let c0_i32_686 : BitVec 32 := 0#32
  let v1008 : BitVec 1 := Scalar.cmpi .slt v1006 c0_i32_686
  let c0_i32_687 : BitVec 32 := 0#32
  let v1009 : BitVec 1 := Scalar.cmpi .slt v1005 c0_i32_687
  let v1010 : BitVec 1 := Scalar.xori v1008 v1009
  let c0_i32_685 : BitVec 32 := 0#32
  let v1007 : BitVec 1 := Scalar.cmpi .ne v1006 c0_i32_685
  let v1011 : BitVec 1 := Scalar.andi v1010 v1007
  let v1012 : BitVec 32 := Scalar.addi v1006 v1005
  let v1013 : BitVec 32 := Scalar.select v1011 v1012 v1006
  let c1_i32_703 : BitVec 32 := 1#32
  let v1032 : BitVec 32 := Scalar.muli v1013 c1_i32_703
  let v1033 : BitVec 32 := Scalar.addi c0_i32_704 v1032
  v1033.toNat
def k0_dev38 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_708 : BitVec 32 := 10#32
  let v1042 : BitVec 32 := Scalar.addi v2 c10_i32_708
  let c32_i32_709 : BitVec 32 := 32#32
  let c0_i32_710 : BitVec 32 := 0#32
  let v1043 : BitVec 1 := Scalar.cmpi .eq c32_i32_709 c0_i32_710
  let c1_i32_711 : BitVec 32 := 1#32
  let v1044 : BitVec 32 := Scalar.select v1043 c1_i32_711 c32_i32_709
  let v1045 : BitVec 32 := Scalar.remsi v1042 v1044
  let c0_i32_713 : BitVec 32 := 0#32
  let v1047 : BitVec 1 := Scalar.cmpi .slt v1045 c0_i32_713
  let c0_i32_714 : BitVec 32 := 0#32
  let v1048 : BitVec 1 := Scalar.cmpi .slt v1044 c0_i32_714
  let v1049 : BitVec 1 := Scalar.xori v1047 v1048
  let c0_i32_712 : BitVec 32 := 0#32
  let v1046 : BitVec 1 := Scalar.cmpi .ne v1045 c0_i32_712
  let v1050 : BitVec 1 := Scalar.andi v1049 v1046
  let v1051 : BitVec 32 := Scalar.addi v1045 v1044
  let v1052 : BitVec 32 := Scalar.select v1050 v1051 v1045
  let c1_i32_730 : BitVec 32 := 1#32
  let v1071 : BitVec 32 := Scalar.muli v1052 c1_i32_730
  let v1072 : BitVec 32 := Scalar.addi c0_i32_731 v1071
  v1072.toNat
def k0_dev39 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_735 : BitVec 32 := 12#32
  let v1081 : BitVec 32 := Scalar.addi v2 c12_i32_735
  let c32_i32_736 : BitVec 32 := 32#32
  let c0_i32_737 : BitVec 32 := 0#32
  let v1082 : BitVec 1 := Scalar.cmpi .eq c32_i32_736 c0_i32_737
  let c1_i32_738 : BitVec 32 := 1#32
  let v1083 : BitVec 32 := Scalar.select v1082 c1_i32_738 c32_i32_736
  let v1084 : BitVec 32 := Scalar.remsi v1081 v1083
  let c0_i32_740 : BitVec 32 := 0#32
  let v1086 : BitVec 1 := Scalar.cmpi .slt v1084 c0_i32_740
  let c0_i32_741 : BitVec 32 := 0#32
  let v1087 : BitVec 1 := Scalar.cmpi .slt v1083 c0_i32_741
  let v1088 : BitVec 1 := Scalar.xori v1086 v1087
  let c0_i32_739 : BitVec 32 := 0#32
  let v1085 : BitVec 1 := Scalar.cmpi .ne v1084 c0_i32_739
  let v1089 : BitVec 1 := Scalar.andi v1088 v1085
  let v1090 : BitVec 32 := Scalar.addi v1084 v1083
  let v1091 : BitVec 32 := Scalar.select v1089 v1090 v1084
  let c1_i32_757 : BitVec 32 := 1#32
  let v1110 : BitVec 32 := Scalar.muli v1091 c1_i32_757
  let v1111 : BitVec 32 := Scalar.addi c0_i32_758 v1110
  v1111.toNat
def k0_dev40 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_762 : BitVec 32 := 14#32
  let v1120 : BitVec 32 := Scalar.addi v2 c14_i32_762
  let c32_i32_763 : BitVec 32 := 32#32
  let c0_i32_764 : BitVec 32 := 0#32
  let v1121 : BitVec 1 := Scalar.cmpi .eq c32_i32_763 c0_i32_764
  let c1_i32_765 : BitVec 32 := 1#32
  let v1122 : BitVec 32 := Scalar.select v1121 c1_i32_765 c32_i32_763
  let v1123 : BitVec 32 := Scalar.remsi v1120 v1122
  let c0_i32_767 : BitVec 32 := 0#32
  let v1125 : BitVec 1 := Scalar.cmpi .slt v1123 c0_i32_767
  let c0_i32_768 : BitVec 32 := 0#32
  let v1126 : BitVec 1 := Scalar.cmpi .slt v1122 c0_i32_768
  let v1127 : BitVec 1 := Scalar.xori v1125 v1126
  let c0_i32_766 : BitVec 32 := 0#32
  let v1124 : BitVec 1 := Scalar.cmpi .ne v1123 c0_i32_766
  let v1128 : BitVec 1 := Scalar.andi v1127 v1124
  let v1129 : BitVec 32 := Scalar.addi v1123 v1122
  let v1130 : BitVec 32 := Scalar.select v1128 v1129 v1123
  let c1_i32_784 : BitVec 32 := 1#32
  let v1149 : BitVec 32 := Scalar.muli v1130 c1_i32_784
  let v1150 : BitVec 32 := Scalar.addi c0_i32_785 v1149
  v1150.toNat
def k0_dev41 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_789 : BitVec 32 := 16#32
  let v1159 : BitVec 32 := Scalar.addi v2 c16_i32_789
  let c32_i32_790 : BitVec 32 := 32#32
  let c0_i32_791 : BitVec 32 := 0#32
  let v1160 : BitVec 1 := Scalar.cmpi .eq c32_i32_790 c0_i32_791
  let c1_i32_792 : BitVec 32 := 1#32
  let v1161 : BitVec 32 := Scalar.select v1160 c1_i32_792 c32_i32_790
  let v1162 : BitVec 32 := Scalar.remsi v1159 v1161
  let c0_i32_794 : BitVec 32 := 0#32
  let v1164 : BitVec 1 := Scalar.cmpi .slt v1162 c0_i32_794
  let c0_i32_795 : BitVec 32 := 0#32
  let v1165 : BitVec 1 := Scalar.cmpi .slt v1161 c0_i32_795
  let v1166 : BitVec 1 := Scalar.xori v1164 v1165
  let c0_i32_793 : BitVec 32 := 0#32
  let v1163 : BitVec 1 := Scalar.cmpi .ne v1162 c0_i32_793
  let v1167 : BitVec 1 := Scalar.andi v1166 v1163
  let v1168 : BitVec 32 := Scalar.addi v1162 v1161
  let v1169 : BitVec 32 := Scalar.select v1167 v1168 v1162
  let c1_i32_811 : BitVec 32 := 1#32
  let v1188 : BitVec 32 := Scalar.muli v1169 c1_i32_811
  let v1189 : BitVec 32 := Scalar.addi c0_i32_812 v1188
  v1189.toNat
def k0_dev42 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_816 : BitVec 32 := 18#32
  let v1198 : BitVec 32 := Scalar.addi v2 c18_i32_816
  let c32_i32_817 : BitVec 32 := 32#32
  let c0_i32_818 : BitVec 32 := 0#32
  let v1199 : BitVec 1 := Scalar.cmpi .eq c32_i32_817 c0_i32_818
  let c1_i32_819 : BitVec 32 := 1#32
  let v1200 : BitVec 32 := Scalar.select v1199 c1_i32_819 c32_i32_817
  let v1201 : BitVec 32 := Scalar.remsi v1198 v1200
  let c0_i32_821 : BitVec 32 := 0#32
  let v1203 : BitVec 1 := Scalar.cmpi .slt v1201 c0_i32_821
  let c0_i32_822 : BitVec 32 := 0#32
  let v1204 : BitVec 1 := Scalar.cmpi .slt v1200 c0_i32_822
  let v1205 : BitVec 1 := Scalar.xori v1203 v1204
  let c0_i32_820 : BitVec 32 := 0#32
  let v1202 : BitVec 1 := Scalar.cmpi .ne v1201 c0_i32_820
  let v1206 : BitVec 1 := Scalar.andi v1205 v1202
  let v1207 : BitVec 32 := Scalar.addi v1201 v1200
  let v1208 : BitVec 32 := Scalar.select v1206 v1207 v1201
  let c1_i32_838 : BitVec 32 := 1#32
  let v1227 : BitVec 32 := Scalar.muli v1208 c1_i32_838
  let v1228 : BitVec 32 := Scalar.addi c0_i32_839 v1227
  v1228.toNat
def k0_dev43 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_843 : BitVec 32 := 20#32
  let v1237 : BitVec 32 := Scalar.addi v2 c20_i32_843
  let c32_i32_844 : BitVec 32 := 32#32
  let c0_i32_845 : BitVec 32 := 0#32
  let v1238 : BitVec 1 := Scalar.cmpi .eq c32_i32_844 c0_i32_845
  let c1_i32_846 : BitVec 32 := 1#32
  let v1239 : BitVec 32 := Scalar.select v1238 c1_i32_846 c32_i32_844
  let v1240 : BitVec 32 := Scalar.remsi v1237 v1239
  let c0_i32_848 : BitVec 32 := 0#32
  let v1242 : BitVec 1 := Scalar.cmpi .slt v1240 c0_i32_848
  let c0_i32_849 : BitVec 32 := 0#32
  let v1243 : BitVec 1 := Scalar.cmpi .slt v1239 c0_i32_849
  let v1244 : BitVec 1 := Scalar.xori v1242 v1243
  let c0_i32_847 : BitVec 32 := 0#32
  let v1241 : BitVec 1 := Scalar.cmpi .ne v1240 c0_i32_847
  let v1245 : BitVec 1 := Scalar.andi v1244 v1241
  let v1246 : BitVec 32 := Scalar.addi v1240 v1239
  let v1247 : BitVec 32 := Scalar.select v1245 v1246 v1240
  let c1_i32_865 : BitVec 32 := 1#32
  let v1266 : BitVec 32 := Scalar.muli v1247 c1_i32_865
  let v1267 : BitVec 32 := Scalar.addi c0_i32_866 v1266
  v1267.toNat
def k0_dev44 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_870 : BitVec 32 := 22#32
  let v1276 : BitVec 32 := Scalar.addi v2 c22_i32_870
  let c32_i32_871 : BitVec 32 := 32#32
  let c0_i32_872 : BitVec 32 := 0#32
  let v1277 : BitVec 1 := Scalar.cmpi .eq c32_i32_871 c0_i32_872
  let c1_i32_873 : BitVec 32 := 1#32
  let v1278 : BitVec 32 := Scalar.select v1277 c1_i32_873 c32_i32_871
  let v1279 : BitVec 32 := Scalar.remsi v1276 v1278
  let c0_i32_875 : BitVec 32 := 0#32
  let v1281 : BitVec 1 := Scalar.cmpi .slt v1279 c0_i32_875
  let c0_i32_876 : BitVec 32 := 0#32
  let v1282 : BitVec 1 := Scalar.cmpi .slt v1278 c0_i32_876
  let v1283 : BitVec 1 := Scalar.xori v1281 v1282
  let c0_i32_874 : BitVec 32 := 0#32
  let v1280 : BitVec 1 := Scalar.cmpi .ne v1279 c0_i32_874
  let v1284 : BitVec 1 := Scalar.andi v1283 v1280
  let v1285 : BitVec 32 := Scalar.addi v1279 v1278
  let v1286 : BitVec 32 := Scalar.select v1284 v1285 v1279
  let c1_i32_892 : BitVec 32 := 1#32
  let v1305 : BitVec 32 := Scalar.muli v1286 c1_i32_892
  let v1306 : BitVec 32 := Scalar.addi c0_i32_893 v1305
  v1306.toNat
def k0_dev45 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_897 : BitVec 32 := 24#32
  let v1315 : BitVec 32 := Scalar.addi v2 c24_i32_897
  let c32_i32_898 : BitVec 32 := 32#32
  let c0_i32_899 : BitVec 32 := 0#32
  let v1316 : BitVec 1 := Scalar.cmpi .eq c32_i32_898 c0_i32_899
  let c1_i32_900 : BitVec 32 := 1#32
  let v1317 : BitVec 32 := Scalar.select v1316 c1_i32_900 c32_i32_898
  let v1318 : BitVec 32 := Scalar.remsi v1315 v1317
  let c0_i32_902 : BitVec 32 := 0#32
  let v1320 : BitVec 1 := Scalar.cmpi .slt v1318 c0_i32_902
  let c0_i32_903 : BitVec 32 := 0#32
  let v1321 : BitVec 1 := Scalar.cmpi .slt v1317 c0_i32_903
  let v1322 : BitVec 1 := Scalar.xori v1320 v1321
  let c0_i32_901 : BitVec 32 := 0#32
  let v1319 : BitVec 1 := Scalar.cmpi .ne v1318 c0_i32_901
  let v1323 : BitVec 1 := Scalar.andi v1322 v1319
  let v1324 : BitVec 32 := Scalar.addi v1318 v1317
  let v1325 : BitVec 32 := Scalar.select v1323 v1324 v1318
  let c1_i32_919 : BitVec 32 := 1#32
  let v1344 : BitVec 32 := Scalar.muli v1325 c1_i32_919
  let v1345 : BitVec 32 := Scalar.addi c0_i32_920 v1344
  v1345.toNat
def k0_dev46 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_924 : BitVec 32 := 26#32
  let v1354 : BitVec 32 := Scalar.addi v2 c26_i32_924
  let c32_i32_925 : BitVec 32 := 32#32
  let c0_i32_926 : BitVec 32 := 0#32
  let v1355 : BitVec 1 := Scalar.cmpi .eq c32_i32_925 c0_i32_926
  let c1_i32_927 : BitVec 32 := 1#32
  let v1356 : BitVec 32 := Scalar.select v1355 c1_i32_927 c32_i32_925
  let v1357 : BitVec 32 := Scalar.remsi v1354 v1356
  let c0_i32_929 : BitVec 32 := 0#32
  let v1359 : BitVec 1 := Scalar.cmpi .slt v1357 c0_i32_929
  let c0_i32_930 : BitVec 32 := 0#32
  let v1360 : BitVec 1 := Scalar.cmpi .slt v1356 c0_i32_930
  let v1361 : BitVec 1 := Scalar.xori v1359 v1360
  let c0_i32_928 : BitVec 32 := 0#32
  let v1358 : BitVec 1 := Scalar.cmpi .ne v1357 c0_i32_928
  let v1362 : BitVec 1 := Scalar.andi v1361 v1358
  let v1363 : BitVec 32 := Scalar.addi v1357 v1356
  let v1364 : BitVec 32 := Scalar.select v1362 v1363 v1357
  let c1_i32_946 : BitVec 32 := 1#32
  let v1383 : BitVec 32 := Scalar.muli v1364 c1_i32_946
  let v1384 : BitVec 32 := Scalar.addi c0_i32_947 v1383
  v1384.toNat
def k0_dev47 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_951 : BitVec 32 := 28#32
  let v1393 : BitVec 32 := Scalar.addi v2 c28_i32_951
  let c32_i32_952 : BitVec 32 := 32#32
  let c0_i32_953 : BitVec 32 := 0#32
  let v1394 : BitVec 1 := Scalar.cmpi .eq c32_i32_952 c0_i32_953
  let c1_i32_954 : BitVec 32 := 1#32
  let v1395 : BitVec 32 := Scalar.select v1394 c1_i32_954 c32_i32_952
  let v1396 : BitVec 32 := Scalar.remsi v1393 v1395
  let c0_i32_956 : BitVec 32 := 0#32
  let v1398 : BitVec 1 := Scalar.cmpi .slt v1396 c0_i32_956
  let c0_i32_957 : BitVec 32 := 0#32
  let v1399 : BitVec 1 := Scalar.cmpi .slt v1395 c0_i32_957
  let v1400 : BitVec 1 := Scalar.xori v1398 v1399
  let c0_i32_955 : BitVec 32 := 0#32
  let v1397 : BitVec 1 := Scalar.cmpi .ne v1396 c0_i32_955
  let v1401 : BitVec 1 := Scalar.andi v1400 v1397
  let v1402 : BitVec 32 := Scalar.addi v1396 v1395
  let v1403 : BitVec 32 := Scalar.select v1401 v1402 v1396
  let c1_i32_973 : BitVec 32 := 1#32
  let v1422 : BitVec 32 := Scalar.muli v1403 c1_i32_973
  let v1423 : BitVec 32 := Scalar.addi c0_i32_974 v1422
  v1423.toNat
def k0_dev48 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_978 : BitVec 32 := 30#32
  let v1432 : BitVec 32 := Scalar.addi v2 c30_i32_978
  let c32_i32_979 : BitVec 32 := 32#32
  let c0_i32_980 : BitVec 32 := 0#32
  let v1433 : BitVec 1 := Scalar.cmpi .eq c32_i32_979 c0_i32_980
  let c1_i32_981 : BitVec 32 := 1#32
  let v1434 : BitVec 32 := Scalar.select v1433 c1_i32_981 c32_i32_979
  let v1435 : BitVec 32 := Scalar.remsi v1432 v1434
  let c0_i32_983 : BitVec 32 := 0#32
  let v1437 : BitVec 1 := Scalar.cmpi .slt v1435 c0_i32_983
  let c0_i32_984 : BitVec 32 := 0#32
  let v1438 : BitVec 1 := Scalar.cmpi .slt v1434 c0_i32_984
  let v1439 : BitVec 1 := Scalar.xori v1437 v1438
  let c0_i32_982 : BitVec 32 := 0#32
  let v1436 : BitVec 1 := Scalar.cmpi .ne v1435 c0_i32_982
  let v1440 : BitVec 1 := Scalar.andi v1439 v1436
  let v1441 : BitVec 32 := Scalar.addi v1435 v1434
  let v1442 : BitVec 32 := Scalar.select v1440 v1441 v1435
  let c1_i32_1000 : BitVec 32 := 1#32
  let v1461 : BitVec 32 := Scalar.muli v1442 c1_i32_1000
  let v1462 : BitVec 32 := Scalar.addi c0_i32_1001 v1461
  v1462.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let c0_i32_9 : BitVec 32 := 0#32
  let v20 : BitVec 1 := Scalar.cmpi .sgt v2 c0_i32_9
  let v21 : BitVec 32 := Scalar.extui v20
  let c0_i32_10 : BitVec 32 := 0#32
  let v22 : BitVec 1 := Scalar.cmpi .slt v2 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v2 c2_i32_8
  let c0_i32_13 : BitVec 32 := 0#32
  let v32 : BitVec 1 := Scalar.cmpi .ne v31 c0_i32_13
  let v33 : BitVec 1 := Scalar.andi v30 v32
  let v19 : BitVec 32 := Scalar.divsi v2 c2_i32_8
  let c1_i32_14 : BitVec 32 := 1#32
  let v34 : BitVec 32 := Scalar.subi v19 c1_i32_14
  let v35 : BitVec 32 := Scalar.select v33 v34 v19
  let c32_i32_15 : BitVec 32 := 32#32
  let v36 : BitVec 32 := Scalar.muli v35 c32_i32_15
  let v37 : BitVec 32 := Scalar.addi v16 v36
  let v1591 : Index := Scalar.indexCast v37
  let c0_1185 : Index := 0#32
  ![v1591.toNat, 0]
def k0_dev49 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1195 : BitVec 32 := 2#32
  let v1605 : BitVec 32 := Scalar.addi v2 c2_i32_1195
  let c32_i32_1196 : BitVec 32 := 32#32
  let c0_i32_1197 : BitVec 32 := 0#32
  let v1606 : BitVec 1 := Scalar.cmpi .eq c32_i32_1196 c0_i32_1197
  let c1_i32_1198 : BitVec 32 := 1#32
  let v1607 : BitVec 32 := Scalar.select v1606 c1_i32_1198 c32_i32_1196
  let v1608 : BitVec 32 := Scalar.remsi v1605 v1607
  let c0_i32_1200 : BitVec 32 := 0#32
  let v1610 : BitVec 1 := Scalar.cmpi .slt v1608 c0_i32_1200
  let c0_i32_1201 : BitVec 32 := 0#32
  let v1611 : BitVec 1 := Scalar.cmpi .slt v1607 c0_i32_1201
  let v1612 : BitVec 1 := Scalar.xori v1610 v1611
  let c0_i32_1199 : BitVec 32 := 0#32
  let v1609 : BitVec 1 := Scalar.cmpi .ne v1608 c0_i32_1199
  let v1613 : BitVec 1 := Scalar.andi v1612 v1609
  let v1614 : BitVec 32 := Scalar.addi v1608 v1607
  let v1615 : BitVec 32 := Scalar.select v1613 v1614 v1608
  let c1_i32_1209 : BitVec 32 := 1#32
  let v1616 : BitVec 32 := Scalar.muli v1615 c1_i32_1209
  let v1617 : BitVec 32 := Scalar.addi c0_i32_1210 v1616
  v1617.toNat
def k0_dev50 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1215 : BitVec 32 := 4#32
  let v1626 : BitVec 32 := Scalar.addi v2 c4_i32_1215
  let c32_i32_1216 : BitVec 32 := 32#32
  let c0_i32_1217 : BitVec 32 := 0#32
  let v1627 : BitVec 1 := Scalar.cmpi .eq c32_i32_1216 c0_i32_1217
  let c1_i32_1218 : BitVec 32 := 1#32
  let v1628 : BitVec 32 := Scalar.select v1627 c1_i32_1218 c32_i32_1216
  let v1629 : BitVec 32 := Scalar.remsi v1626 v1628
  let c0_i32_1220 : BitVec 32 := 0#32
  let v1631 : BitVec 1 := Scalar.cmpi .slt v1629 c0_i32_1220
  let c0_i32_1221 : BitVec 32 := 0#32
  let v1632 : BitVec 1 := Scalar.cmpi .slt v1628 c0_i32_1221
  let v1633 : BitVec 1 := Scalar.xori v1631 v1632
  let c0_i32_1219 : BitVec 32 := 0#32
  let v1630 : BitVec 1 := Scalar.cmpi .ne v1629 c0_i32_1219
  let v1634 : BitVec 1 := Scalar.andi v1633 v1630
  let v1635 : BitVec 32 := Scalar.addi v1629 v1628
  let v1636 : BitVec 32 := Scalar.select v1634 v1635 v1629
  let c1_i32_1229 : BitVec 32 := 1#32
  let v1637 : BitVec 32 := Scalar.muli v1636 c1_i32_1229
  let v1638 : BitVec 32 := Scalar.addi c0_i32_1230 v1637
  v1638.toNat
def k0_dev51 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1235 : BitVec 32 := 6#32
  let v1647 : BitVec 32 := Scalar.addi v2 c6_i32_1235
  let c32_i32_1236 : BitVec 32 := 32#32
  let c0_i32_1237 : BitVec 32 := 0#32
  let v1648 : BitVec 1 := Scalar.cmpi .eq c32_i32_1236 c0_i32_1237
  let c1_i32_1238 : BitVec 32 := 1#32
  let v1649 : BitVec 32 := Scalar.select v1648 c1_i32_1238 c32_i32_1236
  let v1650 : BitVec 32 := Scalar.remsi v1647 v1649
  let c0_i32_1240 : BitVec 32 := 0#32
  let v1652 : BitVec 1 := Scalar.cmpi .slt v1650 c0_i32_1240
  let c0_i32_1241 : BitVec 32 := 0#32
  let v1653 : BitVec 1 := Scalar.cmpi .slt v1649 c0_i32_1241
  let v1654 : BitVec 1 := Scalar.xori v1652 v1653
  let c0_i32_1239 : BitVec 32 := 0#32
  let v1651 : BitVec 1 := Scalar.cmpi .ne v1650 c0_i32_1239
  let v1655 : BitVec 1 := Scalar.andi v1654 v1651
  let v1656 : BitVec 32 := Scalar.addi v1650 v1649
  let v1657 : BitVec 32 := Scalar.select v1655 v1656 v1650
  let c1_i32_1249 : BitVec 32 := 1#32
  let v1658 : BitVec 32 := Scalar.muli v1657 c1_i32_1249
  let v1659 : BitVec 32 := Scalar.addi c0_i32_1250 v1658
  v1659.toNat
def k0_dev52 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1255 : BitVec 32 := 8#32
  let v1668 : BitVec 32 := Scalar.addi v2 c8_i32_1255
  let c32_i32_1256 : BitVec 32 := 32#32
  let c0_i32_1257 : BitVec 32 := 0#32
  let v1669 : BitVec 1 := Scalar.cmpi .eq c32_i32_1256 c0_i32_1257
  let c1_i32_1258 : BitVec 32 := 1#32
  let v1670 : BitVec 32 := Scalar.select v1669 c1_i32_1258 c32_i32_1256
  let v1671 : BitVec 32 := Scalar.remsi v1668 v1670
  let c0_i32_1260 : BitVec 32 := 0#32
  let v1673 : BitVec 1 := Scalar.cmpi .slt v1671 c0_i32_1260
  let c0_i32_1261 : BitVec 32 := 0#32
  let v1674 : BitVec 1 := Scalar.cmpi .slt v1670 c0_i32_1261
  let v1675 : BitVec 1 := Scalar.xori v1673 v1674
  let c0_i32_1259 : BitVec 32 := 0#32
  let v1672 : BitVec 1 := Scalar.cmpi .ne v1671 c0_i32_1259
  let v1676 : BitVec 1 := Scalar.andi v1675 v1672
  let v1677 : BitVec 32 := Scalar.addi v1671 v1670
  let v1678 : BitVec 32 := Scalar.select v1676 v1677 v1671
  let c1_i32_1269 : BitVec 32 := 1#32
  let v1679 : BitVec 32 := Scalar.muli v1678 c1_i32_1269
  let v1680 : BitVec 32 := Scalar.addi c0_i32_1270 v1679
  v1680.toNat
def k0_dev53 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1275 : BitVec 32 := 10#32
  let v1689 : BitVec 32 := Scalar.addi v2 c10_i32_1275
  let c32_i32_1276 : BitVec 32 := 32#32
  let c0_i32_1277 : BitVec 32 := 0#32
  let v1690 : BitVec 1 := Scalar.cmpi .eq c32_i32_1276 c0_i32_1277
  let c1_i32_1278 : BitVec 32 := 1#32
  let v1691 : BitVec 32 := Scalar.select v1690 c1_i32_1278 c32_i32_1276
  let v1692 : BitVec 32 := Scalar.remsi v1689 v1691
  let c0_i32_1280 : BitVec 32 := 0#32
  let v1694 : BitVec 1 := Scalar.cmpi .slt v1692 c0_i32_1280
  let c0_i32_1281 : BitVec 32 := 0#32
  let v1695 : BitVec 1 := Scalar.cmpi .slt v1691 c0_i32_1281
  let v1696 : BitVec 1 := Scalar.xori v1694 v1695
  let c0_i32_1279 : BitVec 32 := 0#32
  let v1693 : BitVec 1 := Scalar.cmpi .ne v1692 c0_i32_1279
  let v1697 : BitVec 1 := Scalar.andi v1696 v1693
  let v1698 : BitVec 32 := Scalar.addi v1692 v1691
  let v1699 : BitVec 32 := Scalar.select v1697 v1698 v1692
  let c1_i32_1289 : BitVec 32 := 1#32
  let v1700 : BitVec 32 := Scalar.muli v1699 c1_i32_1289
  let v1701 : BitVec 32 := Scalar.addi c0_i32_1290 v1700
  v1701.toNat
def k0_dev54 (d0 : Dev nD) : Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1295 : BitVec 32 := 12#32
  let v1710 : BitVec 32 := Scalar.addi v2 c12_i32_1295
  let c32_i32_1296 : BitVec 32 := 32#32
  let c0_i32_1297 : BitVec 32 := 0#32
  let v1711 : BitVec 1 := Scalar.cmpi .eq c32_i32_1296 c0_i32_1297
  let c1_i32_1298 : BitVec 32 := 1#32
  let v1712 : BitVec 32 := Scalar.select v1711 c1_i32_1298 c32_i32_1296
  let v1713 : BitVec 32 := Scalar.remsi v1710 v1712
  let c0_i32_1300 : BitVec 32 := 0#32
  let v1715 : BitVec 1 := Scalar.cmpi .slt v1713 c0_i32_1300
  let c0_i32_1301 : BitVec 32 := 0#32
  let v1716 : BitVec 1 := Scalar.cmpi .slt v1712 c0_i32_1301
  let v1717 : BitVec 1 := Scalar.xori v1715 v1716
  let c0_i32_1299 : BitVec 32 := 0#32
  let v1714 : BitVec 1 := Scalar.cmpi .ne v1713 c0_i32_1299
  let v1718 : BitVec 1 := Scalar.andi v1717 v1714
  let v1719 : BitVec 32 := Scalar.addi v1713 v1712
  let v1720 : BitVec 32 := Scalar.select v1718 v1719 v1713
  let c1_i32_1309 : BitVec 32 := 1#32
  let v1721 : BitVec 32 := Scalar.muli v1720 c1_i32_1309
  let v1722 : BitVec 32 := Scalar.addi c0_i32_1310 v1721
  v1722.toNat
def k0_dev55 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1315 : BitVec 32 := 14#32
  let v1731 : BitVec 32 := Scalar.addi v2 c14_i32_1315
  let c32_i32_1316 : BitVec 32 := 32#32
  let c0_i32_1317 : BitVec 32 := 0#32
  let v1732 : BitVec 1 := Scalar.cmpi .eq c32_i32_1316 c0_i32_1317
  let c1_i32_1318 : BitVec 32 := 1#32
  let v1733 : BitVec 32 := Scalar.select v1732 c1_i32_1318 c32_i32_1316
  let v1734 : BitVec 32 := Scalar.remsi v1731 v1733
  let c0_i32_1320 : BitVec 32 := 0#32
  let v1736 : BitVec 1 := Scalar.cmpi .slt v1734 c0_i32_1320
  let c0_i32_1321 : BitVec 32 := 0#32
  let v1737 : BitVec 1 := Scalar.cmpi .slt v1733 c0_i32_1321
  let v1738 : BitVec 1 := Scalar.xori v1736 v1737
  let c0_i32_1319 : BitVec 32 := 0#32
  let v1735 : BitVec 1 := Scalar.cmpi .ne v1734 c0_i32_1319
  let v1739 : BitVec 1 := Scalar.andi v1738 v1735
  let v1740 : BitVec 32 := Scalar.addi v1734 v1733
  let v1741 : BitVec 32 := Scalar.select v1739 v1740 v1734
  let c1_i32_1329 : BitVec 32 := 1#32
  let v1742 : BitVec 32 := Scalar.muli v1741 c1_i32_1329
  let v1743 : BitVec 32 := Scalar.addi c0_i32_1330 v1742
  v1743.toNat
def k0_dev56 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1335 : BitVec 32 := 16#32
  let v1752 : BitVec 32 := Scalar.addi v2 c16_i32_1335
  let c32_i32_1336 : BitVec 32 := 32#32
  let c0_i32_1337 : BitVec 32 := 0#32
  let v1753 : BitVec 1 := Scalar.cmpi .eq c32_i32_1336 c0_i32_1337
  let c1_i32_1338 : BitVec 32 := 1#32
  let v1754 : BitVec 32 := Scalar.select v1753 c1_i32_1338 c32_i32_1336
  let v1755 : BitVec 32 := Scalar.remsi v1752 v1754
  let c0_i32_1340 : BitVec 32 := 0#32
  let v1757 : BitVec 1 := Scalar.cmpi .slt v1755 c0_i32_1340
  let c0_i32_1341 : BitVec 32 := 0#32
  let v1758 : BitVec 1 := Scalar.cmpi .slt v1754 c0_i32_1341
  let v1759 : BitVec 1 := Scalar.xori v1757 v1758
  let c0_i32_1339 : BitVec 32 := 0#32
  let v1756 : BitVec 1 := Scalar.cmpi .ne v1755 c0_i32_1339
  let v1760 : BitVec 1 := Scalar.andi v1759 v1756
  let v1761 : BitVec 32 := Scalar.addi v1755 v1754
  let v1762 : BitVec 32 := Scalar.select v1760 v1761 v1755
  let c1_i32_1349 : BitVec 32 := 1#32
  let v1763 : BitVec 32 := Scalar.muli v1762 c1_i32_1349
  let v1764 : BitVec 32 := Scalar.addi c0_i32_1350 v1763
  v1764.toNat
def k0_dev57 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1355 : BitVec 32 := 18#32
  let v1773 : BitVec 32 := Scalar.addi v2 c18_i32_1355
  let c32_i32_1356 : BitVec 32 := 32#32
  let c0_i32_1357 : BitVec 32 := 0#32
  let v1774 : BitVec 1 := Scalar.cmpi .eq c32_i32_1356 c0_i32_1357
  let c1_i32_1358 : BitVec 32 := 1#32
  let v1775 : BitVec 32 := Scalar.select v1774 c1_i32_1358 c32_i32_1356
  let v1776 : BitVec 32 := Scalar.remsi v1773 v1775
  let c0_i32_1360 : BitVec 32 := 0#32
  let v1778 : BitVec 1 := Scalar.cmpi .slt v1776 c0_i32_1360
  let c0_i32_1361 : BitVec 32 := 0#32
  let v1779 : BitVec 1 := Scalar.cmpi .slt v1775 c0_i32_1361
  let v1780 : BitVec 1 := Scalar.xori v1778 v1779
  let c0_i32_1359 : BitVec 32 := 0#32
  let v1777 : BitVec 1 := Scalar.cmpi .ne v1776 c0_i32_1359
  let v1781 : BitVec 1 := Scalar.andi v1780 v1777
  let v1782 : BitVec 32 := Scalar.addi v1776 v1775
  let v1783 : BitVec 32 := Scalar.select v1781 v1782 v1776
  let c1_i32_1369 : BitVec 32 := 1#32
  let v1784 : BitVec 32 := Scalar.muli v1783 c1_i32_1369
  let v1785 : BitVec 32 := Scalar.addi c0_i32_1370 v1784
  v1785.toNat
def k0_dev58 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1375 : BitVec 32 := 20#32
  let v1794 : BitVec 32 := Scalar.addi v2 c20_i32_1375
  let c32_i32_1376 : BitVec 32 := 32#32
  let c0_i32_1377 : BitVec 32 := 0#32
  let v1795 : BitVec 1 := Scalar.cmpi .eq c32_i32_1376 c0_i32_1377
  let c1_i32_1378 : BitVec 32 := 1#32
  let v1796 : BitVec 32 := Scalar.select v1795 c1_i32_1378 c32_i32_1376
  let v1797 : BitVec 32 := Scalar.remsi v1794 v1796
  let c0_i32_1380 : BitVec 32 := 0#32
  let v1799 : BitVec 1 := Scalar.cmpi .slt v1797 c0_i32_1380
  let c0_i32_1381 : BitVec 32 := 0#32
  let v1800 : BitVec 1 := Scalar.cmpi .slt v1796 c0_i32_1381
  let v1801 : BitVec 1 := Scalar.xori v1799 v1800
  let c0_i32_1379 : BitVec 32 := 0#32
  let v1798 : BitVec 1 := Scalar.cmpi .ne v1797 c0_i32_1379
  let v1802 : BitVec 1 := Scalar.andi v1801 v1798
  let v1803 : BitVec 32 := Scalar.addi v1797 v1796
  let v1804 : BitVec 32 := Scalar.select v1802 v1803 v1797
  let c1_i32_1389 : BitVec 32 := 1#32
  let v1805 : BitVec 32 := Scalar.muli v1804 c1_i32_1389
  let v1806 : BitVec 32 := Scalar.addi c0_i32_1390 v1805
  v1806.toNat
def k0_dev59 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1395 : BitVec 32 := 22#32
  let v1815 : BitVec 32 := Scalar.addi v2 c22_i32_1395
  let c32_i32_1396 : BitVec 32 := 32#32
  let c0_i32_1397 : BitVec 32 := 0#32
  let v1816 : BitVec 1 := Scalar.cmpi .eq c32_i32_1396 c0_i32_1397
  let c1_i32_1398 : BitVec 32 := 1#32
  let v1817 : BitVec 32 := Scalar.select v1816 c1_i32_1398 c32_i32_1396
  let v1818 : BitVec 32 := Scalar.remsi v1815 v1817
  let c0_i32_1400 : BitVec 32 := 0#32
  let v1820 : BitVec 1 := Scalar.cmpi .slt v1818 c0_i32_1400
  let c0_i32_1401 : BitVec 32 := 0#32
  let v1821 : BitVec 1 := Scalar.cmpi .slt v1817 c0_i32_1401
  let v1822 : BitVec 1 := Scalar.xori v1820 v1821
  let c0_i32_1399 : BitVec 32 := 0#32
  let v1819 : BitVec 1 := Scalar.cmpi .ne v1818 c0_i32_1399
  let v1823 : BitVec 1 := Scalar.andi v1822 v1819
  let v1824 : BitVec 32 := Scalar.addi v1818 v1817
  let v1825 : BitVec 32 := Scalar.select v1823 v1824 v1818
  let c1_i32_1409 : BitVec 32 := 1#32
  let v1826 : BitVec 32 := Scalar.muli v1825 c1_i32_1409
  let v1827 : BitVec 32 := Scalar.addi c0_i32_1410 v1826
  v1827.toNat
def k0_dev60 (d0 : Dev nD) : Nat :=
  let c0_i32_1430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1415 : BitVec 32 := 24#32
  let v1836 : BitVec 32 := Scalar.addi v2 c24_i32_1415
  let c32_i32_1416 : BitVec 32 := 32#32
  let c0_i32_1417 : BitVec 32 := 0#32
  let v1837 : BitVec 1 := Scalar.cmpi .eq c32_i32_1416 c0_i32_1417
  let c1_i32_1418 : BitVec 32 := 1#32
  let v1838 : BitVec 32 := Scalar.select v1837 c1_i32_1418 c32_i32_1416
  let v1839 : BitVec 32 := Scalar.remsi v1836 v1838
  let c0_i32_1420 : BitVec 32 := 0#32
  let v1841 : BitVec 1 := Scalar.cmpi .slt v1839 c0_i32_1420
  let c0_i32_1421 : BitVec 32 := 0#32
  let v1842 : BitVec 1 := Scalar.cmpi .slt v1838 c0_i32_1421
  let v1843 : BitVec 1 := Scalar.xori v1841 v1842
  let c0_i32_1419 : BitVec 32 := 0#32
  let v1840 : BitVec 1 := Scalar.cmpi .ne v1839 c0_i32_1419
  let v1844 : BitVec 1 := Scalar.andi v1843 v1840
  let v1845 : BitVec 32 := Scalar.addi v1839 v1838
  let v1846 : BitVec 32 := Scalar.select v1844 v1845 v1839
  let c1_i32_1429 : BitVec 32 := 1#32
  let v1847 : BitVec 32 := Scalar.muli v1846 c1_i32_1429
  let v1848 : BitVec 32 := Scalar.addi c0_i32_1430 v1847
  v1848.toNat
def k0_dev61 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1435 : BitVec 32 := 26#32
  let v1857 : BitVec 32 := Scalar.addi v2 c26_i32_1435
  let c32_i32_1436 : BitVec 32 := 32#32
  let c0_i32_1437 : BitVec 32 := 0#32
  let v1858 : BitVec 1 := Scalar.cmpi .eq c32_i32_1436 c0_i32_1437
  let c1_i32_1438 : BitVec 32 := 1#32
  let v1859 : BitVec 32 := Scalar.select v1858 c1_i32_1438 c32_i32_1436
  let v1860 : BitVec 32 := Scalar.remsi v1857 v1859
  let c0_i32_1440 : BitVec 32 := 0#32
  let v1862 : BitVec 1 := Scalar.cmpi .slt v1860 c0_i32_1440
  let c0_i32_1441 : BitVec 32 := 0#32
  let v1863 : BitVec 1 := Scalar.cmpi .slt v1859 c0_i32_1441
  let v1864 : BitVec 1 := Scalar.xori v1862 v1863
  let c0_i32_1439 : BitVec 32 := 0#32
  let v1861 : BitVec 1 := Scalar.cmpi .ne v1860 c0_i32_1439
  let v1865 : BitVec 1 := Scalar.andi v1864 v1861
  let v1866 : BitVec 32 := Scalar.addi v1860 v1859
  let v1867 : BitVec 32 := Scalar.select v1865 v1866 v1860
  let c1_i32_1449 : BitVec 32 := 1#32
  let v1868 : BitVec 32 := Scalar.muli v1867 c1_i32_1449
  let v1869 : BitVec 32 := Scalar.addi c0_i32_1450 v1868
  v1869.toNat
def k0_dev62 (d0 : Dev nD) : Nat :=
  let c0_i32_1470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1455 : BitVec 32 := 28#32
  let v1878 : BitVec 32 := Scalar.addi v2 c28_i32_1455
  let c32_i32_1456 : BitVec 32 := 32#32
  let c0_i32_1457 : BitVec 32 := 0#32
  let v1879 : BitVec 1 := Scalar.cmpi .eq c32_i32_1456 c0_i32_1457
  let c1_i32_1458 : BitVec 32 := 1#32
  let v1880 : BitVec 32 := Scalar.select v1879 c1_i32_1458 c32_i32_1456
  let v1881 : BitVec 32 := Scalar.remsi v1878 v1880
  let c0_i32_1460 : BitVec 32 := 0#32
  let v1883 : BitVec 1 := Scalar.cmpi .slt v1881 c0_i32_1460
  let c0_i32_1461 : BitVec 32 := 0#32
  let v1884 : BitVec 1 := Scalar.cmpi .slt v1880 c0_i32_1461
  let v1885 : BitVec 1 := Scalar.xori v1883 v1884
  let c0_i32_1459 : BitVec 32 := 0#32
  let v1882 : BitVec 1 := Scalar.cmpi .ne v1881 c0_i32_1459
  let v1886 : BitVec 1 := Scalar.andi v1885 v1882
  let v1887 : BitVec 32 := Scalar.addi v1881 v1880
  let v1888 : BitVec 32 := Scalar.select v1886 v1887 v1881
  let c1_i32_1469 : BitVec 32 := 1#32
  let v1889 : BitVec 32 := Scalar.muli v1888 c1_i32_1469
  let v1890 : BitVec 32 := Scalar.addi c0_i32_1470 v1889
  v1890.toNat
def k0_dev63 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1475 : BitVec 32 := 30#32
  let v1899 : BitVec 32 := Scalar.addi v2 c30_i32_1475
  let c32_i32_1476 : BitVec 32 := 32#32
  let c0_i32_1477 : BitVec 32 := 0#32
  let v1900 : BitVec 1 := Scalar.cmpi .eq c32_i32_1476 c0_i32_1477
  let c1_i32_1478 : BitVec 32 := 1#32
  let v1901 : BitVec 32 := Scalar.select v1900 c1_i32_1478 c32_i32_1476
  let v1902 : BitVec 32 := Scalar.remsi v1899 v1901
  let c0_i32_1480 : BitVec 32 := 0#32
  let v1904 : BitVec 1 := Scalar.cmpi .slt v1902 c0_i32_1480
  let c0_i32_1481 : BitVec 32 := 0#32
  let v1905 : BitVec 1 := Scalar.cmpi .slt v1901 c0_i32_1481
  let v1906 : BitVec 1 := Scalar.xori v1904 v1905
  let c0_i32_1479 : BitVec 32 := 0#32
  let v1903 : BitVec 1 := Scalar.cmpi .ne v1902 c0_i32_1479
  let v1907 : BitVec 1 := Scalar.andi v1906 v1903
  let v1908 : BitVec 32 := Scalar.addi v1902 v1901
  let v1909 : BitVec 32 := Scalar.select v1907 v1908 v1902
  let c1_i32_1489 : BitVec 32 := 1#32
  let v1910 : BitVec 32 := Scalar.muli v1909 c1_i32_1489
  let v1911 : BitVec 32 := Scalar.addi c0_i32_1490 v1910
  v1911.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v1930 : Index := Scalar.indexCast v16
  let c512_1503 : Index := 512#32
  ![v1930.toNat, 512]
def k0_off9 (d0 : Dev nD) (c2_i32_1506 : BitVec 32) : Fin 3 → Nat :=
  let c2_i32_1521 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1936 : BitVec 32 := Scalar.addi v2 c2_i32_1506
  let c32_i32_1507 : BitVec 32 := 32#32
  let c0_i32_1508 : BitVec 32 := 0#32
  let v1937 : BitVec 1 := Scalar.cmpi .eq c32_i32_1507 c0_i32_1508
  let c1_i32_1509 : BitVec 32 := 1#32
  let v1938 : BitVec 32 := Scalar.select v1937 c1_i32_1509 c32_i32_1507
  let v1939 : BitVec 32 := Scalar.remsi v1936 v1938
  let c0_i32_1511 : BitVec 32 := 0#32
  let v1941 : BitVec 1 := Scalar.cmpi .slt v1939 c0_i32_1511
  let c0_i32_1512 : BitVec 32 := 0#32
  let v1942 : BitVec 1 := Scalar.cmpi .slt v1938 c0_i32_1512
  let v1943 : BitVec 1 := Scalar.xori v1941 v1942
  let c0_i32_1510 : BitVec 32 := 0#32
  let v1940 : BitVec 1 := Scalar.cmpi .ne v1939 c0_i32_1510
  let v1944 : BitVec 1 := Scalar.andi v1943 v1940
  let v1945 : BitVec 32 := Scalar.addi v1939 v1938
  let v1946 : BitVec 32 := Scalar.select v1944 v1945 v1939
  let c0_i32_1514 : BitVec 32 := 0#32
  let v1948 : BitVec 1 := Scalar.cmpi .sgt v1946 c0_i32_1514
  let v1949 : BitVec 32 := Scalar.extui v1948
  let c0_i32_1515 : BitVec 32 := 0#32
  let v1950 : BitVec 1 := Scalar.cmpi .slt v1946 c0_i32_1515
  let v1951 : BitVec 32 := Scalar.extui v1950
  let v1952 : BitVec 32 := Scalar.subi v1949 v1951
  let c2_i32_1513 : BitVec 32 := 2#32
  let c0_i32_1516 : BitVec 32 := 0#32
  let v1953 : BitVec 1 := Scalar.cmpi .sgt c2_i32_1513 c0_i32_1516
  let v1954 : BitVec 32 := Scalar.extui v1953
  let c0_i32_1517 : BitVec 32 := 0#32
  let v1955 : BitVec 1 := Scalar.cmpi .slt c2_i32_1513 c0_i32_1517
  let v1956 : BitVec 32 := Scalar.extui v1955
  let v1957 : BitVec 32 := Scalar.subi v1954 v1956
  let v1958 : BitVec 1 := Scalar.cmpi .ne v1952 v1957
  let v1959 : BitVec 32 := Scalar.remsi v1946 c2_i32_1513
  let c0_i32_1518 : BitVec 32 := 0#32
  let v1960 : BitVec 1 := Scalar.cmpi .ne v1959 c0_i32_1518
  let v1961 : BitVec 1 := Scalar.andi v1958 v1960
  let v1947 : BitVec 32 := Scalar.divsi v1946 c2_i32_1513
  let c1_i32_1519 : BitVec 32 := 1#32
  let v1962 : BitVec 32 := Scalar.subi v1947 c1_i32_1519
  let v1963 : BitVec 32 := Scalar.select v1961 v1962 v1947
  let c32_i32_1520 : BitVec 32 := 32#32
  let v1964 : BitVec 32 := Scalar.muli v1963 c32_i32_1520
  let c0_i32_1532 : BitVec 32 := 0#32
  ![2, v1964.toNat, 0]
def k0_dev64 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1506 : BitVec 32 := 2#32
  let v1936 : BitVec 32 := Scalar.addi v2 c2_i32_1506
  let c32_i32_1507 : BitVec 32 := 32#32
  let c0_i32_1508 : BitVec 32 := 0#32
  let v1937 : BitVec 1 := Scalar.cmpi .eq c32_i32_1507 c0_i32_1508
  let c1_i32_1509 : BitVec 32 := 1#32
  let v1938 : BitVec 32 := Scalar.select v1937 c1_i32_1509 c32_i32_1507
  let v1939 : BitVec 32 := Scalar.remsi v1936 v1938
  let c0_i32_1511 : BitVec 32 := 0#32
  let v1941 : BitVec 1 := Scalar.cmpi .slt v1939 c0_i32_1511
  let c0_i32_1512 : BitVec 32 := 0#32
  let v1942 : BitVec 1 := Scalar.cmpi .slt v1938 c0_i32_1512
  let v1943 : BitVec 1 := Scalar.xori v1941 v1942
  let c0_i32_1510 : BitVec 32 := 0#32
  let v1940 : BitVec 1 := Scalar.cmpi .ne v1939 c0_i32_1510
  let v1944 : BitVec 1 := Scalar.andi v1943 v1940
  let v1945 : BitVec 32 := Scalar.addi v1939 v1938
  let v1946 : BitVec 32 := Scalar.select v1944 v1945 v1939
  let c1_i32_1528 : BitVec 32 := 1#32
  let v1965 : BitVec 32 := Scalar.muli v1946 c1_i32_1528
  let v1966 : BitVec 32 := Scalar.addi c0_i32_1529 v1965
  v1966.toNat
def k0_dev65 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1533 : BitVec 32 := 4#32
  let v1975 : BitVec 32 := Scalar.addi v2 c4_i32_1533
  let c32_i32_1534 : BitVec 32 := 32#32
  let c0_i32_1535 : BitVec 32 := 0#32
  let v1976 : BitVec 1 := Scalar.cmpi .eq c32_i32_1534 c0_i32_1535
  let c1_i32_1536 : BitVec 32 := 1#32
  let v1977 : BitVec 32 := Scalar.select v1976 c1_i32_1536 c32_i32_1534
  let v1978 : BitVec 32 := Scalar.remsi v1975 v1977
  let c0_i32_1538 : BitVec 32 := 0#32
  let v1980 : BitVec 1 := Scalar.cmpi .slt v1978 c0_i32_1538
  let c0_i32_1539 : BitVec 32 := 0#32
  let v1981 : BitVec 1 := Scalar.cmpi .slt v1977 c0_i32_1539
  let v1982 : BitVec 1 := Scalar.xori v1980 v1981
  let c0_i32_1537 : BitVec 32 := 0#32
  let v1979 : BitVec 1 := Scalar.cmpi .ne v1978 c0_i32_1537
  let v1983 : BitVec 1 := Scalar.andi v1982 v1979
  let v1984 : BitVec 32 := Scalar.addi v1978 v1977
  let v1985 : BitVec 32 := Scalar.select v1983 v1984 v1978
  let c1_i32_1555 : BitVec 32 := 1#32
  let v2004 : BitVec 32 := Scalar.muli v1985 c1_i32_1555
  let v2005 : BitVec 32 := Scalar.addi c0_i32_1556 v2004
  v2005.toNat
def k0_dev66 (d0 : Dev nD) : Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1560 : BitVec 32 := 6#32
  let v2014 : BitVec 32 := Scalar.addi v2 c6_i32_1560
  let c32_i32_1561 : BitVec 32 := 32#32
  let c0_i32_1562 : BitVec 32 := 0#32
  let v2015 : BitVec 1 := Scalar.cmpi .eq c32_i32_1561 c0_i32_1562
  let c1_i32_1563 : BitVec 32 := 1#32
  let v2016 : BitVec 32 := Scalar.select v2015 c1_i32_1563 c32_i32_1561
  let v2017 : BitVec 32 := Scalar.remsi v2014 v2016
  let c0_i32_1565 : BitVec 32 := 0#32
  let v2019 : BitVec 1 := Scalar.cmpi .slt v2017 c0_i32_1565
  let c0_i32_1566 : BitVec 32 := 0#32
  let v2020 : BitVec 1 := Scalar.cmpi .slt v2016 c0_i32_1566
  let v2021 : BitVec 1 := Scalar.xori v2019 v2020
  let c0_i32_1564 : BitVec 32 := 0#32
  let v2018 : BitVec 1 := Scalar.cmpi .ne v2017 c0_i32_1564
  let v2022 : BitVec 1 := Scalar.andi v2021 v2018
  let v2023 : BitVec 32 := Scalar.addi v2017 v2016
  let v2024 : BitVec 32 := Scalar.select v2022 v2023 v2017
  let c1_i32_1582 : BitVec 32 := 1#32
  let v2043 : BitVec 32 := Scalar.muli v2024 c1_i32_1582
  let v2044 : BitVec 32 := Scalar.addi c0_i32_1583 v2043
  v2044.toNat
def k0_dev67 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1587 : BitVec 32 := 8#32
  let v2053 : BitVec 32 := Scalar.addi v2 c8_i32_1587
  let c32_i32_1588 : BitVec 32 := 32#32
  let c0_i32_1589 : BitVec 32 := 0#32
  let v2054 : BitVec 1 := Scalar.cmpi .eq c32_i32_1588 c0_i32_1589
  let c1_i32_1590 : BitVec 32 := 1#32
  let v2055 : BitVec 32 := Scalar.select v2054 c1_i32_1590 c32_i32_1588
  let v2056 : BitVec 32 := Scalar.remsi v2053 v2055
  let c0_i32_1592 : BitVec 32 := 0#32
  let v2058 : BitVec 1 := Scalar.cmpi .slt v2056 c0_i32_1592
  let c0_i32_1593 : BitVec 32 := 0#32
  let v2059 : BitVec 1 := Scalar.cmpi .slt v2055 c0_i32_1593
  let v2060 : BitVec 1 := Scalar.xori v2058 v2059
  let c0_i32_1591 : BitVec 32 := 0#32
  let v2057 : BitVec 1 := Scalar.cmpi .ne v2056 c0_i32_1591
  let v2061 : BitVec 1 := Scalar.andi v2060 v2057
  let v2062 : BitVec 32 := Scalar.addi v2056 v2055
  let v2063 : BitVec 32 := Scalar.select v2061 v2062 v2056
  let c1_i32_1609 : BitVec 32 := 1#32
  let v2082 : BitVec 32 := Scalar.muli v2063 c1_i32_1609
  let v2083 : BitVec 32 := Scalar.addi c0_i32_1610 v2082
  v2083.toNat
def k0_dev68 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1614 : BitVec 32 := 10#32
  let v2092 : BitVec 32 := Scalar.addi v2 c10_i32_1614
  let c32_i32_1615 : BitVec 32 := 32#32
  let c0_i32_1616 : BitVec 32 := 0#32
  let v2093 : BitVec 1 := Scalar.cmpi .eq c32_i32_1615 c0_i32_1616
  let c1_i32_1617 : BitVec 32 := 1#32
  let v2094 : BitVec 32 := Scalar.select v2093 c1_i32_1617 c32_i32_1615
  let v2095 : BitVec 32 := Scalar.remsi v2092 v2094
  let c0_i32_1619 : BitVec 32 := 0#32
  let v2097 : BitVec 1 := Scalar.cmpi .slt v2095 c0_i32_1619
  let c0_i32_1620 : BitVec 32 := 0#32
  let v2098 : BitVec 1 := Scalar.cmpi .slt v2094 c0_i32_1620
  let v2099 : BitVec 1 := Scalar.xori v2097 v2098
  let c0_i32_1618 : BitVec 32 := 0#32
  let v2096 : BitVec 1 := Scalar.cmpi .ne v2095 c0_i32_1618
  let v2100 : BitVec 1 := Scalar.andi v2099 v2096
  let v2101 : BitVec 32 := Scalar.addi v2095 v2094
  let v2102 : BitVec 32 := Scalar.select v2100 v2101 v2095
  let c1_i32_1636 : BitVec 32 := 1#32
  let v2121 : BitVec 32 := Scalar.muli v2102 c1_i32_1636
  let v2122 : BitVec 32 := Scalar.addi c0_i32_1637 v2121
  v2122.toNat
def k0_dev69 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1641 : BitVec 32 := 12#32
  let v2131 : BitVec 32 := Scalar.addi v2 c12_i32_1641
  let c32_i32_1642 : BitVec 32 := 32#32
  let c0_i32_1643 : BitVec 32 := 0#32
  let v2132 : BitVec 1 := Scalar.cmpi .eq c32_i32_1642 c0_i32_1643
  let c1_i32_1644 : BitVec 32 := 1#32
  let v2133 : BitVec 32 := Scalar.select v2132 c1_i32_1644 c32_i32_1642
  let v2134 : BitVec 32 := Scalar.remsi v2131 v2133
  let c0_i32_1646 : BitVec 32 := 0#32
  let v2136 : BitVec 1 := Scalar.cmpi .slt v2134 c0_i32_1646
  let c0_i32_1647 : BitVec 32 := 0#32
  let v2137 : BitVec 1 := Scalar.cmpi .slt v2133 c0_i32_1647
  let v2138 : BitVec 1 := Scalar.xori v2136 v2137
  let c0_i32_1645 : BitVec 32 := 0#32
  let v2135 : BitVec 1 := Scalar.cmpi .ne v2134 c0_i32_1645
  let v2139 : BitVec 1 := Scalar.andi v2138 v2135
  let v2140 : BitVec 32 := Scalar.addi v2134 v2133
  let v2141 : BitVec 32 := Scalar.select v2139 v2140 v2134
  let c1_i32_1663 : BitVec 32 := 1#32
  let v2160 : BitVec 32 := Scalar.muli v2141 c1_i32_1663
  let v2161 : BitVec 32 := Scalar.addi c0_i32_1664 v2160
  v2161.toNat
def k0_dev70 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1668 : BitVec 32 := 14#32
  let v2170 : BitVec 32 := Scalar.addi v2 c14_i32_1668
  let c32_i32_1669 : BitVec 32 := 32#32
  let c0_i32_1670 : BitVec 32 := 0#32
  let v2171 : BitVec 1 := Scalar.cmpi .eq c32_i32_1669 c0_i32_1670
  let c1_i32_1671 : BitVec 32 := 1#32
  let v2172 : BitVec 32 := Scalar.select v2171 c1_i32_1671 c32_i32_1669
  let v2173 : BitVec 32 := Scalar.remsi v2170 v2172
  let c0_i32_1673 : BitVec 32 := 0#32
  let v2175 : BitVec 1 := Scalar.cmpi .slt v2173 c0_i32_1673
  let c0_i32_1674 : BitVec 32 := 0#32
  let v2176 : BitVec 1 := Scalar.cmpi .slt v2172 c0_i32_1674
  let v2177 : BitVec 1 := Scalar.xori v2175 v2176
  let c0_i32_1672 : BitVec 32 := 0#32
  let v2174 : BitVec 1 := Scalar.cmpi .ne v2173 c0_i32_1672
  let v2178 : BitVec 1 := Scalar.andi v2177 v2174
  let v2179 : BitVec 32 := Scalar.addi v2173 v2172
  let v2180 : BitVec 32 := Scalar.select v2178 v2179 v2173
  let c1_i32_1690 : BitVec 32 := 1#32
  let v2199 : BitVec 32 := Scalar.muli v2180 c1_i32_1690
  let v2200 : BitVec 32 := Scalar.addi c0_i32_1691 v2199
  v2200.toNat
def k0_dev71 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1695 : BitVec 32 := 16#32
  let v2209 : BitVec 32 := Scalar.addi v2 c16_i32_1695
  let c32_i32_1696 : BitVec 32 := 32#32
  let c0_i32_1697 : BitVec 32 := 0#32
  let v2210 : BitVec 1 := Scalar.cmpi .eq c32_i32_1696 c0_i32_1697
  let c1_i32_1698 : BitVec 32 := 1#32
  let v2211 : BitVec 32 := Scalar.select v2210 c1_i32_1698 c32_i32_1696
  let v2212 : BitVec 32 := Scalar.remsi v2209 v2211
  let c0_i32_1700 : BitVec 32 := 0#32
  let v2214 : BitVec 1 := Scalar.cmpi .slt v2212 c0_i32_1700
  let c0_i32_1701 : BitVec 32 := 0#32
  let v2215 : BitVec 1 := Scalar.cmpi .slt v2211 c0_i32_1701
  let v2216 : BitVec 1 := Scalar.xori v2214 v2215
  let c0_i32_1699 : BitVec 32 := 0#32
  let v2213 : BitVec 1 := Scalar.cmpi .ne v2212 c0_i32_1699
  let v2217 : BitVec 1 := Scalar.andi v2216 v2213
  let v2218 : BitVec 32 := Scalar.addi v2212 v2211
  let v2219 : BitVec 32 := Scalar.select v2217 v2218 v2212
  let c1_i32_1717 : BitVec 32 := 1#32
  let v2238 : BitVec 32 := Scalar.muli v2219 c1_i32_1717
  let v2239 : BitVec 32 := Scalar.addi c0_i32_1718 v2238
  v2239.toNat
def k0_dev72 (d0 : Dev nD) : Nat :=
  let c0_i32_1745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1722 : BitVec 32 := 18#32
  let v2248 : BitVec 32 := Scalar.addi v2 c18_i32_1722
  let c32_i32_1723 : BitVec 32 := 32#32
  let c0_i32_1724 : BitVec 32 := 0#32
  let v2249 : BitVec 1 := Scalar.cmpi .eq c32_i32_1723 c0_i32_1724
  let c1_i32_1725 : BitVec 32 := 1#32
  let v2250 : BitVec 32 := Scalar.select v2249 c1_i32_1725 c32_i32_1723
  let v2251 : BitVec 32 := Scalar.remsi v2248 v2250
  let c0_i32_1727 : BitVec 32 := 0#32
  let v2253 : BitVec 1 := Scalar.cmpi .slt v2251 c0_i32_1727
  let c0_i32_1728 : BitVec 32 := 0#32
  let v2254 : BitVec 1 := Scalar.cmpi .slt v2250 c0_i32_1728
  let v2255 : BitVec 1 := Scalar.xori v2253 v2254
  let c0_i32_1726 : BitVec 32 := 0#32
  let v2252 : BitVec 1 := Scalar.cmpi .ne v2251 c0_i32_1726
  let v2256 : BitVec 1 := Scalar.andi v2255 v2252
  let v2257 : BitVec 32 := Scalar.addi v2251 v2250
  let v2258 : BitVec 32 := Scalar.select v2256 v2257 v2251
  let c1_i32_1744 : BitVec 32 := 1#32
  let v2277 : BitVec 32 := Scalar.muli v2258 c1_i32_1744
  let v2278 : BitVec 32 := Scalar.addi c0_i32_1745 v2277
  v2278.toNat
def k0_dev73 (d0 : Dev nD) : Nat :=
  let c0_i32_1772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1749 : BitVec 32 := 20#32
  let v2287 : BitVec 32 := Scalar.addi v2 c20_i32_1749
  let c32_i32_1750 : BitVec 32 := 32#32
  let c0_i32_1751 : BitVec 32 := 0#32
  let v2288 : BitVec 1 := Scalar.cmpi .eq c32_i32_1750 c0_i32_1751
  let c1_i32_1752 : BitVec 32 := 1#32
  let v2289 : BitVec 32 := Scalar.select v2288 c1_i32_1752 c32_i32_1750
  let v2290 : BitVec 32 := Scalar.remsi v2287 v2289
  let c0_i32_1754 : BitVec 32 := 0#32
  let v2292 : BitVec 1 := Scalar.cmpi .slt v2290 c0_i32_1754
  let c0_i32_1755 : BitVec 32 := 0#32
  let v2293 : BitVec 1 := Scalar.cmpi .slt v2289 c0_i32_1755
  let v2294 : BitVec 1 := Scalar.xori v2292 v2293
  let c0_i32_1753 : BitVec 32 := 0#32
  let v2291 : BitVec 1 := Scalar.cmpi .ne v2290 c0_i32_1753
  let v2295 : BitVec 1 := Scalar.andi v2294 v2291
  let v2296 : BitVec 32 := Scalar.addi v2290 v2289
  let v2297 : BitVec 32 := Scalar.select v2295 v2296 v2290
  let c1_i32_1771 : BitVec 32 := 1#32
  let v2316 : BitVec 32 := Scalar.muli v2297 c1_i32_1771
  let v2317 : BitVec 32 := Scalar.addi c0_i32_1772 v2316
  v2317.toNat
def k0_dev74 (d0 : Dev nD) : Nat :=
  let c0_i32_1799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1776 : BitVec 32 := 22#32
  let v2326 : BitVec 32 := Scalar.addi v2 c22_i32_1776
  let c32_i32_1777 : BitVec 32 := 32#32
  let c0_i32_1778 : BitVec 32 := 0#32
  let v2327 : BitVec 1 := Scalar.cmpi .eq c32_i32_1777 c0_i32_1778
  let c1_i32_1779 : BitVec 32 := 1#32
  let v2328 : BitVec 32 := Scalar.select v2327 c1_i32_1779 c32_i32_1777
  let v2329 : BitVec 32 := Scalar.remsi v2326 v2328
  let c0_i32_1781 : BitVec 32 := 0#32
  let v2331 : BitVec 1 := Scalar.cmpi .slt v2329 c0_i32_1781
  let c0_i32_1782 : BitVec 32 := 0#32
  let v2332 : BitVec 1 := Scalar.cmpi .slt v2328 c0_i32_1782
  let v2333 : BitVec 1 := Scalar.xori v2331 v2332
  let c0_i32_1780 : BitVec 32 := 0#32
  let v2330 : BitVec 1 := Scalar.cmpi .ne v2329 c0_i32_1780
  let v2334 : BitVec 1 := Scalar.andi v2333 v2330
  let v2335 : BitVec 32 := Scalar.addi v2329 v2328
  let v2336 : BitVec 32 := Scalar.select v2334 v2335 v2329
  let c1_i32_1798 : BitVec 32 := 1#32
  let v2355 : BitVec 32 := Scalar.muli v2336 c1_i32_1798
  let v2356 : BitVec 32 := Scalar.addi c0_i32_1799 v2355
  v2356.toNat
def k0_dev75 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1803 : BitVec 32 := 24#32
  let v2365 : BitVec 32 := Scalar.addi v2 c24_i32_1803
  let c32_i32_1804 : BitVec 32 := 32#32
  let c0_i32_1805 : BitVec 32 := 0#32
  let v2366 : BitVec 1 := Scalar.cmpi .eq c32_i32_1804 c0_i32_1805
  let c1_i32_1806 : BitVec 32 := 1#32
  let v2367 : BitVec 32 := Scalar.select v2366 c1_i32_1806 c32_i32_1804
  let v2368 : BitVec 32 := Scalar.remsi v2365 v2367
  let c0_i32_1808 : BitVec 32 := 0#32
  let v2370 : BitVec 1 := Scalar.cmpi .slt v2368 c0_i32_1808
  let c0_i32_1809 : BitVec 32 := 0#32
  let v2371 : BitVec 1 := Scalar.cmpi .slt v2367 c0_i32_1809
  let v2372 : BitVec 1 := Scalar.xori v2370 v2371
  let c0_i32_1807 : BitVec 32 := 0#32
  let v2369 : BitVec 1 := Scalar.cmpi .ne v2368 c0_i32_1807
  let v2373 : BitVec 1 := Scalar.andi v2372 v2369
  let v2374 : BitVec 32 := Scalar.addi v2368 v2367
  let v2375 : BitVec 32 := Scalar.select v2373 v2374 v2368
  let c1_i32_1825 : BitVec 32 := 1#32
  let v2394 : BitVec 32 := Scalar.muli v2375 c1_i32_1825
  let v2395 : BitVec 32 := Scalar.addi c0_i32_1826 v2394
  v2395.toNat
def k0_dev76 (d0 : Dev nD) : Nat :=
  let c0_i32_1853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1830 : BitVec 32 := 26#32
  let v2404 : BitVec 32 := Scalar.addi v2 c26_i32_1830
  let c32_i32_1831 : BitVec 32 := 32#32
  let c0_i32_1832 : BitVec 32 := 0#32
  let v2405 : BitVec 1 := Scalar.cmpi .eq c32_i32_1831 c0_i32_1832
  let c1_i32_1833 : BitVec 32 := 1#32
  let v2406 : BitVec 32 := Scalar.select v2405 c1_i32_1833 c32_i32_1831
  let v2407 : BitVec 32 := Scalar.remsi v2404 v2406
  let c0_i32_1835 : BitVec 32 := 0#32
  let v2409 : BitVec 1 := Scalar.cmpi .slt v2407 c0_i32_1835
  let c0_i32_1836 : BitVec 32 := 0#32
  let v2410 : BitVec 1 := Scalar.cmpi .slt v2406 c0_i32_1836
  let v2411 : BitVec 1 := Scalar.xori v2409 v2410
  let c0_i32_1834 : BitVec 32 := 0#32
  let v2408 : BitVec 1 := Scalar.cmpi .ne v2407 c0_i32_1834
  let v2412 : BitVec 1 := Scalar.andi v2411 v2408
  let v2413 : BitVec 32 := Scalar.addi v2407 v2406
  let v2414 : BitVec 32 := Scalar.select v2412 v2413 v2407
  let c1_i32_1852 : BitVec 32 := 1#32
  let v2433 : BitVec 32 := Scalar.muli v2414 c1_i32_1852
  let v2434 : BitVec 32 := Scalar.addi c0_i32_1853 v2433
  v2434.toNat
def k0_dev77 (d0 : Dev nD) : Nat :=
  let c0_i32_1880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1857 : BitVec 32 := 28#32
  let v2443 : BitVec 32 := Scalar.addi v2 c28_i32_1857
  let c32_i32_1858 : BitVec 32 := 32#32
  let c0_i32_1859 : BitVec 32 := 0#32
  let v2444 : BitVec 1 := Scalar.cmpi .eq c32_i32_1858 c0_i32_1859
  let c1_i32_1860 : BitVec 32 := 1#32
  let v2445 : BitVec 32 := Scalar.select v2444 c1_i32_1860 c32_i32_1858
  let v2446 : BitVec 32 := Scalar.remsi v2443 v2445
  let c0_i32_1862 : BitVec 32 := 0#32
  let v2448 : BitVec 1 := Scalar.cmpi .slt v2446 c0_i32_1862
  let c0_i32_1863 : BitVec 32 := 0#32
  let v2449 : BitVec 1 := Scalar.cmpi .slt v2445 c0_i32_1863
  let v2450 : BitVec 1 := Scalar.xori v2448 v2449
  let c0_i32_1861 : BitVec 32 := 0#32
  let v2447 : BitVec 1 := Scalar.cmpi .ne v2446 c0_i32_1861
  let v2451 : BitVec 1 := Scalar.andi v2450 v2447
  let v2452 : BitVec 32 := Scalar.addi v2446 v2445
  let v2453 : BitVec 32 := Scalar.select v2451 v2452 v2446
  let c1_i32_1879 : BitVec 32 := 1#32
  let v2472 : BitVec 32 := Scalar.muli v2453 c1_i32_1879
  let v2473 : BitVec 32 := Scalar.addi c0_i32_1880 v2472
  v2473.toNat
def k0_dev78 (d0 : Dev nD) : Nat :=
  let c0_i32_1907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1884 : BitVec 32 := 30#32
  let v2482 : BitVec 32 := Scalar.addi v2 c30_i32_1884
  let c32_i32_1885 : BitVec 32 := 32#32
  let c0_i32_1886 : BitVec 32 := 0#32
  let v2483 : BitVec 1 := Scalar.cmpi .eq c32_i32_1885 c0_i32_1886
  let c1_i32_1887 : BitVec 32 := 1#32
  let v2484 : BitVec 32 := Scalar.select v2483 c1_i32_1887 c32_i32_1885
  let v2485 : BitVec 32 := Scalar.remsi v2482 v2484
  let c0_i32_1889 : BitVec 32 := 0#32
  let v2487 : BitVec 1 := Scalar.cmpi .slt v2485 c0_i32_1889
  let c0_i32_1890 : BitVec 32 := 0#32
  let v2488 : BitVec 1 := Scalar.cmpi .slt v2484 c0_i32_1890
  let v2489 : BitVec 1 := Scalar.xori v2487 v2488
  let c0_i32_1888 : BitVec 32 := 0#32
  let v2486 : BitVec 1 := Scalar.cmpi .ne v2485 c0_i32_1888
  let v2490 : BitVec 1 := Scalar.andi v2489 v2486
  let v2491 : BitVec 32 := Scalar.addi v2485 v2484
  let v2492 : BitVec 32 := Scalar.select v2490 v2491 v2485
  let c1_i32_1906 : BitVec 32 := 1#32
  let v2511 : BitVec 32 := Scalar.muli v2492 c1_i32_1906
  let v2512 : BitVec 32 := Scalar.addi c0_i32_1907 v2511
  v2512.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let c0_i32_9 : BitVec 32 := 0#32
  let v20 : BitVec 1 := Scalar.cmpi .sgt v2 c0_i32_9
  let v21 : BitVec 32 := Scalar.extui v20
  let c0_i32_10 : BitVec 32 := 0#32
  let v22 : BitVec 1 := Scalar.cmpi .slt v2 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v2 c2_i32_8
  let c0_i32_13 : BitVec 32 := 0#32
  let v32 : BitVec 1 := Scalar.cmpi .ne v31 c0_i32_13
  let v33 : BitVec 1 := Scalar.andi v30 v32
  let v19 : BitVec 32 := Scalar.divsi v2 c2_i32_8
  let c1_i32_14 : BitVec 32 := 1#32
  let v34 : BitVec 32 := Scalar.subi v19 c1_i32_14
  let v35 : BitVec 32 := Scalar.select v33 v34 v19
  let c32_i32_15 : BitVec 32 := 32#32
  let v36 : BitVec 32 := Scalar.muli v35 c32_i32_15
  let v37 : BitVec 32 := Scalar.addi v16 v36
  let v2641 : Index := Scalar.indexCast v37
  let c256_2091 : Index := 256#32
  ![v2641.toNat, 256]
def k0_dev79 (d0 : Dev nD) : Nat :=
  let c0_i32_2116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2101 : BitVec 32 := 2#32
  let v2655 : BitVec 32 := Scalar.addi v2 c2_i32_2101
  let c32_i32_2102 : BitVec 32 := 32#32
  let c0_i32_2103 : BitVec 32 := 0#32
  let v2656 : BitVec 1 := Scalar.cmpi .eq c32_i32_2102 c0_i32_2103
  let c1_i32_2104 : BitVec 32 := 1#32
  let v2657 : BitVec 32 := Scalar.select v2656 c1_i32_2104 c32_i32_2102
  let v2658 : BitVec 32 := Scalar.remsi v2655 v2657
  let c0_i32_2106 : BitVec 32 := 0#32
  let v2660 : BitVec 1 := Scalar.cmpi .slt v2658 c0_i32_2106
  let c0_i32_2107 : BitVec 32 := 0#32
  let v2661 : BitVec 1 := Scalar.cmpi .slt v2657 c0_i32_2107
  let v2662 : BitVec 1 := Scalar.xori v2660 v2661
  let c0_i32_2105 : BitVec 32 := 0#32
  let v2659 : BitVec 1 := Scalar.cmpi .ne v2658 c0_i32_2105
  let v2663 : BitVec 1 := Scalar.andi v2662 v2659
  let v2664 : BitVec 32 := Scalar.addi v2658 v2657
  let v2665 : BitVec 32 := Scalar.select v2663 v2664 v2658
  let c1_i32_2115 : BitVec 32 := 1#32
  let v2666 : BitVec 32 := Scalar.muli v2665 c1_i32_2115
  let v2667 : BitVec 32 := Scalar.addi c0_i32_2116 v2666
  v2667.toNat
def k0_dev80 (d0 : Dev nD) : Nat :=
  let c0_i32_2136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2121 : BitVec 32 := 4#32
  let v2676 : BitVec 32 := Scalar.addi v2 c4_i32_2121
  let c32_i32_2122 : BitVec 32 := 32#32
  let c0_i32_2123 : BitVec 32 := 0#32
  let v2677 : BitVec 1 := Scalar.cmpi .eq c32_i32_2122 c0_i32_2123
  let c1_i32_2124 : BitVec 32 := 1#32
  let v2678 : BitVec 32 := Scalar.select v2677 c1_i32_2124 c32_i32_2122
  let v2679 : BitVec 32 := Scalar.remsi v2676 v2678
  let c0_i32_2126 : BitVec 32 := 0#32
  let v2681 : BitVec 1 := Scalar.cmpi .slt v2679 c0_i32_2126
  let c0_i32_2127 : BitVec 32 := 0#32
  let v2682 : BitVec 1 := Scalar.cmpi .slt v2678 c0_i32_2127
  let v2683 : BitVec 1 := Scalar.xori v2681 v2682
  let c0_i32_2125 : BitVec 32 := 0#32
  let v2680 : BitVec 1 := Scalar.cmpi .ne v2679 c0_i32_2125
  let v2684 : BitVec 1 := Scalar.andi v2683 v2680
  let v2685 : BitVec 32 := Scalar.addi v2679 v2678
  let v2686 : BitVec 32 := Scalar.select v2684 v2685 v2679
  let c1_i32_2135 : BitVec 32 := 1#32
  let v2687 : BitVec 32 := Scalar.muli v2686 c1_i32_2135
  let v2688 : BitVec 32 := Scalar.addi c0_i32_2136 v2687
  v2688.toNat
def k0_dev81 (d0 : Dev nD) : Nat :=
  let c0_i32_2156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2141 : BitVec 32 := 6#32
  let v2697 : BitVec 32 := Scalar.addi v2 c6_i32_2141
  let c32_i32_2142 : BitVec 32 := 32#32
  let c0_i32_2143 : BitVec 32 := 0#32
  let v2698 : BitVec 1 := Scalar.cmpi .eq c32_i32_2142 c0_i32_2143
  let c1_i32_2144 : BitVec 32 := 1#32
  let v2699 : BitVec 32 := Scalar.select v2698 c1_i32_2144 c32_i32_2142
  let v2700 : BitVec 32 := Scalar.remsi v2697 v2699
  let c0_i32_2146 : BitVec 32 := 0#32
  let v2702 : BitVec 1 := Scalar.cmpi .slt v2700 c0_i32_2146
  let c0_i32_2147 : BitVec 32 := 0#32
  let v2703 : BitVec 1 := Scalar.cmpi .slt v2699 c0_i32_2147
  let v2704 : BitVec 1 := Scalar.xori v2702 v2703
  let c0_i32_2145 : BitVec 32 := 0#32
  let v2701 : BitVec 1 := Scalar.cmpi .ne v2700 c0_i32_2145
  let v2705 : BitVec 1 := Scalar.andi v2704 v2701
  let v2706 : BitVec 32 := Scalar.addi v2700 v2699
  let v2707 : BitVec 32 := Scalar.select v2705 v2706 v2700
  let c1_i32_2155 : BitVec 32 := 1#32
  let v2708 : BitVec 32 := Scalar.muli v2707 c1_i32_2155
  let v2709 : BitVec 32 := Scalar.addi c0_i32_2156 v2708
  v2709.toNat
def k0_dev82 (d0 : Dev nD) : Nat :=
  let c0_i32_2176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2161 : BitVec 32 := 8#32
  let v2718 : BitVec 32 := Scalar.addi v2 c8_i32_2161
  let c32_i32_2162 : BitVec 32 := 32#32
  let c0_i32_2163 : BitVec 32 := 0#32
  let v2719 : BitVec 1 := Scalar.cmpi .eq c32_i32_2162 c0_i32_2163
  let c1_i32_2164 : BitVec 32 := 1#32
  let v2720 : BitVec 32 := Scalar.select v2719 c1_i32_2164 c32_i32_2162
  let v2721 : BitVec 32 := Scalar.remsi v2718 v2720
  let c0_i32_2166 : BitVec 32 := 0#32
  let v2723 : BitVec 1 := Scalar.cmpi .slt v2721 c0_i32_2166
  let c0_i32_2167 : BitVec 32 := 0#32
  let v2724 : BitVec 1 := Scalar.cmpi .slt v2720 c0_i32_2167
  let v2725 : BitVec 1 := Scalar.xori v2723 v2724
  let c0_i32_2165 : BitVec 32 := 0#32
  let v2722 : BitVec 1 := Scalar.cmpi .ne v2721 c0_i32_2165
  let v2726 : BitVec 1 := Scalar.andi v2725 v2722
  let v2727 : BitVec 32 := Scalar.addi v2721 v2720
  let v2728 : BitVec 32 := Scalar.select v2726 v2727 v2721
  let c1_i32_2175 : BitVec 32 := 1#32
  let v2729 : BitVec 32 := Scalar.muli v2728 c1_i32_2175
  let v2730 : BitVec 32 := Scalar.addi c0_i32_2176 v2729
  v2730.toNat
def k0_dev83 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2181 : BitVec 32 := 10#32
  let v2739 : BitVec 32 := Scalar.addi v2 c10_i32_2181
  let c32_i32_2182 : BitVec 32 := 32#32
  let c0_i32_2183 : BitVec 32 := 0#32
  let v2740 : BitVec 1 := Scalar.cmpi .eq c32_i32_2182 c0_i32_2183
  let c1_i32_2184 : BitVec 32 := 1#32
  let v2741 : BitVec 32 := Scalar.select v2740 c1_i32_2184 c32_i32_2182
  let v2742 : BitVec 32 := Scalar.remsi v2739 v2741
  let c0_i32_2186 : BitVec 32 := 0#32
  let v2744 : BitVec 1 := Scalar.cmpi .slt v2742 c0_i32_2186
  let c0_i32_2187 : BitVec 32 := 0#32
  let v2745 : BitVec 1 := Scalar.cmpi .slt v2741 c0_i32_2187
  let v2746 : BitVec 1 := Scalar.xori v2744 v2745
  let c0_i32_2185 : BitVec 32 := 0#32
  let v2743 : BitVec 1 := Scalar.cmpi .ne v2742 c0_i32_2185
  let v2747 : BitVec 1 := Scalar.andi v2746 v2743
  let v2748 : BitVec 32 := Scalar.addi v2742 v2741
  let v2749 : BitVec 32 := Scalar.select v2747 v2748 v2742
  let c1_i32_2195 : BitVec 32 := 1#32
  let v2750 : BitVec 32 := Scalar.muli v2749 c1_i32_2195
  let v2751 : BitVec 32 := Scalar.addi c0_i32_2196 v2750
  v2751.toNat
def k0_dev84 (d0 : Dev nD) : Nat :=
  let c0_i32_2216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2201 : BitVec 32 := 12#32
  let v2760 : BitVec 32 := Scalar.addi v2 c12_i32_2201
  let c32_i32_2202 : BitVec 32 := 32#32
  let c0_i32_2203 : BitVec 32 := 0#32
  let v2761 : BitVec 1 := Scalar.cmpi .eq c32_i32_2202 c0_i32_2203
  let c1_i32_2204 : BitVec 32 := 1#32
  let v2762 : BitVec 32 := Scalar.select v2761 c1_i32_2204 c32_i32_2202
  let v2763 : BitVec 32 := Scalar.remsi v2760 v2762
  let c0_i32_2206 : BitVec 32 := 0#32
  let v2765 : BitVec 1 := Scalar.cmpi .slt v2763 c0_i32_2206
  let c0_i32_2207 : BitVec 32 := 0#32
  let v2766 : BitVec 1 := Scalar.cmpi .slt v2762 c0_i32_2207
  let v2767 : BitVec 1 := Scalar.xori v2765 v2766
  let c0_i32_2205 : BitVec 32 := 0#32
  let v2764 : BitVec 1 := Scalar.cmpi .ne v2763 c0_i32_2205
  let v2768 : BitVec 1 := Scalar.andi v2767 v2764
  let v2769 : BitVec 32 := Scalar.addi v2763 v2762
  let v2770 : BitVec 32 := Scalar.select v2768 v2769 v2763
  let c1_i32_2215 : BitVec 32 := 1#32
  let v2771 : BitVec 32 := Scalar.muli v2770 c1_i32_2215
  let v2772 : BitVec 32 := Scalar.addi c0_i32_2216 v2771
  v2772.toNat
def k0_dev85 (d0 : Dev nD) : Nat :=
  let c0_i32_2236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2221 : BitVec 32 := 14#32
  let v2781 : BitVec 32 := Scalar.addi v2 c14_i32_2221
  let c32_i32_2222 : BitVec 32 := 32#32
  let c0_i32_2223 : BitVec 32 := 0#32
  let v2782 : BitVec 1 := Scalar.cmpi .eq c32_i32_2222 c0_i32_2223
  let c1_i32_2224 : BitVec 32 := 1#32
  let v2783 : BitVec 32 := Scalar.select v2782 c1_i32_2224 c32_i32_2222
  let v2784 : BitVec 32 := Scalar.remsi v2781 v2783
  let c0_i32_2226 : BitVec 32 := 0#32
  let v2786 : BitVec 1 := Scalar.cmpi .slt v2784 c0_i32_2226
  let c0_i32_2227 : BitVec 32 := 0#32
  let v2787 : BitVec 1 := Scalar.cmpi .slt v2783 c0_i32_2227
  let v2788 : BitVec 1 := Scalar.xori v2786 v2787
  let c0_i32_2225 : BitVec 32 := 0#32
  let v2785 : BitVec 1 := Scalar.cmpi .ne v2784 c0_i32_2225
  let v2789 : BitVec 1 := Scalar.andi v2788 v2785
  let v2790 : BitVec 32 := Scalar.addi v2784 v2783
  let v2791 : BitVec 32 := Scalar.select v2789 v2790 v2784
  let c1_i32_2235 : BitVec 32 := 1#32
  let v2792 : BitVec 32 := Scalar.muli v2791 c1_i32_2235
  let v2793 : BitVec 32 := Scalar.addi c0_i32_2236 v2792
  v2793.toNat
def k0_dev86 (d0 : Dev nD) : Nat :=
  let c0_i32_2256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2241 : BitVec 32 := 16#32
  let v2802 : BitVec 32 := Scalar.addi v2 c16_i32_2241
  let c32_i32_2242 : BitVec 32 := 32#32
  let c0_i32_2243 : BitVec 32 := 0#32
  let v2803 : BitVec 1 := Scalar.cmpi .eq c32_i32_2242 c0_i32_2243
  let c1_i32_2244 : BitVec 32 := 1#32
  let v2804 : BitVec 32 := Scalar.select v2803 c1_i32_2244 c32_i32_2242
  let v2805 : BitVec 32 := Scalar.remsi v2802 v2804
  let c0_i32_2246 : BitVec 32 := 0#32
  let v2807 : BitVec 1 := Scalar.cmpi .slt v2805 c0_i32_2246
  let c0_i32_2247 : BitVec 32 := 0#32
  let v2808 : BitVec 1 := Scalar.cmpi .slt v2804 c0_i32_2247
  let v2809 : BitVec 1 := Scalar.xori v2807 v2808
  let c0_i32_2245 : BitVec 32 := 0#32
  let v2806 : BitVec 1 := Scalar.cmpi .ne v2805 c0_i32_2245
  let v2810 : BitVec 1 := Scalar.andi v2809 v2806
  let v2811 : BitVec 32 := Scalar.addi v2805 v2804
  let v2812 : BitVec 32 := Scalar.select v2810 v2811 v2805
  let c1_i32_2255 : BitVec 32 := 1#32
  let v2813 : BitVec 32 := Scalar.muli v2812 c1_i32_2255
  let v2814 : BitVec 32 := Scalar.addi c0_i32_2256 v2813
  v2814.toNat
def k0_dev87 (d0 : Dev nD) : Nat :=
  let c0_i32_2276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2261 : BitVec 32 := 18#32
  let v2823 : BitVec 32 := Scalar.addi v2 c18_i32_2261
  let c32_i32_2262 : BitVec 32 := 32#32
  let c0_i32_2263 : BitVec 32 := 0#32
  let v2824 : BitVec 1 := Scalar.cmpi .eq c32_i32_2262 c0_i32_2263
  let c1_i32_2264 : BitVec 32 := 1#32
  let v2825 : BitVec 32 := Scalar.select v2824 c1_i32_2264 c32_i32_2262
  let v2826 : BitVec 32 := Scalar.remsi v2823 v2825
  let c0_i32_2266 : BitVec 32 := 0#32
  let v2828 : BitVec 1 := Scalar.cmpi .slt v2826 c0_i32_2266
  let c0_i32_2267 : BitVec 32 := 0#32
  let v2829 : BitVec 1 := Scalar.cmpi .slt v2825 c0_i32_2267
  let v2830 : BitVec 1 := Scalar.xori v2828 v2829
  let c0_i32_2265 : BitVec 32 := 0#32
  let v2827 : BitVec 1 := Scalar.cmpi .ne v2826 c0_i32_2265
  let v2831 : BitVec 1 := Scalar.andi v2830 v2827
  let v2832 : BitVec 32 := Scalar.addi v2826 v2825
  let v2833 : BitVec 32 := Scalar.select v2831 v2832 v2826
  let c1_i32_2275 : BitVec 32 := 1#32
  let v2834 : BitVec 32 := Scalar.muli v2833 c1_i32_2275
  let v2835 : BitVec 32 := Scalar.addi c0_i32_2276 v2834
  v2835.toNat
def k0_dev88 (d0 : Dev nD) : Nat :=
  let c0_i32_2296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2281 : BitVec 32 := 20#32
  let v2844 : BitVec 32 := Scalar.addi v2 c20_i32_2281
  let c32_i32_2282 : BitVec 32 := 32#32
  let c0_i32_2283 : BitVec 32 := 0#32
  let v2845 : BitVec 1 := Scalar.cmpi .eq c32_i32_2282 c0_i32_2283
  let c1_i32_2284 : BitVec 32 := 1#32
  let v2846 : BitVec 32 := Scalar.select v2845 c1_i32_2284 c32_i32_2282
  let v2847 : BitVec 32 := Scalar.remsi v2844 v2846
  let c0_i32_2286 : BitVec 32 := 0#32
  let v2849 : BitVec 1 := Scalar.cmpi .slt v2847 c0_i32_2286
  let c0_i32_2287 : BitVec 32 := 0#32
  let v2850 : BitVec 1 := Scalar.cmpi .slt v2846 c0_i32_2287
  let v2851 : BitVec 1 := Scalar.xori v2849 v2850
  let c0_i32_2285 : BitVec 32 := 0#32
  let v2848 : BitVec 1 := Scalar.cmpi .ne v2847 c0_i32_2285
  let v2852 : BitVec 1 := Scalar.andi v2851 v2848
  let v2853 : BitVec 32 := Scalar.addi v2847 v2846
  let v2854 : BitVec 32 := Scalar.select v2852 v2853 v2847
  let c1_i32_2295 : BitVec 32 := 1#32
  let v2855 : BitVec 32 := Scalar.muli v2854 c1_i32_2295
  let v2856 : BitVec 32 := Scalar.addi c0_i32_2296 v2855
  v2856.toNat
def k0_dev89 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2301 : BitVec 32 := 22#32
  let v2865 : BitVec 32 := Scalar.addi v2 c22_i32_2301
  let c32_i32_2302 : BitVec 32 := 32#32
  let c0_i32_2303 : BitVec 32 := 0#32
  let v2866 : BitVec 1 := Scalar.cmpi .eq c32_i32_2302 c0_i32_2303
  let c1_i32_2304 : BitVec 32 := 1#32
  let v2867 : BitVec 32 := Scalar.select v2866 c1_i32_2304 c32_i32_2302
  let v2868 : BitVec 32 := Scalar.remsi v2865 v2867
  let c0_i32_2306 : BitVec 32 := 0#32
  let v2870 : BitVec 1 := Scalar.cmpi .slt v2868 c0_i32_2306
  let c0_i32_2307 : BitVec 32 := 0#32
  let v2871 : BitVec 1 := Scalar.cmpi .slt v2867 c0_i32_2307
  let v2872 : BitVec 1 := Scalar.xori v2870 v2871
  let c0_i32_2305 : BitVec 32 := 0#32
  let v2869 : BitVec 1 := Scalar.cmpi .ne v2868 c0_i32_2305
  let v2873 : BitVec 1 := Scalar.andi v2872 v2869
  let v2874 : BitVec 32 := Scalar.addi v2868 v2867
  let v2875 : BitVec 32 := Scalar.select v2873 v2874 v2868
  let c1_i32_2315 : BitVec 32 := 1#32
  let v2876 : BitVec 32 := Scalar.muli v2875 c1_i32_2315
  let v2877 : BitVec 32 := Scalar.addi c0_i32_2316 v2876
  v2877.toNat
def k0_dev90 (d0 : Dev nD) : Nat :=
  let c0_i32_2336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2321 : BitVec 32 := 24#32
  let v2886 : BitVec 32 := Scalar.addi v2 c24_i32_2321
  let c32_i32_2322 : BitVec 32 := 32#32
  let c0_i32_2323 : BitVec 32 := 0#32
  let v2887 : BitVec 1 := Scalar.cmpi .eq c32_i32_2322 c0_i32_2323
  let c1_i32_2324 : BitVec 32 := 1#32
  let v2888 : BitVec 32 := Scalar.select v2887 c1_i32_2324 c32_i32_2322
  let v2889 : BitVec 32 := Scalar.remsi v2886 v2888
  let c0_i32_2326 : BitVec 32 := 0#32
  let v2891 : BitVec 1 := Scalar.cmpi .slt v2889 c0_i32_2326
  let c0_i32_2327 : BitVec 32 := 0#32
  let v2892 : BitVec 1 := Scalar.cmpi .slt v2888 c0_i32_2327
  let v2893 : BitVec 1 := Scalar.xori v2891 v2892
  let c0_i32_2325 : BitVec 32 := 0#32
  let v2890 : BitVec 1 := Scalar.cmpi .ne v2889 c0_i32_2325
  let v2894 : BitVec 1 := Scalar.andi v2893 v2890
  let v2895 : BitVec 32 := Scalar.addi v2889 v2888
  let v2896 : BitVec 32 := Scalar.select v2894 v2895 v2889
  let c1_i32_2335 : BitVec 32 := 1#32
  let v2897 : BitVec 32 := Scalar.muli v2896 c1_i32_2335
  let v2898 : BitVec 32 := Scalar.addi c0_i32_2336 v2897
  v2898.toNat
def k0_dev91 (d0 : Dev nD) : Nat :=
  let c0_i32_2356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2341 : BitVec 32 := 26#32
  let v2907 : BitVec 32 := Scalar.addi v2 c26_i32_2341
  let c32_i32_2342 : BitVec 32 := 32#32
  let c0_i32_2343 : BitVec 32 := 0#32
  let v2908 : BitVec 1 := Scalar.cmpi .eq c32_i32_2342 c0_i32_2343
  let c1_i32_2344 : BitVec 32 := 1#32
  let v2909 : BitVec 32 := Scalar.select v2908 c1_i32_2344 c32_i32_2342
  let v2910 : BitVec 32 := Scalar.remsi v2907 v2909
  let c0_i32_2346 : BitVec 32 := 0#32
  let v2912 : BitVec 1 := Scalar.cmpi .slt v2910 c0_i32_2346
  let c0_i32_2347 : BitVec 32 := 0#32
  let v2913 : BitVec 1 := Scalar.cmpi .slt v2909 c0_i32_2347
  let v2914 : BitVec 1 := Scalar.xori v2912 v2913
  let c0_i32_2345 : BitVec 32 := 0#32
  let v2911 : BitVec 1 := Scalar.cmpi .ne v2910 c0_i32_2345
  let v2915 : BitVec 1 := Scalar.andi v2914 v2911
  let v2916 : BitVec 32 := Scalar.addi v2910 v2909
  let v2917 : BitVec 32 := Scalar.select v2915 v2916 v2910
  let c1_i32_2355 : BitVec 32 := 1#32
  let v2918 : BitVec 32 := Scalar.muli v2917 c1_i32_2355
  let v2919 : BitVec 32 := Scalar.addi c0_i32_2356 v2918
  v2919.toNat
def k0_dev92 (d0 : Dev nD) : Nat :=
  let c0_i32_2376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2361 : BitVec 32 := 28#32
  let v2928 : BitVec 32 := Scalar.addi v2 c28_i32_2361
  let c32_i32_2362 : BitVec 32 := 32#32
  let c0_i32_2363 : BitVec 32 := 0#32
  let v2929 : BitVec 1 := Scalar.cmpi .eq c32_i32_2362 c0_i32_2363
  let c1_i32_2364 : BitVec 32 := 1#32
  let v2930 : BitVec 32 := Scalar.select v2929 c1_i32_2364 c32_i32_2362
  let v2931 : BitVec 32 := Scalar.remsi v2928 v2930
  let c0_i32_2366 : BitVec 32 := 0#32
  let v2933 : BitVec 1 := Scalar.cmpi .slt v2931 c0_i32_2366
  let c0_i32_2367 : BitVec 32 := 0#32
  let v2934 : BitVec 1 := Scalar.cmpi .slt v2930 c0_i32_2367
  let v2935 : BitVec 1 := Scalar.xori v2933 v2934
  let c0_i32_2365 : BitVec 32 := 0#32
  let v2932 : BitVec 1 := Scalar.cmpi .ne v2931 c0_i32_2365
  let v2936 : BitVec 1 := Scalar.andi v2935 v2932
  let v2937 : BitVec 32 := Scalar.addi v2931 v2930
  let v2938 : BitVec 32 := Scalar.select v2936 v2937 v2931
  let c1_i32_2375 : BitVec 32 := 1#32
  let v2939 : BitVec 32 := Scalar.muli v2938 c1_i32_2375
  let v2940 : BitVec 32 := Scalar.addi c0_i32_2376 v2939
  v2940.toNat
def k0_dev93 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2381 : BitVec 32 := 30#32
  let v2949 : BitVec 32 := Scalar.addi v2 c30_i32_2381
  let c32_i32_2382 : BitVec 32 := 32#32
  let c0_i32_2383 : BitVec 32 := 0#32
  let v2950 : BitVec 1 := Scalar.cmpi .eq c32_i32_2382 c0_i32_2383
  let c1_i32_2384 : BitVec 32 := 1#32
  let v2951 : BitVec 32 := Scalar.select v2950 c1_i32_2384 c32_i32_2382
  let v2952 : BitVec 32 := Scalar.remsi v2949 v2951
  let c0_i32_2386 : BitVec 32 := 0#32
  let v2954 : BitVec 1 := Scalar.cmpi .slt v2952 c0_i32_2386
  let c0_i32_2387 : BitVec 32 := 0#32
  let v2955 : BitVec 1 := Scalar.cmpi .slt v2951 c0_i32_2387
  let v2956 : BitVec 1 := Scalar.xori v2954 v2955
  let c0_i32_2385 : BitVec 32 := 0#32
  let v2953 : BitVec 1 := Scalar.cmpi .ne v2952 c0_i32_2385
  let v2957 : BitVec 1 := Scalar.andi v2956 v2953
  let v2958 : BitVec 32 := Scalar.addi v2952 v2951
  let v2959 : BitVec 32 := Scalar.select v2957 v2958 v2952
  let c1_i32_2395 : BitVec 32 := 1#32
  let v2960 : BitVec 32 := Scalar.muli v2959 c1_i32_2395
  let v2961 : BitVec 32 := Scalar.addi c0_i32_2396 v2960
  v2961.toNat
def k0_off11 (d0 : Dev nD) (c2_i32_2596 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v3090 : BitVec 32 := Scalar.subi v2 c2_i32_2596
  let c32_i32_2597 : BitVec 32 := 32#32
  let c0_i32_2598 : BitVec 32 := 0#32
  let v3091 : BitVec 1 := Scalar.cmpi .eq c32_i32_2597 c0_i32_2598
  let c1_i32_2599 : BitVec 32 := 1#32
  let v3092 : BitVec 32 := Scalar.select v3091 c1_i32_2599 c32_i32_2597
  let v3093 : BitVec 32 := Scalar.remsi v3090 v3092
  let c0_i32_2601 : BitVec 32 := 0#32
  let v3095 : BitVec 1 := Scalar.cmpi .slt v3093 c0_i32_2601
  let c0_i32_2602 : BitVec 32 := 0#32
  let v3096 : BitVec 1 := Scalar.cmpi .slt v3092 c0_i32_2602
  let v3097 : BitVec 1 := Scalar.xori v3095 v3096
  let c0_i32_2600 : BitVec 32 := 0#32
  let v3094 : BitVec 1 := Scalar.cmpi .ne v3093 c0_i32_2600
  let v3098 : BitVec 1 := Scalar.andi v3097 v3094
  let v3099 : BitVec 32 := Scalar.addi v3093 v3092
  let v3100 : BitVec 32 := Scalar.select v3098 v3099 v3093
  let c0_i32_2604 : BitVec 32 := 0#32
  let v3102 : BitVec 1 := Scalar.cmpi .sgt v3100 c0_i32_2604
  let v3103 : BitVec 32 := Scalar.extui v3102
  let c0_i32_2605 : BitVec 32 := 0#32
  let v3104 : BitVec 1 := Scalar.cmpi .slt v3100 c0_i32_2605
  let v3105 : BitVec 32 := Scalar.extui v3104
  let v3106 : BitVec 32 := Scalar.subi v3103 v3105
  let c2_i32_2603 : BitVec 32 := 2#32
  let c0_i32_2606 : BitVec 32 := 0#32
  let v3107 : BitVec 1 := Scalar.cmpi .sgt c2_i32_2603 c0_i32_2606
  let v3108 : BitVec 32 := Scalar.extui v3107
  let c0_i32_2607 : BitVec 32 := 0#32
  let v3109 : BitVec 1 := Scalar.cmpi .slt c2_i32_2603 c0_i32_2607
  let v3110 : BitVec 32 := Scalar.extui v3109
  let v3111 : BitVec 32 := Scalar.subi v3108 v3110
  let v3112 : BitVec 1 := Scalar.cmpi .ne v3106 v3111
  let v3113 : BitVec 32 := Scalar.remsi v3100 c2_i32_2603
  let c0_i32_2608 : BitVec 32 := 0#32
  let v3114 : BitVec 1 := Scalar.cmpi .ne v3113 c0_i32_2608
  let v3115 : BitVec 1 := Scalar.andi v3112 v3114
  let v3101 : BitVec 32 := Scalar.divsi v3100 c2_i32_2603
  let c1_i32_2609 : BitVec 32 := 1#32
  let v3116 : BitVec 32 := Scalar.subi v3101 c1_i32_2609
  let v3117 : BitVec 32 := Scalar.select v3115 v3116 v3101
  let c32_i32_2610 : BitVec 32 := 32#32
  let v3118 : BitVec 32 := Scalar.muli v3117 c32_i32_2610
  let v3119 : BitVec 32 := Scalar.addi v16 v3118
  let v3123 : Index := Scalar.indexCast v3119
  let c0_2615 : Index := 0#32
  ![v3123.toNat, 0]
def k0_dev94 (d0 : Dev nD) : Nat :=
  let c0_i32_2893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_2892 : BitVec 32 := 1#32
  let v3622 : BitVec 32 := Scalar.muli v15 c1_i32_2892
  let v3623 : BitVec 32 := Scalar.addi c0_i32_2893 v3622
  v3623.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v3642 : Index := Scalar.indexCast v16
  let c768_2906 : Index := 768#32
  ![v3642.toNat, 768]
def k0_off13 (d0 : Dev nD) (c2_i32_2910 : BitVec 32) : Fin 3 → Nat :=
  let c3_i32_2925 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3648 : BitVec 32 := Scalar.addi v2 c2_i32_2910
  let c32_i32_2911 : BitVec 32 := 32#32
  let c0_i32_2912 : BitVec 32 := 0#32
  let v3649 : BitVec 1 := Scalar.cmpi .eq c32_i32_2911 c0_i32_2912
  let c1_i32_2913 : BitVec 32 := 1#32
  let v3650 : BitVec 32 := Scalar.select v3649 c1_i32_2913 c32_i32_2911
  let v3651 : BitVec 32 := Scalar.remsi v3648 v3650
  let c0_i32_2915 : BitVec 32 := 0#32
  let v3653 : BitVec 1 := Scalar.cmpi .slt v3651 c0_i32_2915
  let c0_i32_2916 : BitVec 32 := 0#32
  let v3654 : BitVec 1 := Scalar.cmpi .slt v3650 c0_i32_2916
  let v3655 : BitVec 1 := Scalar.xori v3653 v3654
  let c0_i32_2914 : BitVec 32 := 0#32
  let v3652 : BitVec 1 := Scalar.cmpi .ne v3651 c0_i32_2914
  let v3656 : BitVec 1 := Scalar.andi v3655 v3652
  let v3657 : BitVec 32 := Scalar.addi v3651 v3650
  let v3658 : BitVec 32 := Scalar.select v3656 v3657 v3651
  let c0_i32_2918 : BitVec 32 := 0#32
  let v3660 : BitVec 1 := Scalar.cmpi .sgt v3658 c0_i32_2918
  let v3661 : BitVec 32 := Scalar.extui v3660
  let c0_i32_2919 : BitVec 32 := 0#32
  let v3662 : BitVec 1 := Scalar.cmpi .slt v3658 c0_i32_2919
  let v3663 : BitVec 32 := Scalar.extui v3662
  let v3664 : BitVec 32 := Scalar.subi v3661 v3663
  let c2_i32_2917 : BitVec 32 := 2#32
  let c0_i32_2920 : BitVec 32 := 0#32
  let v3665 : BitVec 1 := Scalar.cmpi .sgt c2_i32_2917 c0_i32_2920
  let v3666 : BitVec 32 := Scalar.extui v3665
  let c0_i32_2921 : BitVec 32 := 0#32
  let v3667 : BitVec 1 := Scalar.cmpi .slt c2_i32_2917 c0_i32_2921
  let v3668 : BitVec 32 := Scalar.extui v3667
  let v3669 : BitVec 32 := Scalar.subi v3666 v3668
  let v3670 : BitVec 1 := Scalar.cmpi .ne v3664 v3669
  let v3671 : BitVec 32 := Scalar.remsi v3658 c2_i32_2917
  let c0_i32_2922 : BitVec 32 := 0#32
  let v3672 : BitVec 1 := Scalar.cmpi .ne v3671 c0_i32_2922
  let v3673 : BitVec 1 := Scalar.andi v3670 v3672
  let v3659 : BitVec 32 := Scalar.divsi v3658 c2_i32_2917
  let c1_i32_2923 : BitVec 32 := 1#32
  let v3674 : BitVec 32 := Scalar.subi v3659 c1_i32_2923
  let v3675 : BitVec 32 := Scalar.select v3673 v3674 v3659
  let c32_i32_2924 : BitVec 32 := 32#32
  let v3676 : BitVec 32 := Scalar.muli v3675 c32_i32_2924
  let c0_i32_2936 : BitVec 32 := 0#32
  ![3, v3676.toNat, 0]
def k0_dev95 (d0 : Dev nD) : Nat :=
  let c0_i32_2933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2910 : BitVec 32 := 2#32
  let v3648 : BitVec 32 := Scalar.addi v2 c2_i32_2910
  let c32_i32_2911 : BitVec 32 := 32#32
  let c0_i32_2912 : BitVec 32 := 0#32
  let v3649 : BitVec 1 := Scalar.cmpi .eq c32_i32_2911 c0_i32_2912
  let c1_i32_2913 : BitVec 32 := 1#32
  let v3650 : BitVec 32 := Scalar.select v3649 c1_i32_2913 c32_i32_2911
  let v3651 : BitVec 32 := Scalar.remsi v3648 v3650
  let c0_i32_2915 : BitVec 32 := 0#32
  let v3653 : BitVec 1 := Scalar.cmpi .slt v3651 c0_i32_2915
  let c0_i32_2916 : BitVec 32 := 0#32
  let v3654 : BitVec 1 := Scalar.cmpi .slt v3650 c0_i32_2916
  let v3655 : BitVec 1 := Scalar.xori v3653 v3654
  let c0_i32_2914 : BitVec 32 := 0#32
  let v3652 : BitVec 1 := Scalar.cmpi .ne v3651 c0_i32_2914
  let v3656 : BitVec 1 := Scalar.andi v3655 v3652
  let v3657 : BitVec 32 := Scalar.addi v3651 v3650
  let v3658 : BitVec 32 := Scalar.select v3656 v3657 v3651
  let c1_i32_2932 : BitVec 32 := 1#32
  let v3677 : BitVec 32 := Scalar.muli v3658 c1_i32_2932
  let v3678 : BitVec 32 := Scalar.addi c0_i32_2933 v3677
  v3678.toNat
def k0_dev96 (d0 : Dev nD) : Nat :=
  let c0_i32_2960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2937 : BitVec 32 := 4#32
  let v3687 : BitVec 32 := Scalar.addi v2 c4_i32_2937
  let c32_i32_2938 : BitVec 32 := 32#32
  let c0_i32_2939 : BitVec 32 := 0#32
  let v3688 : BitVec 1 := Scalar.cmpi .eq c32_i32_2938 c0_i32_2939
  let c1_i32_2940 : BitVec 32 := 1#32
  let v3689 : BitVec 32 := Scalar.select v3688 c1_i32_2940 c32_i32_2938
  let v3690 : BitVec 32 := Scalar.remsi v3687 v3689
  let c0_i32_2942 : BitVec 32 := 0#32
  let v3692 : BitVec 1 := Scalar.cmpi .slt v3690 c0_i32_2942
  let c0_i32_2943 : BitVec 32 := 0#32
  let v3693 : BitVec 1 := Scalar.cmpi .slt v3689 c0_i32_2943
  let v3694 : BitVec 1 := Scalar.xori v3692 v3693
  let c0_i32_2941 : BitVec 32 := 0#32
  let v3691 : BitVec 1 := Scalar.cmpi .ne v3690 c0_i32_2941
  let v3695 : BitVec 1 := Scalar.andi v3694 v3691
  let v3696 : BitVec 32 := Scalar.addi v3690 v3689
  let v3697 : BitVec 32 := Scalar.select v3695 v3696 v3690
  let c1_i32_2959 : BitVec 32 := 1#32
  let v3716 : BitVec 32 := Scalar.muli v3697 c1_i32_2959
  let v3717 : BitVec 32 := Scalar.addi c0_i32_2960 v3716
  v3717.toNat
def k0_dev97 (d0 : Dev nD) : Nat :=
  let c0_i32_2987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2964 : BitVec 32 := 6#32
  let v3726 : BitVec 32 := Scalar.addi v2 c6_i32_2964
  let c32_i32_2965 : BitVec 32 := 32#32
  let c0_i32_2966 : BitVec 32 := 0#32
  let v3727 : BitVec 1 := Scalar.cmpi .eq c32_i32_2965 c0_i32_2966
  let c1_i32_2967 : BitVec 32 := 1#32
  let v3728 : BitVec 32 := Scalar.select v3727 c1_i32_2967 c32_i32_2965
  let v3729 : BitVec 32 := Scalar.remsi v3726 v3728
  let c0_i32_2969 : BitVec 32 := 0#32
  let v3731 : BitVec 1 := Scalar.cmpi .slt v3729 c0_i32_2969
  let c0_i32_2970 : BitVec 32 := 0#32
  let v3732 : BitVec 1 := Scalar.cmpi .slt v3728 c0_i32_2970
  let v3733 : BitVec 1 := Scalar.xori v3731 v3732
  let c0_i32_2968 : BitVec 32 := 0#32
  let v3730 : BitVec 1 := Scalar.cmpi .ne v3729 c0_i32_2968
  let v3734 : BitVec 1 := Scalar.andi v3733 v3730
  let v3735 : BitVec 32 := Scalar.addi v3729 v3728
  let v3736 : BitVec 32 := Scalar.select v3734 v3735 v3729
  let c1_i32_2986 : BitVec 32 := 1#32
  let v3755 : BitVec 32 := Scalar.muli v3736 c1_i32_2986
  let v3756 : BitVec 32 := Scalar.addi c0_i32_2987 v3755
  v3756.toNat
def k0_dev98 (d0 : Dev nD) : Nat :=
  let c0_i32_3014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2991 : BitVec 32 := 8#32
  let v3765 : BitVec 32 := Scalar.addi v2 c8_i32_2991
  let c32_i32_2992 : BitVec 32 := 32#32
  let c0_i32_2993 : BitVec 32 := 0#32
  let v3766 : BitVec 1 := Scalar.cmpi .eq c32_i32_2992 c0_i32_2993
  let c1_i32_2994 : BitVec 32 := 1#32
  let v3767 : BitVec 32 := Scalar.select v3766 c1_i32_2994 c32_i32_2992
  let v3768 : BitVec 32 := Scalar.remsi v3765 v3767
  let c0_i32_2996 : BitVec 32 := 0#32
  let v3770 : BitVec 1 := Scalar.cmpi .slt v3768 c0_i32_2996
  let c0_i32_2997 : BitVec 32 := 0#32
  let v3771 : BitVec 1 := Scalar.cmpi .slt v3767 c0_i32_2997
  let v3772 : BitVec 1 := Scalar.xori v3770 v3771
  let c0_i32_2995 : BitVec 32 := 0#32
  let v3769 : BitVec 1 := Scalar.cmpi .ne v3768 c0_i32_2995
  let v3773 : BitVec 1 := Scalar.andi v3772 v3769
  let v3774 : BitVec 32 := Scalar.addi v3768 v3767
  let v3775 : BitVec 32 := Scalar.select v3773 v3774 v3768
  let c1_i32_3013 : BitVec 32 := 1#32
  let v3794 : BitVec 32 := Scalar.muli v3775 c1_i32_3013
  let v3795 : BitVec 32 := Scalar.addi c0_i32_3014 v3794
  v3795.toNat
def k0_dev99 (d0 : Dev nD) : Nat :=
  let c0_i32_3041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3018 : BitVec 32 := 10#32
  let v3804 : BitVec 32 := Scalar.addi v2 c10_i32_3018
  let c32_i32_3019 : BitVec 32 := 32#32
  let c0_i32_3020 : BitVec 32 := 0#32
  let v3805 : BitVec 1 := Scalar.cmpi .eq c32_i32_3019 c0_i32_3020
  let c1_i32_3021 : BitVec 32 := 1#32
  let v3806 : BitVec 32 := Scalar.select v3805 c1_i32_3021 c32_i32_3019
  let v3807 : BitVec 32 := Scalar.remsi v3804 v3806
  let c0_i32_3023 : BitVec 32 := 0#32
  let v3809 : BitVec 1 := Scalar.cmpi .slt v3807 c0_i32_3023
  let c0_i32_3024 : BitVec 32 := 0#32
  let v3810 : BitVec 1 := Scalar.cmpi .slt v3806 c0_i32_3024
  let v3811 : BitVec 1 := Scalar.xori v3809 v3810
  let c0_i32_3022 : BitVec 32 := 0#32
  let v3808 : BitVec 1 := Scalar.cmpi .ne v3807 c0_i32_3022
  let v3812 : BitVec 1 := Scalar.andi v3811 v3808
  let v3813 : BitVec 32 := Scalar.addi v3807 v3806
  let v3814 : BitVec 32 := Scalar.select v3812 v3813 v3807
  let c1_i32_3040 : BitVec 32 := 1#32
  let v3833 : BitVec 32 := Scalar.muli v3814 c1_i32_3040
  let v3834 : BitVec 32 := Scalar.addi c0_i32_3041 v3833
  v3834.toNat
def k0_dev100 (d0 : Dev nD) : Nat :=
  let c0_i32_3068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3045 : BitVec 32 := 12#32
  let v3843 : BitVec 32 := Scalar.addi v2 c12_i32_3045
  let c32_i32_3046 : BitVec 32 := 32#32
  let c0_i32_3047 : BitVec 32 := 0#32
  let v3844 : BitVec 1 := Scalar.cmpi .eq c32_i32_3046 c0_i32_3047
  let c1_i32_3048 : BitVec 32 := 1#32
  let v3845 : BitVec 32 := Scalar.select v3844 c1_i32_3048 c32_i32_3046
  let v3846 : BitVec 32 := Scalar.remsi v3843 v3845
  let c0_i32_3050 : BitVec 32 := 0#32
  let v3848 : BitVec 1 := Scalar.cmpi .slt v3846 c0_i32_3050
  let c0_i32_3051 : BitVec 32 := 0#32
  let v3849 : BitVec 1 := Scalar.cmpi .slt v3845 c0_i32_3051
  let v3850 : BitVec 1 := Scalar.xori v3848 v3849
  let c0_i32_3049 : BitVec 32 := 0#32
  let v3847 : BitVec 1 := Scalar.cmpi .ne v3846 c0_i32_3049
  let v3851 : BitVec 1 := Scalar.andi v3850 v3847
  let v3852 : BitVec 32 := Scalar.addi v3846 v3845
  let v3853 : BitVec 32 := Scalar.select v3851 v3852 v3846
  let c1_i32_3067 : BitVec 32 := 1#32
  let v3872 : BitVec 32 := Scalar.muli v3853 c1_i32_3067
  let v3873 : BitVec 32 := Scalar.addi c0_i32_3068 v3872
  v3873.toNat
def k0_dev101 (d0 : Dev nD) : Nat :=
  let c0_i32_3095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3072 : BitVec 32 := 14#32
  let v3882 : BitVec 32 := Scalar.addi v2 c14_i32_3072
  let c32_i32_3073 : BitVec 32 := 32#32
  let c0_i32_3074 : BitVec 32 := 0#32
  let v3883 : BitVec 1 := Scalar.cmpi .eq c32_i32_3073 c0_i32_3074
  let c1_i32_3075 : BitVec 32 := 1#32
  let v3884 : BitVec 32 := Scalar.select v3883 c1_i32_3075 c32_i32_3073
  let v3885 : BitVec 32 := Scalar.remsi v3882 v3884
  let c0_i32_3077 : BitVec 32 := 0#32
  let v3887 : BitVec 1 := Scalar.cmpi .slt v3885 c0_i32_3077
  let c0_i32_3078 : BitVec 32 := 0#32
  let v3888 : BitVec 1 := Scalar.cmpi .slt v3884 c0_i32_3078
  let v3889 : BitVec 1 := Scalar.xori v3887 v3888
  let c0_i32_3076 : BitVec 32 := 0#32
  let v3886 : BitVec 1 := Scalar.cmpi .ne v3885 c0_i32_3076
  let v3890 : BitVec 1 := Scalar.andi v3889 v3886
  let v3891 : BitVec 32 := Scalar.addi v3885 v3884
  let v3892 : BitVec 32 := Scalar.select v3890 v3891 v3885
  let c1_i32_3094 : BitVec 32 := 1#32
  let v3911 : BitVec 32 := Scalar.muli v3892 c1_i32_3094
  let v3912 : BitVec 32 := Scalar.addi c0_i32_3095 v3911
  v3912.toNat
def k0_dev102 (d0 : Dev nD) : Nat :=
  let c0_i32_3122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3099 : BitVec 32 := 16#32
  let v3921 : BitVec 32 := Scalar.addi v2 c16_i32_3099
  let c32_i32_3100 : BitVec 32 := 32#32
  let c0_i32_3101 : BitVec 32 := 0#32
  let v3922 : BitVec 1 := Scalar.cmpi .eq c32_i32_3100 c0_i32_3101
  let c1_i32_3102 : BitVec 32 := 1#32
  let v3923 : BitVec 32 := Scalar.select v3922 c1_i32_3102 c32_i32_3100
  let v3924 : BitVec 32 := Scalar.remsi v3921 v3923
  let c0_i32_3104 : BitVec 32 := 0#32
  let v3926 : BitVec 1 := Scalar.cmpi .slt v3924 c0_i32_3104
  let c0_i32_3105 : BitVec 32 := 0#32
  let v3927 : BitVec 1 := Scalar.cmpi .slt v3923 c0_i32_3105
  let v3928 : BitVec 1 := Scalar.xori v3926 v3927
  let c0_i32_3103 : BitVec 32 := 0#32
  let v3925 : BitVec 1 := Scalar.cmpi .ne v3924 c0_i32_3103
  let v3929 : BitVec 1 := Scalar.andi v3928 v3925
  let v3930 : BitVec 32 := Scalar.addi v3924 v3923
  let v3931 : BitVec 32 := Scalar.select v3929 v3930 v3924
  let c1_i32_3121 : BitVec 32 := 1#32
  let v3950 : BitVec 32 := Scalar.muli v3931 c1_i32_3121
  let v3951 : BitVec 32 := Scalar.addi c0_i32_3122 v3950
  v3951.toNat
def k0_dev103 (d0 : Dev nD) : Nat :=
  let c0_i32_3149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3126 : BitVec 32 := 18#32
  let v3960 : BitVec 32 := Scalar.addi v2 c18_i32_3126
  let c32_i32_3127 : BitVec 32 := 32#32
  let c0_i32_3128 : BitVec 32 := 0#32
  let v3961 : BitVec 1 := Scalar.cmpi .eq c32_i32_3127 c0_i32_3128
  let c1_i32_3129 : BitVec 32 := 1#32
  let v3962 : BitVec 32 := Scalar.select v3961 c1_i32_3129 c32_i32_3127
  let v3963 : BitVec 32 := Scalar.remsi v3960 v3962
  let c0_i32_3131 : BitVec 32 := 0#32
  let v3965 : BitVec 1 := Scalar.cmpi .slt v3963 c0_i32_3131
  let c0_i32_3132 : BitVec 32 := 0#32
  let v3966 : BitVec 1 := Scalar.cmpi .slt v3962 c0_i32_3132
  let v3967 : BitVec 1 := Scalar.xori v3965 v3966
  let c0_i32_3130 : BitVec 32 := 0#32
  let v3964 : BitVec 1 := Scalar.cmpi .ne v3963 c0_i32_3130
  let v3968 : BitVec 1 := Scalar.andi v3967 v3964
  let v3969 : BitVec 32 := Scalar.addi v3963 v3962
  let v3970 : BitVec 32 := Scalar.select v3968 v3969 v3963
  let c1_i32_3148 : BitVec 32 := 1#32
  let v3989 : BitVec 32 := Scalar.muli v3970 c1_i32_3148
  let v3990 : BitVec 32 := Scalar.addi c0_i32_3149 v3989
  v3990.toNat
def k0_dev104 (d0 : Dev nD) : Nat :=
  let c0_i32_3176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3153 : BitVec 32 := 20#32
  let v3999 : BitVec 32 := Scalar.addi v2 c20_i32_3153
  let c32_i32_3154 : BitVec 32 := 32#32
  let c0_i32_3155 : BitVec 32 := 0#32
  let v4000 : BitVec 1 := Scalar.cmpi .eq c32_i32_3154 c0_i32_3155
  let c1_i32_3156 : BitVec 32 := 1#32
  let v4001 : BitVec 32 := Scalar.select v4000 c1_i32_3156 c32_i32_3154
  let v4002 : BitVec 32 := Scalar.remsi v3999 v4001
  let c0_i32_3158 : BitVec 32 := 0#32
  let v4004 : BitVec 1 := Scalar.cmpi .slt v4002 c0_i32_3158
  let c0_i32_3159 : BitVec 32 := 0#32
  let v4005 : BitVec 1 := Scalar.cmpi .slt v4001 c0_i32_3159
  let v4006 : BitVec 1 := Scalar.xori v4004 v4005
  let c0_i32_3157 : BitVec 32 := 0#32
  let v4003 : BitVec 1 := Scalar.cmpi .ne v4002 c0_i32_3157
  let v4007 : BitVec 1 := Scalar.andi v4006 v4003
  let v4008 : BitVec 32 := Scalar.addi v4002 v4001
  let v4009 : BitVec 32 := Scalar.select v4007 v4008 v4002
  let c1_i32_3175 : BitVec 32 := 1#32
  let v4028 : BitVec 32 := Scalar.muli v4009 c1_i32_3175
  let v4029 : BitVec 32 := Scalar.addi c0_i32_3176 v4028
  v4029.toNat
def k0_dev105 (d0 : Dev nD) : Nat :=
  let c0_i32_3203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3180 : BitVec 32 := 22#32
  let v4038 : BitVec 32 := Scalar.addi v2 c22_i32_3180
  let c32_i32_3181 : BitVec 32 := 32#32
  let c0_i32_3182 : BitVec 32 := 0#32
  let v4039 : BitVec 1 := Scalar.cmpi .eq c32_i32_3181 c0_i32_3182
  let c1_i32_3183 : BitVec 32 := 1#32
  let v4040 : BitVec 32 := Scalar.select v4039 c1_i32_3183 c32_i32_3181
  let v4041 : BitVec 32 := Scalar.remsi v4038 v4040
  let c0_i32_3185 : BitVec 32 := 0#32
  let v4043 : BitVec 1 := Scalar.cmpi .slt v4041 c0_i32_3185
  let c0_i32_3186 : BitVec 32 := 0#32
  let v4044 : BitVec 1 := Scalar.cmpi .slt v4040 c0_i32_3186
  let v4045 : BitVec 1 := Scalar.xori v4043 v4044
  let c0_i32_3184 : BitVec 32 := 0#32
  let v4042 : BitVec 1 := Scalar.cmpi .ne v4041 c0_i32_3184
  let v4046 : BitVec 1 := Scalar.andi v4045 v4042
  let v4047 : BitVec 32 := Scalar.addi v4041 v4040
  let v4048 : BitVec 32 := Scalar.select v4046 v4047 v4041
  let c1_i32_3202 : BitVec 32 := 1#32
  let v4067 : BitVec 32 := Scalar.muli v4048 c1_i32_3202
  let v4068 : BitVec 32 := Scalar.addi c0_i32_3203 v4067
  v4068.toNat
def k0_dev106 (d0 : Dev nD) : Nat :=
  let c0_i32_3230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3207 : BitVec 32 := 24#32
  let v4077 : BitVec 32 := Scalar.addi v2 c24_i32_3207
  let c32_i32_3208 : BitVec 32 := 32#32
  let c0_i32_3209 : BitVec 32 := 0#32
  let v4078 : BitVec 1 := Scalar.cmpi .eq c32_i32_3208 c0_i32_3209
  let c1_i32_3210 : BitVec 32 := 1#32
  let v4079 : BitVec 32 := Scalar.select v4078 c1_i32_3210 c32_i32_3208
  let v4080 : BitVec 32 := Scalar.remsi v4077 v4079
  let c0_i32_3212 : BitVec 32 := 0#32
  let v4082 : BitVec 1 := Scalar.cmpi .slt v4080 c0_i32_3212
  let c0_i32_3213 : BitVec 32 := 0#32
  let v4083 : BitVec 1 := Scalar.cmpi .slt v4079 c0_i32_3213
  let v4084 : BitVec 1 := Scalar.xori v4082 v4083
  let c0_i32_3211 : BitVec 32 := 0#32
  let v4081 : BitVec 1 := Scalar.cmpi .ne v4080 c0_i32_3211
  let v4085 : BitVec 1 := Scalar.andi v4084 v4081
  let v4086 : BitVec 32 := Scalar.addi v4080 v4079
  let v4087 : BitVec 32 := Scalar.select v4085 v4086 v4080
  let c1_i32_3229 : BitVec 32 := 1#32
  let v4106 : BitVec 32 := Scalar.muli v4087 c1_i32_3229
  let v4107 : BitVec 32 := Scalar.addi c0_i32_3230 v4106
  v4107.toNat
def k0_dev107 (d0 : Dev nD) : Nat :=
  let c0_i32_3257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3234 : BitVec 32 := 26#32
  let v4116 : BitVec 32 := Scalar.addi v2 c26_i32_3234
  let c32_i32_3235 : BitVec 32 := 32#32
  let c0_i32_3236 : BitVec 32 := 0#32
  let v4117 : BitVec 1 := Scalar.cmpi .eq c32_i32_3235 c0_i32_3236
  let c1_i32_3237 : BitVec 32 := 1#32
  let v4118 : BitVec 32 := Scalar.select v4117 c1_i32_3237 c32_i32_3235
  let v4119 : BitVec 32 := Scalar.remsi v4116 v4118
  let c0_i32_3239 : BitVec 32 := 0#32
  let v4121 : BitVec 1 := Scalar.cmpi .slt v4119 c0_i32_3239
  let c0_i32_3240 : BitVec 32 := 0#32
  let v4122 : BitVec 1 := Scalar.cmpi .slt v4118 c0_i32_3240
  let v4123 : BitVec 1 := Scalar.xori v4121 v4122
  let c0_i32_3238 : BitVec 32 := 0#32
  let v4120 : BitVec 1 := Scalar.cmpi .ne v4119 c0_i32_3238
  let v4124 : BitVec 1 := Scalar.andi v4123 v4120
  let v4125 : BitVec 32 := Scalar.addi v4119 v4118
  let v4126 : BitVec 32 := Scalar.select v4124 v4125 v4119
  let c1_i32_3256 : BitVec 32 := 1#32
  let v4145 : BitVec 32 := Scalar.muli v4126 c1_i32_3256
  let v4146 : BitVec 32 := Scalar.addi c0_i32_3257 v4145
  v4146.toNat
def k0_dev108 (d0 : Dev nD) : Nat :=
  let c0_i32_3284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3261 : BitVec 32 := 28#32
  let v4155 : BitVec 32 := Scalar.addi v2 c28_i32_3261
  let c32_i32_3262 : BitVec 32 := 32#32
  let c0_i32_3263 : BitVec 32 := 0#32
  let v4156 : BitVec 1 := Scalar.cmpi .eq c32_i32_3262 c0_i32_3263
  let c1_i32_3264 : BitVec 32 := 1#32
  let v4157 : BitVec 32 := Scalar.select v4156 c1_i32_3264 c32_i32_3262
  let v4158 : BitVec 32 := Scalar.remsi v4155 v4157
  let c0_i32_3266 : BitVec 32 := 0#32
  let v4160 : BitVec 1 := Scalar.cmpi .slt v4158 c0_i32_3266
  let c0_i32_3267 : BitVec 32 := 0#32
  let v4161 : BitVec 1 := Scalar.cmpi .slt v4157 c0_i32_3267
  let v4162 : BitVec 1 := Scalar.xori v4160 v4161
  let c0_i32_3265 : BitVec 32 := 0#32
  let v4159 : BitVec 1 := Scalar.cmpi .ne v4158 c0_i32_3265
  let v4163 : BitVec 1 := Scalar.andi v4162 v4159
  let v4164 : BitVec 32 := Scalar.addi v4158 v4157
  let v4165 : BitVec 32 := Scalar.select v4163 v4164 v4158
  let c1_i32_3283 : BitVec 32 := 1#32
  let v4184 : BitVec 32 := Scalar.muli v4165 c1_i32_3283
  let v4185 : BitVec 32 := Scalar.addi c0_i32_3284 v4184
  v4185.toNat
def k0_dev109 (d0 : Dev nD) : Nat :=
  let c0_i32_3311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3288 : BitVec 32 := 30#32
  let v4194 : BitVec 32 := Scalar.addi v2 c30_i32_3288
  let c32_i32_3289 : BitVec 32 := 32#32
  let c0_i32_3290 : BitVec 32 := 0#32
  let v4195 : BitVec 1 := Scalar.cmpi .eq c32_i32_3289 c0_i32_3290
  let c1_i32_3291 : BitVec 32 := 1#32
  let v4196 : BitVec 32 := Scalar.select v4195 c1_i32_3291 c32_i32_3289
  let v4197 : BitVec 32 := Scalar.remsi v4194 v4196
  let c0_i32_3293 : BitVec 32 := 0#32
  let v4199 : BitVec 1 := Scalar.cmpi .slt v4197 c0_i32_3293
  let c0_i32_3294 : BitVec 32 := 0#32
  let v4200 : BitVec 1 := Scalar.cmpi .slt v4196 c0_i32_3294
  let v4201 : BitVec 1 := Scalar.xori v4199 v4200
  let c0_i32_3292 : BitVec 32 := 0#32
  let v4198 : BitVec 1 := Scalar.cmpi .ne v4197 c0_i32_3292
  let v4202 : BitVec 1 := Scalar.andi v4201 v4198
  let v4203 : BitVec 32 := Scalar.addi v4197 v4196
  let v4204 : BitVec 32 := Scalar.select v4202 v4203 v4197
  let c1_i32_3310 : BitVec 32 := 1#32
  let v4223 : BitVec 32 := Scalar.muli v4204 c1_i32_3310
  let v4224 : BitVec 32 := Scalar.addi c0_i32_3311 v4223
  v4224.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let c0_i32_9 : BitVec 32 := 0#32
  let v20 : BitVec 1 := Scalar.cmpi .sgt v2 c0_i32_9
  let v21 : BitVec 32 := Scalar.extui v20
  let c0_i32_10 : BitVec 32 := 0#32
  let v22 : BitVec 1 := Scalar.cmpi .slt v2 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v2 c2_i32_8
  let c0_i32_13 : BitVec 32 := 0#32
  let v32 : BitVec 1 := Scalar.cmpi .ne v31 c0_i32_13
  let v33 : BitVec 1 := Scalar.andi v30 v32
  let v19 : BitVec 32 := Scalar.divsi v2 c2_i32_8
  let c1_i32_14 : BitVec 32 := 1#32
  let v34 : BitVec 32 := Scalar.subi v19 c1_i32_14
  let v35 : BitVec 32 := Scalar.select v33 v34 v19
  let c32_i32_15 : BitVec 32 := 32#32
  let v36 : BitVec 32 := Scalar.muli v35 c32_i32_15
  let v37 : BitVec 32 := Scalar.addi v16 v36
  let v4353 : Index := Scalar.indexCast v37
  let c512_3495 : Index := 512#32
  ![v4353.toNat, 512]
def k0_dev110 (d0 : Dev nD) : Nat :=
  let c0_i32_3520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3505 : BitVec 32 := 2#32
  let v4367 : BitVec 32 := Scalar.addi v2 c2_i32_3505
  let c32_i32_3506 : BitVec 32 := 32#32
  let c0_i32_3507 : BitVec 32 := 0#32
  let v4368 : BitVec 1 := Scalar.cmpi .eq c32_i32_3506 c0_i32_3507
  let c1_i32_3508 : BitVec 32 := 1#32
  let v4369 : BitVec 32 := Scalar.select v4368 c1_i32_3508 c32_i32_3506
  let v4370 : BitVec 32 := Scalar.remsi v4367 v4369
  let c0_i32_3510 : BitVec 32 := 0#32
  let v4372 : BitVec 1 := Scalar.cmpi .slt v4370 c0_i32_3510
  let c0_i32_3511 : BitVec 32 := 0#32
  let v4373 : BitVec 1 := Scalar.cmpi .slt v4369 c0_i32_3511
  let v4374 : BitVec 1 := Scalar.xori v4372 v4373
  let c0_i32_3509 : BitVec 32 := 0#32
  let v4371 : BitVec 1 := Scalar.cmpi .ne v4370 c0_i32_3509
  let v4375 : BitVec 1 := Scalar.andi v4374 v4371
  let v4376 : BitVec 32 := Scalar.addi v4370 v4369
  let v4377 : BitVec 32 := Scalar.select v4375 v4376 v4370
  let c1_i32_3519 : BitVec 32 := 1#32
  let v4378 : BitVec 32 := Scalar.muli v4377 c1_i32_3519
  let v4379 : BitVec 32 := Scalar.addi c0_i32_3520 v4378
  v4379.toNat
def k0_dev111 (d0 : Dev nD) : Nat :=
  let c0_i32_3540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3525 : BitVec 32 := 4#32
  let v4388 : BitVec 32 := Scalar.addi v2 c4_i32_3525
  let c32_i32_3526 : BitVec 32 := 32#32
  let c0_i32_3527 : BitVec 32 := 0#32
  let v4389 : BitVec 1 := Scalar.cmpi .eq c32_i32_3526 c0_i32_3527
  let c1_i32_3528 : BitVec 32 := 1#32
  let v4390 : BitVec 32 := Scalar.select v4389 c1_i32_3528 c32_i32_3526
  let v4391 : BitVec 32 := Scalar.remsi v4388 v4390
  let c0_i32_3530 : BitVec 32 := 0#32
  let v4393 : BitVec 1 := Scalar.cmpi .slt v4391 c0_i32_3530
  let c0_i32_3531 : BitVec 32 := 0#32
  let v4394 : BitVec 1 := Scalar.cmpi .slt v4390 c0_i32_3531
  let v4395 : BitVec 1 := Scalar.xori v4393 v4394
  let c0_i32_3529 : BitVec 32 := 0#32
  let v4392 : BitVec 1 := Scalar.cmpi .ne v4391 c0_i32_3529
  let v4396 : BitVec 1 := Scalar.andi v4395 v4392
  let v4397 : BitVec 32 := Scalar.addi v4391 v4390
  let v4398 : BitVec 32 := Scalar.select v4396 v4397 v4391
  let c1_i32_3539 : BitVec 32 := 1#32
  let v4399 : BitVec 32 := Scalar.muli v4398 c1_i32_3539
  let v4400 : BitVec 32 := Scalar.addi c0_i32_3540 v4399
  v4400.toNat
def k0_dev112 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3545 : BitVec 32 := 6#32
  let v4409 : BitVec 32 := Scalar.addi v2 c6_i32_3545
  let c32_i32_3546 : BitVec 32 := 32#32
  let c0_i32_3547 : BitVec 32 := 0#32
  let v4410 : BitVec 1 := Scalar.cmpi .eq c32_i32_3546 c0_i32_3547
  let c1_i32_3548 : BitVec 32 := 1#32
  let v4411 : BitVec 32 := Scalar.select v4410 c1_i32_3548 c32_i32_3546
  let v4412 : BitVec 32 := Scalar.remsi v4409 v4411
  let c0_i32_3550 : BitVec 32 := 0#32
  let v4414 : BitVec 1 := Scalar.cmpi .slt v4412 c0_i32_3550
  let c0_i32_3551 : BitVec 32 := 0#32
  let v4415 : BitVec 1 := Scalar.cmpi .slt v4411 c0_i32_3551
  let v4416 : BitVec 1 := Scalar.xori v4414 v4415
  let c0_i32_3549 : BitVec 32 := 0#32
  let v4413 : BitVec 1 := Scalar.cmpi .ne v4412 c0_i32_3549
  let v4417 : BitVec 1 := Scalar.andi v4416 v4413
  let v4418 : BitVec 32 := Scalar.addi v4412 v4411
  let v4419 : BitVec 32 := Scalar.select v4417 v4418 v4412
  let c1_i32_3559 : BitVec 32 := 1#32
  let v4420 : BitVec 32 := Scalar.muli v4419 c1_i32_3559
  let v4421 : BitVec 32 := Scalar.addi c0_i32_3560 v4420
  v4421.toNat
def k0_dev113 (d0 : Dev nD) : Nat :=
  let c0_i32_3580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3565 : BitVec 32 := 8#32
  let v4430 : BitVec 32 := Scalar.addi v2 c8_i32_3565
  let c32_i32_3566 : BitVec 32 := 32#32
  let c0_i32_3567 : BitVec 32 := 0#32
  let v4431 : BitVec 1 := Scalar.cmpi .eq c32_i32_3566 c0_i32_3567
  let c1_i32_3568 : BitVec 32 := 1#32
  let v4432 : BitVec 32 := Scalar.select v4431 c1_i32_3568 c32_i32_3566
  let v4433 : BitVec 32 := Scalar.remsi v4430 v4432
  let c0_i32_3570 : BitVec 32 := 0#32
  let v4435 : BitVec 1 := Scalar.cmpi .slt v4433 c0_i32_3570
  let c0_i32_3571 : BitVec 32 := 0#32
  let v4436 : BitVec 1 := Scalar.cmpi .slt v4432 c0_i32_3571
  let v4437 : BitVec 1 := Scalar.xori v4435 v4436
  let c0_i32_3569 : BitVec 32 := 0#32
  let v4434 : BitVec 1 := Scalar.cmpi .ne v4433 c0_i32_3569
  let v4438 : BitVec 1 := Scalar.andi v4437 v4434
  let v4439 : BitVec 32 := Scalar.addi v4433 v4432
  let v4440 : BitVec 32 := Scalar.select v4438 v4439 v4433
  let c1_i32_3579 : BitVec 32 := 1#32
  let v4441 : BitVec 32 := Scalar.muli v4440 c1_i32_3579
  let v4442 : BitVec 32 := Scalar.addi c0_i32_3580 v4441
  v4442.toNat
def k0_dev114 (d0 : Dev nD) : Nat :=
  let c0_i32_3600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3585 : BitVec 32 := 10#32
  let v4451 : BitVec 32 := Scalar.addi v2 c10_i32_3585
  let c32_i32_3586 : BitVec 32 := 32#32
  let c0_i32_3587 : BitVec 32 := 0#32
  let v4452 : BitVec 1 := Scalar.cmpi .eq c32_i32_3586 c0_i32_3587
  let c1_i32_3588 : BitVec 32 := 1#32
  let v4453 : BitVec 32 := Scalar.select v4452 c1_i32_3588 c32_i32_3586
  let v4454 : BitVec 32 := Scalar.remsi v4451 v4453
  let c0_i32_3590 : BitVec 32 := 0#32
  let v4456 : BitVec 1 := Scalar.cmpi .slt v4454 c0_i32_3590
  let c0_i32_3591 : BitVec 32 := 0#32
  let v4457 : BitVec 1 := Scalar.cmpi .slt v4453 c0_i32_3591
  let v4458 : BitVec 1 := Scalar.xori v4456 v4457
  let c0_i32_3589 : BitVec 32 := 0#32
  let v4455 : BitVec 1 := Scalar.cmpi .ne v4454 c0_i32_3589
  let v4459 : BitVec 1 := Scalar.andi v4458 v4455
  let v4460 : BitVec 32 := Scalar.addi v4454 v4453
  let v4461 : BitVec 32 := Scalar.select v4459 v4460 v4454
  let c1_i32_3599 : BitVec 32 := 1#32
  let v4462 : BitVec 32 := Scalar.muli v4461 c1_i32_3599
  let v4463 : BitVec 32 := Scalar.addi c0_i32_3600 v4462
  v4463.toNat
def k0_dev115 (d0 : Dev nD) : Nat :=
  let c0_i32_3620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3605 : BitVec 32 := 12#32
  let v4472 : BitVec 32 := Scalar.addi v2 c12_i32_3605
  let c32_i32_3606 : BitVec 32 := 32#32
  let c0_i32_3607 : BitVec 32 := 0#32
  let v4473 : BitVec 1 := Scalar.cmpi .eq c32_i32_3606 c0_i32_3607
  let c1_i32_3608 : BitVec 32 := 1#32
  let v4474 : BitVec 32 := Scalar.select v4473 c1_i32_3608 c32_i32_3606
  let v4475 : BitVec 32 := Scalar.remsi v4472 v4474
  let c0_i32_3610 : BitVec 32 := 0#32
  let v4477 : BitVec 1 := Scalar.cmpi .slt v4475 c0_i32_3610
  let c0_i32_3611 : BitVec 32 := 0#32
  let v4478 : BitVec 1 := Scalar.cmpi .slt v4474 c0_i32_3611
  let v4479 : BitVec 1 := Scalar.xori v4477 v4478
  let c0_i32_3609 : BitVec 32 := 0#32
  let v4476 : BitVec 1 := Scalar.cmpi .ne v4475 c0_i32_3609
  let v4480 : BitVec 1 := Scalar.andi v4479 v4476
  let v4481 : BitVec 32 := Scalar.addi v4475 v4474
  let v4482 : BitVec 32 := Scalar.select v4480 v4481 v4475
  let c1_i32_3619 : BitVec 32 := 1#32
  let v4483 : BitVec 32 := Scalar.muli v4482 c1_i32_3619
  let v4484 : BitVec 32 := Scalar.addi c0_i32_3620 v4483
  v4484.toNat
def k0_dev116 (d0 : Dev nD) : Nat :=
  let c0_i32_3640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3625 : BitVec 32 := 14#32
  let v4493 : BitVec 32 := Scalar.addi v2 c14_i32_3625
  let c32_i32_3626 : BitVec 32 := 32#32
  let c0_i32_3627 : BitVec 32 := 0#32
  let v4494 : BitVec 1 := Scalar.cmpi .eq c32_i32_3626 c0_i32_3627
  let c1_i32_3628 : BitVec 32 := 1#32
  let v4495 : BitVec 32 := Scalar.select v4494 c1_i32_3628 c32_i32_3626
  let v4496 : BitVec 32 := Scalar.remsi v4493 v4495
  let c0_i32_3630 : BitVec 32 := 0#32
  let v4498 : BitVec 1 := Scalar.cmpi .slt v4496 c0_i32_3630
  let c0_i32_3631 : BitVec 32 := 0#32
  let v4499 : BitVec 1 := Scalar.cmpi .slt v4495 c0_i32_3631
  let v4500 : BitVec 1 := Scalar.xori v4498 v4499
  let c0_i32_3629 : BitVec 32 := 0#32
  let v4497 : BitVec 1 := Scalar.cmpi .ne v4496 c0_i32_3629
  let v4501 : BitVec 1 := Scalar.andi v4500 v4497
  let v4502 : BitVec 32 := Scalar.addi v4496 v4495
  let v4503 : BitVec 32 := Scalar.select v4501 v4502 v4496
  let c1_i32_3639 : BitVec 32 := 1#32
  let v4504 : BitVec 32 := Scalar.muli v4503 c1_i32_3639
  let v4505 : BitVec 32 := Scalar.addi c0_i32_3640 v4504
  v4505.toNat
def k0_dev117 (d0 : Dev nD) : Nat :=
  let c0_i32_3660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3645 : BitVec 32 := 16#32
  let v4514 : BitVec 32 := Scalar.addi v2 c16_i32_3645
  let c32_i32_3646 : BitVec 32 := 32#32
  let c0_i32_3647 : BitVec 32 := 0#32
  let v4515 : BitVec 1 := Scalar.cmpi .eq c32_i32_3646 c0_i32_3647
  let c1_i32_3648 : BitVec 32 := 1#32
  let v4516 : BitVec 32 := Scalar.select v4515 c1_i32_3648 c32_i32_3646
  let v4517 : BitVec 32 := Scalar.remsi v4514 v4516
  let c0_i32_3650 : BitVec 32 := 0#32
  let v4519 : BitVec 1 := Scalar.cmpi .slt v4517 c0_i32_3650
  let c0_i32_3651 : BitVec 32 := 0#32
  let v4520 : BitVec 1 := Scalar.cmpi .slt v4516 c0_i32_3651
  let v4521 : BitVec 1 := Scalar.xori v4519 v4520
  let c0_i32_3649 : BitVec 32 := 0#32
  let v4518 : BitVec 1 := Scalar.cmpi .ne v4517 c0_i32_3649
  let v4522 : BitVec 1 := Scalar.andi v4521 v4518
  let v4523 : BitVec 32 := Scalar.addi v4517 v4516
  let v4524 : BitVec 32 := Scalar.select v4522 v4523 v4517
  let c1_i32_3659 : BitVec 32 := 1#32
  let v4525 : BitVec 32 := Scalar.muli v4524 c1_i32_3659
  let v4526 : BitVec 32 := Scalar.addi c0_i32_3660 v4525
  v4526.toNat
def k0_dev118 (d0 : Dev nD) : Nat :=
  let c0_i32_3680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3665 : BitVec 32 := 18#32
  let v4535 : BitVec 32 := Scalar.addi v2 c18_i32_3665
  let c32_i32_3666 : BitVec 32 := 32#32
  let c0_i32_3667 : BitVec 32 := 0#32
  let v4536 : BitVec 1 := Scalar.cmpi .eq c32_i32_3666 c0_i32_3667
  let c1_i32_3668 : BitVec 32 := 1#32
  let v4537 : BitVec 32 := Scalar.select v4536 c1_i32_3668 c32_i32_3666
  let v4538 : BitVec 32 := Scalar.remsi v4535 v4537
  let c0_i32_3670 : BitVec 32 := 0#32
  let v4540 : BitVec 1 := Scalar.cmpi .slt v4538 c0_i32_3670
  let c0_i32_3671 : BitVec 32 := 0#32
  let v4541 : BitVec 1 := Scalar.cmpi .slt v4537 c0_i32_3671
  let v4542 : BitVec 1 := Scalar.xori v4540 v4541
  let c0_i32_3669 : BitVec 32 := 0#32
  let v4539 : BitVec 1 := Scalar.cmpi .ne v4538 c0_i32_3669
  let v4543 : BitVec 1 := Scalar.andi v4542 v4539
  let v4544 : BitVec 32 := Scalar.addi v4538 v4537
  let v4545 : BitVec 32 := Scalar.select v4543 v4544 v4538
  let c1_i32_3679 : BitVec 32 := 1#32
  let v4546 : BitVec 32 := Scalar.muli v4545 c1_i32_3679
  let v4547 : BitVec 32 := Scalar.addi c0_i32_3680 v4546
  v4547.toNat
def k0_dev119 (d0 : Dev nD) : Nat :=
  let c0_i32_3700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3685 : BitVec 32 := 20#32
  let v4556 : BitVec 32 := Scalar.addi v2 c20_i32_3685
  let c32_i32_3686 : BitVec 32 := 32#32
  let c0_i32_3687 : BitVec 32 := 0#32
  let v4557 : BitVec 1 := Scalar.cmpi .eq c32_i32_3686 c0_i32_3687
  let c1_i32_3688 : BitVec 32 := 1#32
  let v4558 : BitVec 32 := Scalar.select v4557 c1_i32_3688 c32_i32_3686
  let v4559 : BitVec 32 := Scalar.remsi v4556 v4558
  let c0_i32_3690 : BitVec 32 := 0#32
  let v4561 : BitVec 1 := Scalar.cmpi .slt v4559 c0_i32_3690
  let c0_i32_3691 : BitVec 32 := 0#32
  let v4562 : BitVec 1 := Scalar.cmpi .slt v4558 c0_i32_3691
  let v4563 : BitVec 1 := Scalar.xori v4561 v4562
  let c0_i32_3689 : BitVec 32 := 0#32
  let v4560 : BitVec 1 := Scalar.cmpi .ne v4559 c0_i32_3689
  let v4564 : BitVec 1 := Scalar.andi v4563 v4560
  let v4565 : BitVec 32 := Scalar.addi v4559 v4558
  let v4566 : BitVec 32 := Scalar.select v4564 v4565 v4559
  let c1_i32_3699 : BitVec 32 := 1#32
  let v4567 : BitVec 32 := Scalar.muli v4566 c1_i32_3699
  let v4568 : BitVec 32 := Scalar.addi c0_i32_3700 v4567
  v4568.toNat
def k0_dev120 (d0 : Dev nD) : Nat :=
  let c0_i32_3720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3705 : BitVec 32 := 22#32
  let v4577 : BitVec 32 := Scalar.addi v2 c22_i32_3705
  let c32_i32_3706 : BitVec 32 := 32#32
  let c0_i32_3707 : BitVec 32 := 0#32
  let v4578 : BitVec 1 := Scalar.cmpi .eq c32_i32_3706 c0_i32_3707
  let c1_i32_3708 : BitVec 32 := 1#32
  let v4579 : BitVec 32 := Scalar.select v4578 c1_i32_3708 c32_i32_3706
  let v4580 : BitVec 32 := Scalar.remsi v4577 v4579
  let c0_i32_3710 : BitVec 32 := 0#32
  let v4582 : BitVec 1 := Scalar.cmpi .slt v4580 c0_i32_3710
  let c0_i32_3711 : BitVec 32 := 0#32
  let v4583 : BitVec 1 := Scalar.cmpi .slt v4579 c0_i32_3711
  let v4584 : BitVec 1 := Scalar.xori v4582 v4583
  let c0_i32_3709 : BitVec 32 := 0#32
  let v4581 : BitVec 1 := Scalar.cmpi .ne v4580 c0_i32_3709
  let v4585 : BitVec 1 := Scalar.andi v4584 v4581
  let v4586 : BitVec 32 := Scalar.addi v4580 v4579
  let v4587 : BitVec 32 := Scalar.select v4585 v4586 v4580
  let c1_i32_3719 : BitVec 32 := 1#32
  let v4588 : BitVec 32 := Scalar.muli v4587 c1_i32_3719
  let v4589 : BitVec 32 := Scalar.addi c0_i32_3720 v4588
  v4589.toNat
def k0_dev121 (d0 : Dev nD) : Nat :=
  let c0_i32_3740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3725 : BitVec 32 := 24#32
  let v4598 : BitVec 32 := Scalar.addi v2 c24_i32_3725
  let c32_i32_3726 : BitVec 32 := 32#32
  let c0_i32_3727 : BitVec 32 := 0#32
  let v4599 : BitVec 1 := Scalar.cmpi .eq c32_i32_3726 c0_i32_3727
  let c1_i32_3728 : BitVec 32 := 1#32
  let v4600 : BitVec 32 := Scalar.select v4599 c1_i32_3728 c32_i32_3726
  let v4601 : BitVec 32 := Scalar.remsi v4598 v4600
  let c0_i32_3730 : BitVec 32 := 0#32
  let v4603 : BitVec 1 := Scalar.cmpi .slt v4601 c0_i32_3730
  let c0_i32_3731 : BitVec 32 := 0#32
  let v4604 : BitVec 1 := Scalar.cmpi .slt v4600 c0_i32_3731
  let v4605 : BitVec 1 := Scalar.xori v4603 v4604
  let c0_i32_3729 : BitVec 32 := 0#32
  let v4602 : BitVec 1 := Scalar.cmpi .ne v4601 c0_i32_3729
  let v4606 : BitVec 1 := Scalar.andi v4605 v4602
  let v4607 : BitVec 32 := Scalar.addi v4601 v4600
  let v4608 : BitVec 32 := Scalar.select v4606 v4607 v4601
  let c1_i32_3739 : BitVec 32 := 1#32
  let v4609 : BitVec 32 := Scalar.muli v4608 c1_i32_3739
  let v4610 : BitVec 32 := Scalar.addi c0_i32_3740 v4609
  v4610.toNat
def k0_dev122 (d0 : Dev nD) : Nat :=
  let c0_i32_3760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3745 : BitVec 32 := 26#32
  let v4619 : BitVec 32 := Scalar.addi v2 c26_i32_3745
  let c32_i32_3746 : BitVec 32 := 32#32
  let c0_i32_3747 : BitVec 32 := 0#32
  let v4620 : BitVec 1 := Scalar.cmpi .eq c32_i32_3746 c0_i32_3747
  let c1_i32_3748 : BitVec 32 := 1#32
  let v4621 : BitVec 32 := Scalar.select v4620 c1_i32_3748 c32_i32_3746
  let v4622 : BitVec 32 := Scalar.remsi v4619 v4621
  let c0_i32_3750 : BitVec 32 := 0#32
  let v4624 : BitVec 1 := Scalar.cmpi .slt v4622 c0_i32_3750
  let c0_i32_3751 : BitVec 32 := 0#32
  let v4625 : BitVec 1 := Scalar.cmpi .slt v4621 c0_i32_3751
  let v4626 : BitVec 1 := Scalar.xori v4624 v4625
  let c0_i32_3749 : BitVec 32 := 0#32
  let v4623 : BitVec 1 := Scalar.cmpi .ne v4622 c0_i32_3749
  let v4627 : BitVec 1 := Scalar.andi v4626 v4623
  let v4628 : BitVec 32 := Scalar.addi v4622 v4621
  let v4629 : BitVec 32 := Scalar.select v4627 v4628 v4622
  let c1_i32_3759 : BitVec 32 := 1#32
  let v4630 : BitVec 32 := Scalar.muli v4629 c1_i32_3759
  let v4631 : BitVec 32 := Scalar.addi c0_i32_3760 v4630
  v4631.toNat
def k0_dev123 (d0 : Dev nD) : Nat :=
  let c0_i32_3780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3765 : BitVec 32 := 28#32
  let v4640 : BitVec 32 := Scalar.addi v2 c28_i32_3765
  let c32_i32_3766 : BitVec 32 := 32#32
  let c0_i32_3767 : BitVec 32 := 0#32
  let v4641 : BitVec 1 := Scalar.cmpi .eq c32_i32_3766 c0_i32_3767
  let c1_i32_3768 : BitVec 32 := 1#32
  let v4642 : BitVec 32 := Scalar.select v4641 c1_i32_3768 c32_i32_3766
  let v4643 : BitVec 32 := Scalar.remsi v4640 v4642
  let c0_i32_3770 : BitVec 32 := 0#32
  let v4645 : BitVec 1 := Scalar.cmpi .slt v4643 c0_i32_3770
  let c0_i32_3771 : BitVec 32 := 0#32
  let v4646 : BitVec 1 := Scalar.cmpi .slt v4642 c0_i32_3771
  let v4647 : BitVec 1 := Scalar.xori v4645 v4646
  let c0_i32_3769 : BitVec 32 := 0#32
  let v4644 : BitVec 1 := Scalar.cmpi .ne v4643 c0_i32_3769
  let v4648 : BitVec 1 := Scalar.andi v4647 v4644
  let v4649 : BitVec 32 := Scalar.addi v4643 v4642
  let v4650 : BitVec 32 := Scalar.select v4648 v4649 v4643
  let c1_i32_3779 : BitVec 32 := 1#32
  let v4651 : BitVec 32 := Scalar.muli v4650 c1_i32_3779
  let v4652 : BitVec 32 := Scalar.addi c0_i32_3780 v4651
  v4652.toNat
def k0_dev124 (d0 : Dev nD) : Nat :=
  let c0_i32_3800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3785 : BitVec 32 := 30#32
  let v4661 : BitVec 32 := Scalar.addi v2 c30_i32_3785
  let c32_i32_3786 : BitVec 32 := 32#32
  let c0_i32_3787 : BitVec 32 := 0#32
  let v4662 : BitVec 1 := Scalar.cmpi .eq c32_i32_3786 c0_i32_3787
  let c1_i32_3788 : BitVec 32 := 1#32
  let v4663 : BitVec 32 := Scalar.select v4662 c1_i32_3788 c32_i32_3786
  let v4664 : BitVec 32 := Scalar.remsi v4661 v4663
  let c0_i32_3790 : BitVec 32 := 0#32
  let v4666 : BitVec 1 := Scalar.cmpi .slt v4664 c0_i32_3790
  let c0_i32_3791 : BitVec 32 := 0#32
  let v4667 : BitVec 1 := Scalar.cmpi .slt v4663 c0_i32_3791
  let v4668 : BitVec 1 := Scalar.xori v4666 v4667
  let c0_i32_3789 : BitVec 32 := 0#32
  let v4665 : BitVec 1 := Scalar.cmpi .ne v4664 c0_i32_3789
  let v4669 : BitVec 1 := Scalar.andi v4668 v4665
  let v4670 : BitVec 32 := Scalar.addi v4664 v4663
  let v4671 : BitVec 32 := Scalar.select v4669 v4670 v4664
  let c1_i32_3799 : BitVec 32 := 1#32
  let v4672 : BitVec 32 := Scalar.muli v4671 c1_i32_3799
  let v4673 : BitVec 32 := Scalar.addi c0_i32_3800 v4672
  v4673.toNat
def k0_off15 (d0 : Dev nD) (c2_i32_4000 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v4802 : BitVec 32 := Scalar.subi v2 c2_i32_4000
  let c32_i32_4001 : BitVec 32 := 32#32
  let c0_i32_4002 : BitVec 32 := 0#32
  let v4803 : BitVec 1 := Scalar.cmpi .eq c32_i32_4001 c0_i32_4002
  let c1_i32_4003 : BitVec 32 := 1#32
  let v4804 : BitVec 32 := Scalar.select v4803 c1_i32_4003 c32_i32_4001
  let v4805 : BitVec 32 := Scalar.remsi v4802 v4804
  let c0_i32_4005 : BitVec 32 := 0#32
  let v4807 : BitVec 1 := Scalar.cmpi .slt v4805 c0_i32_4005
  let c0_i32_4006 : BitVec 32 := 0#32
  let v4808 : BitVec 1 := Scalar.cmpi .slt v4804 c0_i32_4006
  let v4809 : BitVec 1 := Scalar.xori v4807 v4808
  let c0_i32_4004 : BitVec 32 := 0#32
  let v4806 : BitVec 1 := Scalar.cmpi .ne v4805 c0_i32_4004
  let v4810 : BitVec 1 := Scalar.andi v4809 v4806
  let v4811 : BitVec 32 := Scalar.addi v4805 v4804
  let v4812 : BitVec 32 := Scalar.select v4810 v4811 v4805
  let c0_i32_4008 : BitVec 32 := 0#32
  let v4814 : BitVec 1 := Scalar.cmpi .sgt v4812 c0_i32_4008
  let v4815 : BitVec 32 := Scalar.extui v4814
  let c0_i32_4009 : BitVec 32 := 0#32
  let v4816 : BitVec 1 := Scalar.cmpi .slt v4812 c0_i32_4009
  let v4817 : BitVec 32 := Scalar.extui v4816
  let v4818 : BitVec 32 := Scalar.subi v4815 v4817
  let c2_i32_4007 : BitVec 32 := 2#32
  let c0_i32_4010 : BitVec 32 := 0#32
  let v4819 : BitVec 1 := Scalar.cmpi .sgt c2_i32_4007 c0_i32_4010
  let v4820 : BitVec 32 := Scalar.extui v4819
  let c0_i32_4011 : BitVec 32 := 0#32
  let v4821 : BitVec 1 := Scalar.cmpi .slt c2_i32_4007 c0_i32_4011
  let v4822 : BitVec 32 := Scalar.extui v4821
  let v4823 : BitVec 32 := Scalar.subi v4820 v4822
  let v4824 : BitVec 1 := Scalar.cmpi .ne v4818 v4823
  let v4825 : BitVec 32 := Scalar.remsi v4812 c2_i32_4007
  let c0_i32_4012 : BitVec 32 := 0#32
  let v4826 : BitVec 1 := Scalar.cmpi .ne v4825 c0_i32_4012
  let v4827 : BitVec 1 := Scalar.andi v4824 v4826
  let v4813 : BitVec 32 := Scalar.divsi v4812 c2_i32_4007
  let c1_i32_4013 : BitVec 32 := 1#32
  let v4828 : BitVec 32 := Scalar.subi v4813 c1_i32_4013
  let v4829 : BitVec 32 := Scalar.select v4827 v4828 v4813
  let c32_i32_4014 : BitVec 32 := 32#32
  let v4830 : BitVec 32 := Scalar.muli v4829 c32_i32_4014
  let v4831 : BitVec 32 := Scalar.addi v16 v4830
  let v4835 : Index := Scalar.indexCast v4831
  let c256_4019 : Index := 256#32
  ![v4835.toNat, 256]
def k0_dev125 (d0 : Dev nD) : Nat :=
  let c0_i32_4309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_4308 : BitVec 32 := 1#32
  let v5334 : BitVec 32 := Scalar.muli v15 c1_i32_4308
  let v5335 : BitVec 32 := Scalar.addi c0_i32_4309 v5334
  v5335.toNat
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let c0_i32_9 : BitVec 32 := 0#32
  let v20 : BitVec 1 := Scalar.cmpi .sgt v2 c0_i32_9
  let v21 : BitVec 32 := Scalar.extui v20
  let c0_i32_10 : BitVec 32 := 0#32
  let v22 : BitVec 1 := Scalar.cmpi .slt v2 c0_i32_10
  let v23 : BitVec 32 := Scalar.extui v22
  let v24 : BitVec 32 := Scalar.subi v21 v23
  let c2_i32_8 : BitVec 32 := 2#32
  let c0_i32_11 : BitVec 32 := 0#32
  let v25 : BitVec 1 := Scalar.cmpi .sgt c2_i32_8 c0_i32_11
  let v26 : BitVec 32 := Scalar.extui v25
  let c0_i32_12 : BitVec 32 := 0#32
  let v27 : BitVec 1 := Scalar.cmpi .slt c2_i32_8 c0_i32_12
  let v28 : BitVec 32 := Scalar.extui v27
  let v29 : BitVec 32 := Scalar.subi v26 v28
  let v30 : BitVec 1 := Scalar.cmpi .ne v24 v29
  let v31 : BitVec 32 := Scalar.remsi v2 c2_i32_8
  let c0_i32_13 : BitVec 32 := 0#32
  let v32 : BitVec 1 := Scalar.cmpi .ne v31 c0_i32_13
  let v33 : BitVec 1 := Scalar.andi v30 v32
  let v19 : BitVec 32 := Scalar.divsi v2 c2_i32_8
  let c1_i32_14 : BitVec 32 := 1#32
  let v34 : BitVec 32 := Scalar.subi v19 c1_i32_14
  let v35 : BitVec 32 := Scalar.select v33 v34 v19
  let c32_i32_15 : BitVec 32 := 32#32
  let v36 : BitVec 32 := Scalar.muli v35 c32_i32_15
  let v37 : BitVec 32 := Scalar.addi v16 v36
  let v5464 : Index := Scalar.indexCast v37
  let c768_4494 : Index := 768#32
  ![v5464.toNat, 768]
def k0_dev126 (d0 : Dev nD) : Nat :=
  let c0_i32_4519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4504 : BitVec 32 := 2#32
  let v5478 : BitVec 32 := Scalar.addi v2 c2_i32_4504
  let c32_i32_4505 : BitVec 32 := 32#32
  let c0_i32_4506 : BitVec 32 := 0#32
  let v5479 : BitVec 1 := Scalar.cmpi .eq c32_i32_4505 c0_i32_4506
  let c1_i32_4507 : BitVec 32 := 1#32
  let v5480 : BitVec 32 := Scalar.select v5479 c1_i32_4507 c32_i32_4505
  let v5481 : BitVec 32 := Scalar.remsi v5478 v5480
  let c0_i32_4509 : BitVec 32 := 0#32
  let v5483 : BitVec 1 := Scalar.cmpi .slt v5481 c0_i32_4509
  let c0_i32_4510 : BitVec 32 := 0#32
  let v5484 : BitVec 1 := Scalar.cmpi .slt v5480 c0_i32_4510
  let v5485 : BitVec 1 := Scalar.xori v5483 v5484
  let c0_i32_4508 : BitVec 32 := 0#32
  let v5482 : BitVec 1 := Scalar.cmpi .ne v5481 c0_i32_4508
  let v5486 : BitVec 1 := Scalar.andi v5485 v5482
  let v5487 : BitVec 32 := Scalar.addi v5481 v5480
  let v5488 : BitVec 32 := Scalar.select v5486 v5487 v5481
  let c1_i32_4518 : BitVec 32 := 1#32
  let v5489 : BitVec 32 := Scalar.muli v5488 c1_i32_4518
  let v5490 : BitVec 32 := Scalar.addi c0_i32_4519 v5489
  v5490.toNat
def k0_dev127 (d0 : Dev nD) : Nat :=
  let c0_i32_4539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4524 : BitVec 32 := 4#32
  let v5499 : BitVec 32 := Scalar.addi v2 c4_i32_4524
  let c32_i32_4525 : BitVec 32 := 32#32
  let c0_i32_4526 : BitVec 32 := 0#32
  let v5500 : BitVec 1 := Scalar.cmpi .eq c32_i32_4525 c0_i32_4526
  let c1_i32_4527 : BitVec 32 := 1#32
  let v5501 : BitVec 32 := Scalar.select v5500 c1_i32_4527 c32_i32_4525
  let v5502 : BitVec 32 := Scalar.remsi v5499 v5501
  let c0_i32_4529 : BitVec 32 := 0#32
  let v5504 : BitVec 1 := Scalar.cmpi .slt v5502 c0_i32_4529
  let c0_i32_4530 : BitVec 32 := 0#32
  let v5505 : BitVec 1 := Scalar.cmpi .slt v5501 c0_i32_4530
  let v5506 : BitVec 1 := Scalar.xori v5504 v5505
  let c0_i32_4528 : BitVec 32 := 0#32
  let v5503 : BitVec 1 := Scalar.cmpi .ne v5502 c0_i32_4528
  let v5507 : BitVec 1 := Scalar.andi v5506 v5503
  let v5508 : BitVec 32 := Scalar.addi v5502 v5501
  let v5509 : BitVec 32 := Scalar.select v5507 v5508 v5502
  let c1_i32_4538 : BitVec 32 := 1#32
  let v5510 : BitVec 32 := Scalar.muli v5509 c1_i32_4538
  let v5511 : BitVec 32 := Scalar.addi c0_i32_4539 v5510
  v5511.toNat
def k0_dev128 (d0 : Dev nD) : Nat :=
  let c0_i32_4559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4544 : BitVec 32 := 6#32
  let v5520 : BitVec 32 := Scalar.addi v2 c6_i32_4544
  let c32_i32_4545 : BitVec 32 := 32#32
  let c0_i32_4546 : BitVec 32 := 0#32
  let v5521 : BitVec 1 := Scalar.cmpi .eq c32_i32_4545 c0_i32_4546
  let c1_i32_4547 : BitVec 32 := 1#32
  let v5522 : BitVec 32 := Scalar.select v5521 c1_i32_4547 c32_i32_4545
  let v5523 : BitVec 32 := Scalar.remsi v5520 v5522
  let c0_i32_4549 : BitVec 32 := 0#32
  let v5525 : BitVec 1 := Scalar.cmpi .slt v5523 c0_i32_4549
  let c0_i32_4550 : BitVec 32 := 0#32
  let v5526 : BitVec 1 := Scalar.cmpi .slt v5522 c0_i32_4550
  let v5527 : BitVec 1 := Scalar.xori v5525 v5526
  let c0_i32_4548 : BitVec 32 := 0#32
  let v5524 : BitVec 1 := Scalar.cmpi .ne v5523 c0_i32_4548
  let v5528 : BitVec 1 := Scalar.andi v5527 v5524
  let v5529 : BitVec 32 := Scalar.addi v5523 v5522
  let v5530 : BitVec 32 := Scalar.select v5528 v5529 v5523
  let c1_i32_4558 : BitVec 32 := 1#32
  let v5531 : BitVec 32 := Scalar.muli v5530 c1_i32_4558
  let v5532 : BitVec 32 := Scalar.addi c0_i32_4559 v5531
  v5532.toNat
def k0_dev129 (d0 : Dev nD) : Nat :=
  let c0_i32_4579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4564 : BitVec 32 := 8#32
  let v5541 : BitVec 32 := Scalar.addi v2 c8_i32_4564
  let c32_i32_4565 : BitVec 32 := 32#32
  let c0_i32_4566 : BitVec 32 := 0#32
  let v5542 : BitVec 1 := Scalar.cmpi .eq c32_i32_4565 c0_i32_4566
  let c1_i32_4567 : BitVec 32 := 1#32
  let v5543 : BitVec 32 := Scalar.select v5542 c1_i32_4567 c32_i32_4565
  let v5544 : BitVec 32 := Scalar.remsi v5541 v5543
  let c0_i32_4569 : BitVec 32 := 0#32
  let v5546 : BitVec 1 := Scalar.cmpi .slt v5544 c0_i32_4569
  let c0_i32_4570 : BitVec 32 := 0#32
  let v5547 : BitVec 1 := Scalar.cmpi .slt v5543 c0_i32_4570
  let v5548 : BitVec 1 := Scalar.xori v5546 v5547
  let c0_i32_4568 : BitVec 32 := 0#32
  let v5545 : BitVec 1 := Scalar.cmpi .ne v5544 c0_i32_4568
  let v5549 : BitVec 1 := Scalar.andi v5548 v5545
  let v5550 : BitVec 32 := Scalar.addi v5544 v5543
  let v5551 : BitVec 32 := Scalar.select v5549 v5550 v5544
  let c1_i32_4578 : BitVec 32 := 1#32
  let v5552 : BitVec 32 := Scalar.muli v5551 c1_i32_4578
  let v5553 : BitVec 32 := Scalar.addi c0_i32_4579 v5552
  v5553.toNat
def k0_dev130 (d0 : Dev nD) : Nat :=
  let c0_i32_4599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4584 : BitVec 32 := 10#32
  let v5562 : BitVec 32 := Scalar.addi v2 c10_i32_4584
  let c32_i32_4585 : BitVec 32 := 32#32
  let c0_i32_4586 : BitVec 32 := 0#32
  let v5563 : BitVec 1 := Scalar.cmpi .eq c32_i32_4585 c0_i32_4586
  let c1_i32_4587 : BitVec 32 := 1#32
  let v5564 : BitVec 32 := Scalar.select v5563 c1_i32_4587 c32_i32_4585
  let v5565 : BitVec 32 := Scalar.remsi v5562 v5564
  let c0_i32_4589 : BitVec 32 := 0#32
  let v5567 : BitVec 1 := Scalar.cmpi .slt v5565 c0_i32_4589
  let c0_i32_4590 : BitVec 32 := 0#32
  let v5568 : BitVec 1 := Scalar.cmpi .slt v5564 c0_i32_4590
  let v5569 : BitVec 1 := Scalar.xori v5567 v5568
  let c0_i32_4588 : BitVec 32 := 0#32
  let v5566 : BitVec 1 := Scalar.cmpi .ne v5565 c0_i32_4588
  let v5570 : BitVec 1 := Scalar.andi v5569 v5566
  let v5571 : BitVec 32 := Scalar.addi v5565 v5564
  let v5572 : BitVec 32 := Scalar.select v5570 v5571 v5565
  let c1_i32_4598 : BitVec 32 := 1#32
  let v5573 : BitVec 32 := Scalar.muli v5572 c1_i32_4598
  let v5574 : BitVec 32 := Scalar.addi c0_i32_4599 v5573
  v5574.toNat
def k0_dev131 (d0 : Dev nD) : Nat :=
  let c0_i32_4619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4604 : BitVec 32 := 12#32
  let v5583 : BitVec 32 := Scalar.addi v2 c12_i32_4604
  let c32_i32_4605 : BitVec 32 := 32#32
  let c0_i32_4606 : BitVec 32 := 0#32
  let v5584 : BitVec 1 := Scalar.cmpi .eq c32_i32_4605 c0_i32_4606
  let c1_i32_4607 : BitVec 32 := 1#32
  let v5585 : BitVec 32 := Scalar.select v5584 c1_i32_4607 c32_i32_4605
  let v5586 : BitVec 32 := Scalar.remsi v5583 v5585
  let c0_i32_4609 : BitVec 32 := 0#32
  let v5588 : BitVec 1 := Scalar.cmpi .slt v5586 c0_i32_4609
  let c0_i32_4610 : BitVec 32 := 0#32
  let v5589 : BitVec 1 := Scalar.cmpi .slt v5585 c0_i32_4610
  let v5590 : BitVec 1 := Scalar.xori v5588 v5589
  let c0_i32_4608 : BitVec 32 := 0#32
  let v5587 : BitVec 1 := Scalar.cmpi .ne v5586 c0_i32_4608
  let v5591 : BitVec 1 := Scalar.andi v5590 v5587
  let v5592 : BitVec 32 := Scalar.addi v5586 v5585
  let v5593 : BitVec 32 := Scalar.select v5591 v5592 v5586
  let c1_i32_4618 : BitVec 32 := 1#32
  let v5594 : BitVec 32 := Scalar.muli v5593 c1_i32_4618
  let v5595 : BitVec 32 := Scalar.addi c0_i32_4619 v5594
  v5595.toNat
def k0_dev132 (d0 : Dev nD) : Nat :=
  let c0_i32_4639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4624 : BitVec 32 := 14#32
  let v5604 : BitVec 32 := Scalar.addi v2 c14_i32_4624
  let c32_i32_4625 : BitVec 32 := 32#32
  let c0_i32_4626 : BitVec 32 := 0#32
  let v5605 : BitVec 1 := Scalar.cmpi .eq c32_i32_4625 c0_i32_4626
  let c1_i32_4627 : BitVec 32 := 1#32
  let v5606 : BitVec 32 := Scalar.select v5605 c1_i32_4627 c32_i32_4625
  let v5607 : BitVec 32 := Scalar.remsi v5604 v5606
  let c0_i32_4629 : BitVec 32 := 0#32
  let v5609 : BitVec 1 := Scalar.cmpi .slt v5607 c0_i32_4629
  let c0_i32_4630 : BitVec 32 := 0#32
  let v5610 : BitVec 1 := Scalar.cmpi .slt v5606 c0_i32_4630
  let v5611 : BitVec 1 := Scalar.xori v5609 v5610
  let c0_i32_4628 : BitVec 32 := 0#32
  let v5608 : BitVec 1 := Scalar.cmpi .ne v5607 c0_i32_4628
  let v5612 : BitVec 1 := Scalar.andi v5611 v5608
  let v5613 : BitVec 32 := Scalar.addi v5607 v5606
  let v5614 : BitVec 32 := Scalar.select v5612 v5613 v5607
  let c1_i32_4638 : BitVec 32 := 1#32
  let v5615 : BitVec 32 := Scalar.muli v5614 c1_i32_4638
  let v5616 : BitVec 32 := Scalar.addi c0_i32_4639 v5615
  v5616.toNat
def k0_dev133 (d0 : Dev nD) : Nat :=
  let c0_i32_4659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4644 : BitVec 32 := 16#32
  let v5625 : BitVec 32 := Scalar.addi v2 c16_i32_4644
  let c32_i32_4645 : BitVec 32 := 32#32
  let c0_i32_4646 : BitVec 32 := 0#32
  let v5626 : BitVec 1 := Scalar.cmpi .eq c32_i32_4645 c0_i32_4646
  let c1_i32_4647 : BitVec 32 := 1#32
  let v5627 : BitVec 32 := Scalar.select v5626 c1_i32_4647 c32_i32_4645
  let v5628 : BitVec 32 := Scalar.remsi v5625 v5627
  let c0_i32_4649 : BitVec 32 := 0#32
  let v5630 : BitVec 1 := Scalar.cmpi .slt v5628 c0_i32_4649
  let c0_i32_4650 : BitVec 32 := 0#32
  let v5631 : BitVec 1 := Scalar.cmpi .slt v5627 c0_i32_4650
  let v5632 : BitVec 1 := Scalar.xori v5630 v5631
  let c0_i32_4648 : BitVec 32 := 0#32
  let v5629 : BitVec 1 := Scalar.cmpi .ne v5628 c0_i32_4648
  let v5633 : BitVec 1 := Scalar.andi v5632 v5629
  let v5634 : BitVec 32 := Scalar.addi v5628 v5627
  let v5635 : BitVec 32 := Scalar.select v5633 v5634 v5628
  let c1_i32_4658 : BitVec 32 := 1#32
  let v5636 : BitVec 32 := Scalar.muli v5635 c1_i32_4658
  let v5637 : BitVec 32 := Scalar.addi c0_i32_4659 v5636
  v5637.toNat
def k0_dev134 (d0 : Dev nD) : Nat :=
  let c0_i32_4679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4664 : BitVec 32 := 18#32
  let v5646 : BitVec 32 := Scalar.addi v2 c18_i32_4664
  let c32_i32_4665 : BitVec 32 := 32#32
  let c0_i32_4666 : BitVec 32 := 0#32
  let v5647 : BitVec 1 := Scalar.cmpi .eq c32_i32_4665 c0_i32_4666
  let c1_i32_4667 : BitVec 32 := 1#32
  let v5648 : BitVec 32 := Scalar.select v5647 c1_i32_4667 c32_i32_4665
  let v5649 : BitVec 32 := Scalar.remsi v5646 v5648
  let c0_i32_4669 : BitVec 32 := 0#32
  let v5651 : BitVec 1 := Scalar.cmpi .slt v5649 c0_i32_4669
  let c0_i32_4670 : BitVec 32 := 0#32
  let v5652 : BitVec 1 := Scalar.cmpi .slt v5648 c0_i32_4670
  let v5653 : BitVec 1 := Scalar.xori v5651 v5652
  let c0_i32_4668 : BitVec 32 := 0#32
  let v5650 : BitVec 1 := Scalar.cmpi .ne v5649 c0_i32_4668
  let v5654 : BitVec 1 := Scalar.andi v5653 v5650
  let v5655 : BitVec 32 := Scalar.addi v5649 v5648
  let v5656 : BitVec 32 := Scalar.select v5654 v5655 v5649
  let c1_i32_4678 : BitVec 32 := 1#32
  let v5657 : BitVec 32 := Scalar.muli v5656 c1_i32_4678
  let v5658 : BitVec 32 := Scalar.addi c0_i32_4679 v5657
  v5658.toNat
def k0_dev135 (d0 : Dev nD) : Nat :=
  let c0_i32_4699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4684 : BitVec 32 := 20#32
  let v5667 : BitVec 32 := Scalar.addi v2 c20_i32_4684
  let c32_i32_4685 : BitVec 32 := 32#32
  let c0_i32_4686 : BitVec 32 := 0#32
  let v5668 : BitVec 1 := Scalar.cmpi .eq c32_i32_4685 c0_i32_4686
  let c1_i32_4687 : BitVec 32 := 1#32
  let v5669 : BitVec 32 := Scalar.select v5668 c1_i32_4687 c32_i32_4685
  let v5670 : BitVec 32 := Scalar.remsi v5667 v5669
  let c0_i32_4689 : BitVec 32 := 0#32
  let v5672 : BitVec 1 := Scalar.cmpi .slt v5670 c0_i32_4689
  let c0_i32_4690 : BitVec 32 := 0#32
  let v5673 : BitVec 1 := Scalar.cmpi .slt v5669 c0_i32_4690
  let v5674 : BitVec 1 := Scalar.xori v5672 v5673
  let c0_i32_4688 : BitVec 32 := 0#32
  let v5671 : BitVec 1 := Scalar.cmpi .ne v5670 c0_i32_4688
  let v5675 : BitVec 1 := Scalar.andi v5674 v5671
  let v5676 : BitVec 32 := Scalar.addi v5670 v5669
  let v5677 : BitVec 32 := Scalar.select v5675 v5676 v5670
  let c1_i32_4698 : BitVec 32 := 1#32
  let v5678 : BitVec 32 := Scalar.muli v5677 c1_i32_4698
  let v5679 : BitVec 32 := Scalar.addi c0_i32_4699 v5678
  v5679.toNat
def k0_dev136 (d0 : Dev nD) : Nat :=
  let c0_i32_4719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4704 : BitVec 32 := 22#32
  let v5688 : BitVec 32 := Scalar.addi v2 c22_i32_4704
  let c32_i32_4705 : BitVec 32 := 32#32
  let c0_i32_4706 : BitVec 32 := 0#32
  let v5689 : BitVec 1 := Scalar.cmpi .eq c32_i32_4705 c0_i32_4706
  let c1_i32_4707 : BitVec 32 := 1#32
  let v5690 : BitVec 32 := Scalar.select v5689 c1_i32_4707 c32_i32_4705
  let v5691 : BitVec 32 := Scalar.remsi v5688 v5690
  let c0_i32_4709 : BitVec 32 := 0#32
  let v5693 : BitVec 1 := Scalar.cmpi .slt v5691 c0_i32_4709
  let c0_i32_4710 : BitVec 32 := 0#32
  let v5694 : BitVec 1 := Scalar.cmpi .slt v5690 c0_i32_4710
  let v5695 : BitVec 1 := Scalar.xori v5693 v5694
  let c0_i32_4708 : BitVec 32 := 0#32
  let v5692 : BitVec 1 := Scalar.cmpi .ne v5691 c0_i32_4708
  let v5696 : BitVec 1 := Scalar.andi v5695 v5692
  let v5697 : BitVec 32 := Scalar.addi v5691 v5690
  let v5698 : BitVec 32 := Scalar.select v5696 v5697 v5691
  let c1_i32_4718 : BitVec 32 := 1#32
  let v5699 : BitVec 32 := Scalar.muli v5698 c1_i32_4718
  let v5700 : BitVec 32 := Scalar.addi c0_i32_4719 v5699
  v5700.toNat
def k0_dev137 (d0 : Dev nD) : Nat :=
  let c0_i32_4739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4724 : BitVec 32 := 24#32
  let v5709 : BitVec 32 := Scalar.addi v2 c24_i32_4724
  let c32_i32_4725 : BitVec 32 := 32#32
  let c0_i32_4726 : BitVec 32 := 0#32
  let v5710 : BitVec 1 := Scalar.cmpi .eq c32_i32_4725 c0_i32_4726
  let c1_i32_4727 : BitVec 32 := 1#32
  let v5711 : BitVec 32 := Scalar.select v5710 c1_i32_4727 c32_i32_4725
  let v5712 : BitVec 32 := Scalar.remsi v5709 v5711
  let c0_i32_4729 : BitVec 32 := 0#32
  let v5714 : BitVec 1 := Scalar.cmpi .slt v5712 c0_i32_4729
  let c0_i32_4730 : BitVec 32 := 0#32
  let v5715 : BitVec 1 := Scalar.cmpi .slt v5711 c0_i32_4730
  let v5716 : BitVec 1 := Scalar.xori v5714 v5715
  let c0_i32_4728 : BitVec 32 := 0#32
  let v5713 : BitVec 1 := Scalar.cmpi .ne v5712 c0_i32_4728
  let v5717 : BitVec 1 := Scalar.andi v5716 v5713
  let v5718 : BitVec 32 := Scalar.addi v5712 v5711
  let v5719 : BitVec 32 := Scalar.select v5717 v5718 v5712
  let c1_i32_4738 : BitVec 32 := 1#32
  let v5720 : BitVec 32 := Scalar.muli v5719 c1_i32_4738
  let v5721 : BitVec 32 := Scalar.addi c0_i32_4739 v5720
  v5721.toNat
def k0_dev138 (d0 : Dev nD) : Nat :=
  let c0_i32_4759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4744 : BitVec 32 := 26#32
  let v5730 : BitVec 32 := Scalar.addi v2 c26_i32_4744
  let c32_i32_4745 : BitVec 32 := 32#32
  let c0_i32_4746 : BitVec 32 := 0#32
  let v5731 : BitVec 1 := Scalar.cmpi .eq c32_i32_4745 c0_i32_4746
  let c1_i32_4747 : BitVec 32 := 1#32
  let v5732 : BitVec 32 := Scalar.select v5731 c1_i32_4747 c32_i32_4745
  let v5733 : BitVec 32 := Scalar.remsi v5730 v5732
  let c0_i32_4749 : BitVec 32 := 0#32
  let v5735 : BitVec 1 := Scalar.cmpi .slt v5733 c0_i32_4749
  let c0_i32_4750 : BitVec 32 := 0#32
  let v5736 : BitVec 1 := Scalar.cmpi .slt v5732 c0_i32_4750
  let v5737 : BitVec 1 := Scalar.xori v5735 v5736
  let c0_i32_4748 : BitVec 32 := 0#32
  let v5734 : BitVec 1 := Scalar.cmpi .ne v5733 c0_i32_4748
  let v5738 : BitVec 1 := Scalar.andi v5737 v5734
  let v5739 : BitVec 32 := Scalar.addi v5733 v5732
  let v5740 : BitVec 32 := Scalar.select v5738 v5739 v5733
  let c1_i32_4758 : BitVec 32 := 1#32
  let v5741 : BitVec 32 := Scalar.muli v5740 c1_i32_4758
  let v5742 : BitVec 32 := Scalar.addi c0_i32_4759 v5741
  v5742.toNat
def k0_dev139 (d0 : Dev nD) : Nat :=
  let c0_i32_4779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4764 : BitVec 32 := 28#32
  let v5751 : BitVec 32 := Scalar.addi v2 c28_i32_4764
  let c32_i32_4765 : BitVec 32 := 32#32
  let c0_i32_4766 : BitVec 32 := 0#32
  let v5752 : BitVec 1 := Scalar.cmpi .eq c32_i32_4765 c0_i32_4766
  let c1_i32_4767 : BitVec 32 := 1#32
  let v5753 : BitVec 32 := Scalar.select v5752 c1_i32_4767 c32_i32_4765
  let v5754 : BitVec 32 := Scalar.remsi v5751 v5753
  let c0_i32_4769 : BitVec 32 := 0#32
  let v5756 : BitVec 1 := Scalar.cmpi .slt v5754 c0_i32_4769
  let c0_i32_4770 : BitVec 32 := 0#32
  let v5757 : BitVec 1 := Scalar.cmpi .slt v5753 c0_i32_4770
  let v5758 : BitVec 1 := Scalar.xori v5756 v5757
  let c0_i32_4768 : BitVec 32 := 0#32
  let v5755 : BitVec 1 := Scalar.cmpi .ne v5754 c0_i32_4768
  let v5759 : BitVec 1 := Scalar.andi v5758 v5755
  let v5760 : BitVec 32 := Scalar.addi v5754 v5753
  let v5761 : BitVec 32 := Scalar.select v5759 v5760 v5754
  let c1_i32_4778 : BitVec 32 := 1#32
  let v5762 : BitVec 32 := Scalar.muli v5761 c1_i32_4778
  let v5763 : BitVec 32 := Scalar.addi c0_i32_4779 v5762
  v5763.toNat
def k0_dev140 (d0 : Dev nD) : Nat :=
  let c0_i32_4799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4784 : BitVec 32 := 30#32
  let v5772 : BitVec 32 := Scalar.addi v2 c30_i32_4784
  let c32_i32_4785 : BitVec 32 := 32#32
  let c0_i32_4786 : BitVec 32 := 0#32
  let v5773 : BitVec 1 := Scalar.cmpi .eq c32_i32_4785 c0_i32_4786
  let c1_i32_4787 : BitVec 32 := 1#32
  let v5774 : BitVec 32 := Scalar.select v5773 c1_i32_4787 c32_i32_4785
  let v5775 : BitVec 32 := Scalar.remsi v5772 v5774
  let c0_i32_4789 : BitVec 32 := 0#32
  let v5777 : BitVec 1 := Scalar.cmpi .slt v5775 c0_i32_4789
  let c0_i32_4790 : BitVec 32 := 0#32
  let v5778 : BitVec 1 := Scalar.cmpi .slt v5774 c0_i32_4790
  let v5779 : BitVec 1 := Scalar.xori v5777 v5778
  let c0_i32_4788 : BitVec 32 := 0#32
  let v5776 : BitVec 1 := Scalar.cmpi .ne v5775 c0_i32_4788
  let v5780 : BitVec 1 := Scalar.andi v5779 v5776
  let v5781 : BitVec 32 := Scalar.addi v5775 v5774
  let v5782 : BitVec 32 := Scalar.select v5780 v5781 v5775
  let c1_i32_4798 : BitVec 32 := 1#32
  let v5783 : BitVec 32 := Scalar.muli v5782 c1_i32_4798
  let v5784 : BitVec 32 := Scalar.addi c0_i32_4799 v5783
  v5784.toNat
def k0_off17 (d0 : Dev nD) (c2_i32_4999 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v5913 : BitVec 32 := Scalar.subi v2 c2_i32_4999
  let c32_i32_5000 : BitVec 32 := 32#32
  let c0_i32_5001 : BitVec 32 := 0#32
  let v5914 : BitVec 1 := Scalar.cmpi .eq c32_i32_5000 c0_i32_5001
  let c1_i32_5002 : BitVec 32 := 1#32
  let v5915 : BitVec 32 := Scalar.select v5914 c1_i32_5002 c32_i32_5000
  let v5916 : BitVec 32 := Scalar.remsi v5913 v5915
  let c0_i32_5004 : BitVec 32 := 0#32
  let v5918 : BitVec 1 := Scalar.cmpi .slt v5916 c0_i32_5004
  let c0_i32_5005 : BitVec 32 := 0#32
  let v5919 : BitVec 1 := Scalar.cmpi .slt v5915 c0_i32_5005
  let v5920 : BitVec 1 := Scalar.xori v5918 v5919
  let c0_i32_5003 : BitVec 32 := 0#32
  let v5917 : BitVec 1 := Scalar.cmpi .ne v5916 c0_i32_5003
  let v5921 : BitVec 1 := Scalar.andi v5920 v5917
  let v5922 : BitVec 32 := Scalar.addi v5916 v5915
  let v5923 : BitVec 32 := Scalar.select v5921 v5922 v5916
  let c0_i32_5007 : BitVec 32 := 0#32
  let v5925 : BitVec 1 := Scalar.cmpi .sgt v5923 c0_i32_5007
  let v5926 : BitVec 32 := Scalar.extui v5925
  let c0_i32_5008 : BitVec 32 := 0#32
  let v5927 : BitVec 1 := Scalar.cmpi .slt v5923 c0_i32_5008
  let v5928 : BitVec 32 := Scalar.extui v5927
  let v5929 : BitVec 32 := Scalar.subi v5926 v5928
  let c2_i32_5006 : BitVec 32 := 2#32
  let c0_i32_5009 : BitVec 32 := 0#32
  let v5930 : BitVec 1 := Scalar.cmpi .sgt c2_i32_5006 c0_i32_5009
  let v5931 : BitVec 32 := Scalar.extui v5930
  let c0_i32_5010 : BitVec 32 := 0#32
  let v5932 : BitVec 1 := Scalar.cmpi .slt c2_i32_5006 c0_i32_5010
  let v5933 : BitVec 32 := Scalar.extui v5932
  let v5934 : BitVec 32 := Scalar.subi v5931 v5933
  let v5935 : BitVec 1 := Scalar.cmpi .ne v5929 v5934
  let v5936 : BitVec 32 := Scalar.remsi v5923 c2_i32_5006
  let c0_i32_5011 : BitVec 32 := 0#32
  let v5937 : BitVec 1 := Scalar.cmpi .ne v5936 c0_i32_5011
  let v5938 : BitVec 1 := Scalar.andi v5935 v5937
  let v5924 : BitVec 32 := Scalar.divsi v5923 c2_i32_5006
  let c1_i32_5012 : BitVec 32 := 1#32
  let v5939 : BitVec 32 := Scalar.subi v5924 c1_i32_5012
  let v5940 : BitVec 32 := Scalar.select v5938 v5939 v5924
  let c32_i32_5013 : BitVec 32 := 32#32
  let v5941 : BitVec 32 := Scalar.muli v5940 c32_i32_5013
  let v5942 : BitVec 32 := Scalar.addi v16 v5941
  let v5946 : Index := Scalar.indexCast v5942
  let c512_5018 : Index := 512#32
  ![v5946.toNat, 512]
def k0_dev141 (d0 : Dev nD) : Nat :=
  let c0_i32_5308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_5307 : BitVec 32 := 1#32
  let v6445 : BitVec 32 := Scalar.muli v15 c1_i32_5307
  let v6446 : BitVec 32 := Scalar.addi c0_i32_5308 v6445
  v6446.toNat
def k0_off18 (d0 : Dev nD) (c2_i32_5508 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32 : BitVec 32 := 512#32
  let v16 : BitVec 32 := Scalar.muli v12 c512_i32
  let v6575 : BitVec 32 := Scalar.subi v2 c2_i32_5508
  let c32_i32_5509 : BitVec 32 := 32#32
  let c0_i32_5510 : BitVec 32 := 0#32
  let v6576 : BitVec 1 := Scalar.cmpi .eq c32_i32_5509 c0_i32_5510
  let c1_i32_5511 : BitVec 32 := 1#32
  let v6577 : BitVec 32 := Scalar.select v6576 c1_i32_5511 c32_i32_5509
  let v6578 : BitVec 32 := Scalar.remsi v6575 v6577
  let c0_i32_5513 : BitVec 32 := 0#32
  let v6580 : BitVec 1 := Scalar.cmpi .slt v6578 c0_i32_5513
  let c0_i32_5514 : BitVec 32 := 0#32
  let v6581 : BitVec 1 := Scalar.cmpi .slt v6577 c0_i32_5514
  let v6582 : BitVec 1 := Scalar.xori v6580 v6581
  let c0_i32_5512 : BitVec 32 := 0#32
  let v6579 : BitVec 1 := Scalar.cmpi .ne v6578 c0_i32_5512
  let v6583 : BitVec 1 := Scalar.andi v6582 v6579
  let v6584 : BitVec 32 := Scalar.addi v6578 v6577
  let v6585 : BitVec 32 := Scalar.select v6583 v6584 v6578
  let c0_i32_5516 : BitVec 32 := 0#32
  let v6587 : BitVec 1 := Scalar.cmpi .sgt v6585 c0_i32_5516
  let v6588 : BitVec 32 := Scalar.extui v6587
  let c0_i32_5517 : BitVec 32 := 0#32
  let v6589 : BitVec 1 := Scalar.cmpi .slt v6585 c0_i32_5517
  let v6590 : BitVec 32 := Scalar.extui v6589
  let v6591 : BitVec 32 := Scalar.subi v6588 v6590
  let c2_i32_5515 : BitVec 32 := 2#32
  let c0_i32_5518 : BitVec 32 := 0#32
  let v6592 : BitVec 1 := Scalar.cmpi .sgt c2_i32_5515 c0_i32_5518
  let v6593 : BitVec 32 := Scalar.extui v6592
  let c0_i32_5519 : BitVec 32 := 0#32
  let v6594 : BitVec 1 := Scalar.cmpi .slt c2_i32_5515 c0_i32_5519
  let v6595 : BitVec 32 := Scalar.extui v6594
  let v6596 : BitVec 32 := Scalar.subi v6593 v6595
  let v6597 : BitVec 1 := Scalar.cmpi .ne v6591 v6596
  let v6598 : BitVec 32 := Scalar.remsi v6585 c2_i32_5515
  let c0_i32_5520 : BitVec 32 := 0#32
  let v6599 : BitVec 1 := Scalar.cmpi .ne v6598 c0_i32_5520
  let v6600 : BitVec 1 := Scalar.andi v6597 v6599
  let v6586 : BitVec 32 := Scalar.divsi v6585 c2_i32_5515
  let c1_i32_5521 : BitVec 32 := 1#32
  let v6601 : BitVec 32 := Scalar.subi v6586 c1_i32_5521
  let v6602 : BitVec 32 := Scalar.select v6600 v6601 v6586
  let c32_i32_5522 : BitVec 32 := 32#32
  let v6603 : BitVec 32 := Scalar.muli v6602 c32_i32_5522
  let v6604 : BitVec 32 := Scalar.addi v16 v6603
  let v6608 : Index := Scalar.indexCast v6604
  let c768_5527 : Index := 768#32
  ![v6608.toNat, 768]
def k0_dev142 (d0 : Dev nD) : Nat :=
  let c0_i32_5817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c2_i32_5 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.muli c2_i32_5 v12
  let v15 : BitVec 32 := Scalar.subi v13 v14
  let c1_i32_5816 : BitVec 32 := 1#32
  let v7107 : BitVec 32 := Scalar.muli v15 c1_i32_5816
  let v7108 : BitVec 32 := Scalar.addi c0_i32_5817 v7107
  v7108.toNat
def k0_off19 (d0 : Dev nD) : Fin 2 → Nat :=
  let c1_i32_6 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v17 : BitVec 32 := Scalar.subi c1_i32_6 v12
  let c512_i32_7 : BitVec 32 := 512#32
  let v18 : BitVec 32 := Scalar.muli v17 c512_i32_7
  let v7128 : Index := Scalar.indexCast v18
  let c0_5835 : Index := 0#32
  ![v7128.toNat, 0]
def k0_off20 (d0 : Dev nD) : Fin 2 → Nat :=
  let c1_i32_6 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v17 : BitVec 32 := Scalar.subi c1_i32_6 v12
  let c512_i32_7 : BitVec 32 := 512#32
  let v18 : BitVec 32 := Scalar.muli v17 c512_i32_7
  let v7327 : Index := Scalar.indexCast v18
  let c256_6203 : Index := 256#32
  ![v7327.toNat, 256]
def k0_off21 (d0 : Dev nD) : Fin 2 → Nat :=
  let c1_i32_6 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v17 : BitVec 32 := Scalar.subi c1_i32_6 v12
  let c512_i32_7 : BitVec 32 := 512#32
  let v18 : BitVec 32 := Scalar.muli v17 c512_i32_7
  let v7526 : Index := Scalar.indexCast v18
  let c512_6571 : Index := 512#32
  ![v7526.toNat, 512]
def k0_off22 (d0 : Dev nD) : Fin 2 → Nat :=
  let c1_i32_6 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v17 : BitVec 32 := Scalar.subi c1_i32_6 v12
  let c512_i32_7 : BitVec 32 := 512#32
  let v18 : BitVec 32 := Scalar.muli v17 c512_i32_7
  let v7725 : Index := Scalar.indexCast v18
  let c768_6939 : Index := 768#32
  ![v7725.toNat, 768]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
  The kernel's program as nested loops.

  The printed body is a straight line of several hundred operations. Here the same line is written
  as it was before unrolling: loops over the four column groups and the fifteen peers, over a record
  of the device numbers and the offsets the operations name. `body_eq` says that the printed body is
  this program at the record the printed body names.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Regions

@[expose] public section

set_option maxRecDepth 16384

noncomputable section

namespace Cert.KernelIdeal.MM

open Idealize.ShloMosaic Idealize.SL.Sem Cert.KernelIdeal.Gen

variable {F : FTy → Type} [FloatOps F]

/-- The four column groups. -/
abbrev G4 := Fin 4
/-- The fifteen peers of a device that share its parity. -/
abbrev J15 := Fin 15

/-! ## The buffers -/

abbrev xM : Memref sig .tc .vmem S1024x32 .f32 := Memref.whole cc0_stg0_0
abbrev wM : Memref sig .tc .vmem S32x1024 .f32 := Memref.whole cc0_stg1_0
abbrev oM : Memref sig .tc .vmem S1024x1024 .f32 := Memref.whole cc0_stg2_0
abbrev xsM : Memref sig .tc .vmem S512x32 .bf16 := Memref.whole cc0_scratch0
abbrev wsM : Memref sig .tc .vmem S32x1024 .bf16 := Memref.whole cc0_scratch1
abbrev xpM : Memref sig .tc .vmem S512x32 .bf16 := Memref.whole cc0_scratch2
abbrev wpM : Memref sig .tc .vmem S32x1024 .bf16 := Memref.whole cc0_scratch3
abbrev cbM : Memref sig .tc .vmem S4x512x256 .bf16 := Memref.whole cc0_scratch4
abbrev rsM : Memref sig .tc .vmem S4x15x32x256 .bf16 := Memref.whole cc0_scratch5
abbrev abM : Memref sig .tc .vmem S4x32x256 .bf16 := Memref.whole cc0_scratch6
abbrev agM : Memref sig .tc .vmem S4x15x32x256 .bf16 := Memref.whole cc0_scratch7
abbrev xbM : Memref sig .tc .vmem S4x512x256 .bf16 := Memref.whole cc0_scratch8
abbrev xrM : Memref sig .tc .vmem S4x512x256 .bf16 := Memref.whole cc0_scratch9

/-! ## Rectangles at literal offsets -/

theorem inbG (g : G4) : ∀ a, (![g.val, 0, 0] : Fin 3 → Nat) a + S1x512x256.size a ≤ S4x512x256.size a := by revert g; decide
theorem inbA (g : G4) : ∀ a, (![g.val, 0, 0] : Fin 3 → Nat) a + S1x32x256.size a ≤ S4x32x256.size a := by revert g; decide
theorem inbS (g : G4) (j : J15) : ∀ a, (![g.val, j.val, 0, 0] : Fin 4 → Nat) a + S1x1x32x256.size a ≤ S4x15x32x256.size a := by
  revert g j; decide
theorem inbR (g : G4) : ∀ a, (![g.val, 0, 0, 0] : Fin 4 → Nat) a + S1x15x32x256.size a ≤ S4x15x32x256.size a := by revert g; decide
theorem inbW (g : G4) : ∀ a, (![0, 256 * g.val] : Fin 2 → Nat) a + S32x256.size a ≤ S32x1024.size a := by revert g; decide
theorem inb2 (i : Fin 2) : ∀ a, (![i.val] : Fin 1 → Nat) a + S1.size a ≤ S2.size a := by revert i; decide
theorem inb4 (g : G4) : ∀ a, (![g.val] : Fin 1 → Nat) a + S1.size a ≤ S4.size a := by revert g; decide
theorem inb415 (g : G4) (j : J15) : ∀ a, (![g.val, j.val] : Fin 2 → Nat) a + S1x1.size a ≤ S4x15.size a := by revert g j; decide

/-- Column group `g` of a buffer of four 512×256 blocks. -/
abbrev gR (g : G4) : Rect S4x512x256 := Rect.unit (s := S4x512x256) ![g.val, 0, 0] S1x512x256.size (inbG g)
/-- Column group `g` of the buffer of four reduced chunks. -/
abbrev aR (g : G4) : Rect S4x32x256 := Rect.unit (s := S4x32x256) ![g.val, 0, 0] S1x32x256.size (inbA g)
/-- Slot `j` of column group `g` of a buffer of received chunks. -/
abbrev sR (g : G4) (j : J15) : Rect S4x15x32x256 := Rect.unit (s := S4x15x32x256) ![g.val, j.val, 0, 0] S1x1x32x256.size (inbS g j)
/-- All fifteen slots of column group `g`. -/
abbrev rR (g : G4) : Rect S4x15x32x256 := Rect.unit (s := S4x15x32x256) ![g.val, 0, 0, 0] S1x15x32x256.size (inbR g)
/-- Column group `g` of the second factor. -/
abbrev wR (g : G4) : Rect S32x1024 := Rect.unit (s := S32x1024) ![0, 256 * g.val] S32x256.size (inbW g)
/-- All of a 512×32 buffer. -/
abbrev xR0 : Rect S512x32 := Rect.unit (s := S512x32) ![0, 0] S512x32.size inb_S512x32_S512x32_0_0
/-- All of a 32×1024 buffer. -/
abbrev wR0 : Rect S32x1024 := Rect.unit (s := S32x1024) ![0, 0] S32x1024.size inb_S32x1024_S32x1024_0_0

theorem packG (g : G4) : (gR g).PackedRows (EltTy.packing .bf16) := by revert g; decide
theorem packA (g : G4) : (aR g).PackedRows (EltTy.packing .bf16) := by revert g; decide
theorem wordsG (g : G4) : (gR g).WholeWords (EltTy.packing .bf16) := by revert g; decide
theorem wordsA (g : G4) : (aR g).WholeWords (EltTy.packing .bf16) := by revert g; decide
theorem wordsS (g : G4) (j : J15) : (sR g j).WholeWords (EltTy.packing .bf16) := by revert g j; decide

abbrev gM (m : Memref sig .tc .vmem S4x512x256 .bf16) (g : G4) : Memref sig .tc .vmem S512x256 .bf16 :=
  (m.slice (gR g) (fun _ => rfl)).squeeze S512x256 squeezes_S1x512x256_S512x256
abbrev sM (m : Memref sig .tc .vmem S4x15x32x256 .bf16) (g : G4) (j : J15) : Memref sig .tc .vmem S32x256 .bf16 :=
  (m.slice (sR g j) (fun _ => rfl)).squeeze S32x256 squeezes_S1x1x32x256_S32x256
abbrev aM (g : G4) : Memref sig .tc .vmem S32x256 .bf16 :=
  (abM.slice (aR g) (fun _ => rfl)).squeeze S32x256 squeezes_S1x32x256_S32x256

/-! ## The addresses the operations name -/

/-- An offset at which a rectangle of sizes `sz` lies within the shape `s`. -/
abbrev Off (s : Shape) (sz : Fin s.rank → Nat) := {o : Fin s.rank → Nat // ∀ a, o a + sz a ≤ s.size a}
/-- An offset of a 32-row chunk of the partial-sum buffer, which cuts no packed word. -/
abbrev COff := {o : Fin 3 → Nat // ∃ h : ∀ a, o a + S1x32x256.size a ≤ S4x512x256.size a,
  (Rect.unit (s := S4x512x256) o S1x32x256.size h).WholeWords (EltTy.packing .bf16)}

/-- The device numbers and offsets one device's body computes from its own number. -/
structure Addr where
  /-- the devices signalled at the start -/
  sg : Fin 16 → Dev nD
  /-- the device the operands are sent to -/
  xw : Fin 2 → Dev nD
  /-- the devices the partial chunks are sent to -/
  rs : G4 → J15 → Dev nD
  /-- the devices the reduced chunk is sent to -/
  ag : G4 → J15 → Dev nD
  /-- the device the finished half is sent to -/
  x2 : G4 → Dev nD
  /-- the rows of the first factor that are sent -/
  xo : Off S1024x32 S512x32.size
  /-- the rows of the first factor that are kept -/
  xm : Off S1024x32 S512x32.size
  /-- this device's half of the result -/
  oh : G4 → Off S1024x1024 S512x256.size
  /-- the other half of the result -/
  ot : G4 → Off S1024x1024 S512x256.size
  /-- this device's own chunk of the result -/
  oc : G4 → Off S1024x1024 S32x256.size
  /-- the chunk of the result a peer reduced -/
  ar : G4 → J15 → Off S1024x1024 S32x256.size
  /-- the chunk of the partial sums a peer reduces -/
  cb : G4 → J15 → COff

abbrev cbMem (o : COff) : Memref sig .tc .vmem S32x256 .bf16 :=
  (cbM.slice (Rect.unit (s := S4x512x256) o.1 S1x32x256.size o.2.choose) (fun _ => rfl)).squeeze S32x256 squeezes_S1x32x256_S32x256

/-! ## The semaphores -/

abbrev barS : Sem sig := (SemArray.scalar (sig.barrier 0 rfl) : Sems sig S_).sem
abbrev sem2 (a : DmaSems sig S2) (i : Fin 2) : DmaSem sig := ((a.slice (Rect.unit (s := S2) ![i.val] S1.size (inb2 i))).squeeze S_ squeezes_S1_S_).sem
abbrev sem4 (a : DmaSems sig S4) (g : G4) : DmaSem sig := ((a.slice (Rect.unit (s := S4) ![g.val] S1.size (inb4 g))).squeeze S_ squeezes_S1_S_).sem
abbrev sem415 (a : DmaSems sig S4x15) (g : G4) (j : J15) : DmaSem sig :=
  ((a.slice (Rect.unit (s := S4x15) ![g.val, j.val] S1x1.size (inb415 g j))).squeeze S_ squeezes_S1x1_S_).sem

/-! ## The program -/

/-- Programs of the body. -/
abbrev PR (F : FTy → Type) [FloatOps F] := Prog (TpuEff nD τ sig (Elt F) Λ₀ .tc) PUnit

/-- Run `f` over a list, in order. -/
def runL {ι : Type} (f : ι → PR F) : List ι → PR F
  | [] => .ret ⟨⟩
  | i :: l => (f i).bind fun _ => runL f l

/-- The fifteen peers, in the order the loops visit them. -/
def peers : List J15 := [0, 1, 2, 3, 4, 5, 6, 7, 8, 9, 10, 11, 12, 13, 14]
/-- The sixteen signals, in order. -/
def sigs : List (Fin 16) := [0, 1, 2, 3, 4, 5, 6, 7, 8, 9, 10, 11, 12, 13, 14, 15]

/-- The two signals' worth of prologue: tell the partner and the peers this device is ready, then wait
    for as many. -/
def pBar (A : Addr) : PR F := (runL (fun i => semSignalWord (A.sg i) barS 1#32) sigs).bind fun _ => semWaitWord barS 16#32

/-- Send the partner the rows it reduces and the whole second factor, both rounded. -/
def pXW (A : Addr) : PR F := do
  let v ← Prog.lift (.load xM (Rect.unit (s := S1024x32) A.xo.1 S512x32.size A.xo.2).toLoadRect (View.loadsAt_vmem h_S512x32))
  let _ ← Prog.lift (.load xsM xR0.toLoadRect (View.loadsAt_vmem h_S512x32))
  Prog.lift (.store xsM xR0 (k0_pay1 v) Finset.univ (View.stores_vmem h_S512x32 ((Memref.isWhole_whole _).storeExact_slice rfl _ packedbf16_S512x32_S512x32_0_0) (fun _ => rfl)) (.inl rfl))
  let v ← Prog.lift (.load wM wR0.toLoadRect (View.loadsAt_vmem h_S32x1024))
  let _ ← Prog.lift (.load wsM wR0.toLoadRect (View.loadsAt_vmem h_S32x1024))
  Prog.lift (.store wsM wR0 (k0_pay2 v) Finset.univ (View.stores_vmem h_S32x1024 ((Memref.isWhole_whole _).storeExact_slice rfl _ packedbf16_S32x1024_S32x1024_0_0) (fun _ => rfl)) (.inl rfl))
  Prog.lift (.enqueueDma xsM (.remote (Dev.tc (A.xw 0)) xpM (.dma (sem2 cc0_scratch10 0))) (.dma (sem2 cc0_scratch11 0)) (Memref.isWhole_whole _).wordExact (Memref.isWhole_whole _).wordExact ⟨⟨rfl, Or.inl rfl⟩, trivial⟩)
  Prog.lift (.enqueueDma wsM (.remote (Dev.tc (A.xw 1)) wpM (.dma (sem2 cc0_scratch10 1))) (.dma (sem2 cc0_scratch11 1)) (Memref.isWhole_whole _).wordExact (Memref.isWhole_whole _).wordExact ⟨⟨rfl, Or.inl rfl⟩, trivial⟩)
  Prog.lift (.waitDma2 (sem2 cc0_scratch11 0) xsM xpM (Memref.isWhole_whole _).wordExact (Memref.isWhole_whole _).wordExact)
  Prog.lift (.waitDma2 (sem2 cc0_scratch11 1) wsM wpM (Memref.isWhole_whole _).wordExact (Memref.isWhole_whole _).wordExact)

/-- The partial product of this device and its partner, into the result's half and rounded into the
    partial-sum buffer. -/
def pComb (A : Addr) (g : G4) : PR F := do
  let v1 ← Prog.lift (.load xM (Rect.unit (s := S1024x32) A.xm.1 S512x32.size A.xm.2).toLoadRect (View.loadsAt_vmem h_S512x32))
  let v2 ← Prog.lift (.load wM (wR g).toLoadRect (View.loadsAt_vmem h_S32x256))
  let v3 ← Prog.lift (.load xpM xR0.toLoadRect (View.loadsAt_vmem h_S512x32))
  let v4 ← Prog.lift (.load wpM (wR g).toLoadRect (View.loadsAt_vmem h_S32x256))
  let _ ← Prog.lift (.load oM (Rect.unit (s := S1024x1024) (A.oh g).1 S512x256.size (A.oh g).2).toLoadRect (View.loadsAt_vmem h_S512x256))
  Prog.lift (.store oM (Rect.unit (s := S1024x1024) (A.oh g).1 S512x256.size (A.oh g).2) (k0_pay3 v1 v2 v3 v4) Finset.univ (View.stores_vmem_bits_univ h_S512x256 rfl) (.inl rfl))
  let _ ← Prog.lift (.load cbM (gR g).toLoadRect (View.loadsAt_vmem h_S1x512x256))
  Prog.lift (.store cbM (gR g) (k0_pay4 v1 v2 v3 v4) Finset.univ (View.stores_vmem h_S1x512x256 ((Memref.isWhole_whole _).storeExact_slice rfl _ (packG g)) (fun _ => rfl)) (.inl rfl))

/-- Send peer `j` the chunk of the partial sums it reduces. -/
def pRsSend (A : Addr) (g : G4) (j : J15) : PR F :=
  Prog.lift (.enqueueDma (cbMem (A.cb g j)) (.remote (Dev.tc (A.rs g j)) (sM rsM g j) (.dma (sem415 cc0_scratch12 g j))) (.dma (sem415 cc0_scratch13 g j))
    (((Memref.isWhole_whole _).wordExact_slice rfl _ (A.cb g j).2.choose_spec).reshape _ _)
    (((Memref.isWhole_whole _).wordExact_slice rfl _ (wordsS g j)).reshape _ _) ⟨⟨rfl, Or.inl rfl⟩, trivial⟩)

/-- Compute the partial sums of a column group and send their chunks. -/
def pR2 (A : Addr) (g : G4) : PR F := (pComb A g).bind fun _ => runL (pRsSend A g) peers

/-- Wait for the chunk peer `j` sends. -/
def pRsWait (A : Addr) (g : G4) (j : J15) : PR F :=
  Prog.lift (.waitDma2 (sem415 cc0_scratch13 g j) (cbMem (A.cb g j)) (sM rsM g j)
    (((Memref.isWhole_whole _).wordExact_slice rfl _ (A.cb g j).2.choose_spec).reshape _ _)
    (((Memref.isWhole_whole _).wordExact_slice rfl _ (wordsS g j)).reshape _ _))

/-- Add the received chunks to this device's own, and round the sum into the reduced-chunk buffer. -/
def pAcc (A : Addr) (g : G4) : PR F := do
  let v1 ← Prog.lift (.load oM (Rect.unit (s := S1024x1024) (A.oc g).1 S32x256.size (A.oc g).2).toLoadRect (View.loadsAt_vmem h_S32x256))
  let v2 ← Prog.lift (.load rsM (rR g).toLoadRect (View.loadsAt_vmem h_S1x15x32x256))
  let _ ← Prog.lift (.load oM (Rect.unit (s := S1024x1024) (A.oc g).1 S32x256.size (A.oc g).2).toLoadRect (View.loadsAt_vmem h_S32x256))
  Prog.lift (.store oM (Rect.unit (s := S1024x1024) (A.oc g).1 S32x256.size (A.oc g).2) (k0_pay7 v1 v2) Finset.univ (View.stores_vmem_bits_univ h_S32x256 rfl) (.inl rfl))
  let _ ← Prog.lift (.load abM (aR g).toLoadRect (View.loadsAt_vmem h_S1x32x256))
  Prog.lift (.store abM (aR g) (k0_pay8 v1 v2) Finset.univ (View.stores_vmem h_S1x32x256 ((Memref.isWhole_whole _).storeExact_slice rfl _ (packA g)) (fun _ => rfl)) (.inl rfl))

/-- Send peer `j` the reduced chunk. -/
def pAgSend (A : Addr) (g : G4) (j : J15) : PR F :=
  Prog.lift (.enqueueDma (aM g) (.remote (Dev.tc (A.ag g j)) (sM agM g j) (.dma (sem415 cc0_scratch14 g j))) (.dma (sem415 cc0_scratch15 g j))
    (((Memref.isWhole_whole _).wordExact_slice rfl _ (wordsA g)).reshape _ _)
    (((Memref.isWhole_whole _).wordExact_slice rfl _ (wordsS g j)).reshape _ _) ⟨⟨rfl, Or.inl rfl⟩, trivial⟩)

/-- Receive a column group's chunks, reduce them, and send the reduced chunk to the peers. -/
def pAG (A : Addr) (g : G4) : PR F :=
  (runL (pRsWait A g) peers).bind fun _ => (pAcc A g).bind fun _ => runL (pAgSend A g) peers

/-- Wait for the reduced chunk of peer `j`. -/
def pAgWait (A : Addr) (g : G4) (j : J15) : PR F :=
  Prog.lift (.waitDma2 (sem415 cc0_scratch15 g j) (aM g) (sM agM g j)
    (((Memref.isWhole_whole _).wordExact_slice rfl _ (wordsA g)).reshape _ _)
    (((Memref.isWhole_whole _).wordExact_slice rfl _ (wordsS g j)).reshape _ _))

/-- Copy the reduced chunk of peer `j` into the result. -/
def pAgCopy (A : Addr) (g : G4) (j : J15) : PR F := do
  let v ← Prog.lift (.load agM (sR g j).toLoadRect (View.loadsAt_vmem h_S1x1x32x256))
  let _ ← Prog.lift (.load oM (Rect.unit (s := S1024x1024) (A.ar g j).1 S32x256.size (A.ar g j).2).toLoadRect (View.loadsAt_vmem h_S32x256))
  Prog.lift (.store oM (Rect.unit (s := S1024x1024) (A.ar g j).1 S32x256.size (A.ar g j).2) (k0_pay14 v) Finset.univ (View.stores_vmem_bits_univ h_S32x256 rfl) (.inl rfl))

/-- Round this device's finished half into the exchange buffer and send it to the partner. -/
def pHalf (A : Addr) (g : G4) : PR F := do
  let v ← Prog.lift (.load oM (Rect.unit (s := S1024x1024) (A.oh g).1 S512x256.size (A.oh g).2).toLoadRect (View.loadsAt_vmem h_S512x256))
  let _ ← Prog.lift (.load xbM (gR g).toLoadRect (View.loadsAt_vmem h_S1x512x256))
  Prog.lift (.store xbM (gR g) (k0_pay30 (k0_pay29 v)) Finset.univ (View.stores_vmem h_S1x512x256 ((Memref.isWhole_whole _).storeExact_slice rfl _ (packG g)) (fun _ => rfl)) (.inl rfl))
  Prog.lift (.enqueueDma (gM xbM g) (.remote (Dev.tc (A.x2 g)) (gM xrM g) (.dma (sem4 cc0_scratch16 g))) (.dma (sem4 cc0_scratch17 g))
    (((Memref.isWhole_whole _).wordExact_slice rfl _ (wordsG g)).reshape _ _)
    (((Memref.isWhole_whole _).wordExact_slice rfl _ (wordsG g)).reshape _ _) ⟨⟨rfl, Or.inl rfl⟩, trivial⟩)

/-- Gather a column group's reduced chunks and exchange the finished half. -/
def pX2 (A : Addr) (g : G4) : PR F :=
  (runL (pAgWait A g) peers).bind fun _ => (runL (pAgCopy A g) peers).bind fun _ => pHalf A g

/-- Receive the partner's half and copy it into the result; then wait out this group's half send. -/
def pOther (A : Addr) (g : G4) : PR F := do
  Prog.lift (.waitDma2 (sem4 cc0_scratch17 g) (gM xbM g) (gM xrM g)
    (((Memref.isWhole_whole _).wordExact_slice rfl _ (wordsG g)).reshape _ _)
    (((Memref.isWhole_whole _).wordExact_slice rfl _ (wordsG g)).reshape _ _))
  let v ← Prog.lift (.load xrM (gR g).toLoadRect (View.loadsAt_vmem h_S1x512x256))
  let _ ← Prog.lift (.load oM (Rect.unit (s := S1024x1024) (A.ot g).1 S512x256.size (A.ot g).2).toLoadRect (View.loadsAt_vmem h_S512x256))
  Prog.lift (.store oM (Rect.unit (s := S1024x1024) (A.ot g).1 S512x256.size (A.ot g).2) (k0_pay86 v) Finset.univ (View.stores_vmem_bits_univ h_S512x256 rfl) (.inl rfl))
  Prog.lift (.waitDma2 (sem4 cc0_scratch16 g) (gM xrM g) (gM xbM g)
    (((Memref.isWhole_whole _).wordExact_slice rfl _ (wordsG g)).reshape _ _)
    (((Memref.isWhole_whole _).wordExact_slice rfl _ (wordsG g)).reshape _ _))

/-- Wait out the send of a partial chunk. -/
def pRsDone (A : Addr) (g : G4) (j : J15) : PR F :=
  Prog.lift (.waitDma2 (sem415 cc0_scratch12 g j) (sM rsM g j) (cbMem (A.cb g j))
    (((Memref.isWhole_whole _).wordExact_slice rfl _ (wordsS g j)).reshape _ _)
    (((Memref.isWhole_whole _).wordExact_slice rfl _ (A.cb g j).2.choose_spec).reshape _ _))

/-- Wait out a send of the reduced chunk. -/
def pAgDone (A : Addr) (g : G4) (j : J15) : PR F :=
  Prog.lift (.waitDma2 (sem415 cc0_scratch14 g j) (sM agM g j) (aM g)
    (((Memref.isWhole_whole _).wordExact_slice rfl _ (wordsS g j)).reshape _ _)
    (((Memref.isWhole_whole _).wordExact_slice rfl _ (wordsA g)).reshape _ _))

/-- The end of a column group: the partner's half, and all of the group's sends waited out. -/
def pTail (A : Addr) (g : G4) : PR F :=
  (pOther A g).bind fun _ => (runL (pRsDone A g) peers).bind fun _ => runL (pAgDone A g) peers

/-- Wait out the sends of the operands. -/
def pEnd : PR F := do
  Prog.lift (.waitDma2 (sem2 cc0_scratch10 0) xpM xsM (Memref.isWhole_whole _).wordExact (Memref.isWhole_whole _).wordExact)
  Prog.lift (.waitDma2 (sem2 cc0_scratch10 1) wpM wsM (Memref.isWhole_whole _).wordExact (Memref.isWhole_whole _).wordExact)

/-- The whole body over the addresses it names. -/
def prog (A : Addr) : PR F :=
  (pBar A).bind fun _ => (pXW A).bind fun _ =>
  (pR2 A 0).bind fun _ => (pR2 A 1).bind fun _ => (pAG A 0).bind fun _ => (pR2 A 2).bind fun _ =>
  (pAG A 1).bind fun _ => (pX2 A 0).bind fun _ => (pR2 A 3).bind fun _ => (pAG A 2).bind fun _ =>
  (pX2 A 1).bind fun _ => (pAG A 3).bind fun _ => (pX2 A 2).bind fun _ => (pX2 A 3).bind fun _ =>
  (pTail A 0).bind fun _ => (pTail A 1).bind fun _ => (pTail A 2).bind fun _ => (pTail A 3).bind fun _ => pEnd

/-! ## The addresses as printed -/

/-- The addresses device `d` computes, as the printed body computes them. -/
def addrP (d : Dev nD) : Addr where
  sg := ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩]
  xw := ![⟨k0_dev17 d, k0_dev17_lt d⟩, ⟨k0_dev18 d, k0_dev18_lt d⟩]
  rs := ![![⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩, ⟨k0_dev32 d, k0_dev32_lt d⟩, ⟨k0_dev33 d, k0_dev33_lt d⟩],
      ![⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩],
      ![⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩, ⟨k0_dev76 d, k0_dev76_lt d⟩, ⟨k0_dev77 d, k0_dev77_lt d⟩, ⟨k0_dev78 d, k0_dev78_lt d⟩],
      ![⟨k0_dev95 d, k0_dev95_lt d⟩, ⟨k0_dev96 d, k0_dev96_lt d⟩, ⟨k0_dev97 d, k0_dev97_lt d⟩, ⟨k0_dev98 d, k0_dev98_lt d⟩, ⟨k0_dev99 d, k0_dev99_lt d⟩, ⟨k0_dev100 d, k0_dev100_lt d⟩, ⟨k0_dev101 d, k0_dev101_lt d⟩, ⟨k0_dev102 d, k0_dev102_lt d⟩, ⟨k0_dev103 d, k0_dev103_lt d⟩, ⟨k0_dev104 d, k0_dev104_lt d⟩, ⟨k0_dev105 d, k0_dev105_lt d⟩, ⟨k0_dev106 d, k0_dev106_lt d⟩, ⟨k0_dev107 d, k0_dev107_lt d⟩, ⟨k0_dev108 d, k0_dev108_lt d⟩, ⟨k0_dev109 d, k0_dev109_lt d⟩]]
  ag := ![![⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩, ⟨k0_dev63 d, k0_dev63_lt d⟩],
      ![⟨k0_dev79 d, k0_dev79_lt d⟩, ⟨k0_dev80 d, k0_dev80_lt d⟩, ⟨k0_dev81 d, k0_dev81_lt d⟩, ⟨k0_dev82 d, k0_dev82_lt d⟩, ⟨k0_dev83 d, k0_dev83_lt d⟩, ⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩, ⟨k0_dev91 d, k0_dev91_lt d⟩, ⟨k0_dev92 d, k0_dev92_lt d⟩, ⟨k0_dev93 d, k0_dev93_lt d⟩],
      ![⟨k0_dev110 d, k0_dev110_lt d⟩, ⟨k0_dev111 d, k0_dev111_lt d⟩, ⟨k0_dev112 d, k0_dev112_lt d⟩, ⟨k0_dev113 d, k0_dev113_lt d⟩, ⟨k0_dev114 d, k0_dev114_lt d⟩, ⟨k0_dev115 d, k0_dev115_lt d⟩, ⟨k0_dev116 d, k0_dev116_lt d⟩, ⟨k0_dev117 d, k0_dev117_lt d⟩, ⟨k0_dev118 d, k0_dev118_lt d⟩, ⟨k0_dev119 d, k0_dev119_lt d⟩, ⟨k0_dev120 d, k0_dev120_lt d⟩, ⟨k0_dev121 d, k0_dev121_lt d⟩, ⟨k0_dev122 d, k0_dev122_lt d⟩, ⟨k0_dev123 d, k0_dev123_lt d⟩, ⟨k0_dev124 d, k0_dev124_lt d⟩],
      ![⟨k0_dev126 d, k0_dev126_lt d⟩, ⟨k0_dev127 d, k0_dev127_lt d⟩, ⟨k0_dev128 d, k0_dev128_lt d⟩, ⟨k0_dev129 d, k0_dev129_lt d⟩, ⟨k0_dev130 d, k0_dev130_lt d⟩, ⟨k0_dev131 d, k0_dev131_lt d⟩, ⟨k0_dev132 d, k0_dev132_lt d⟩, ⟨k0_dev133 d, k0_dev133_lt d⟩, ⟨k0_dev134 d, k0_dev134_lt d⟩, ⟨k0_dev135 d, k0_dev135_lt d⟩, ⟨k0_dev136 d, k0_dev136_lt d⟩, ⟨k0_dev137 d, k0_dev137_lt d⟩, ⟨k0_dev138 d, k0_dev138_lt d⟩, ⟨k0_dev139 d, k0_dev139_lt d⟩, ⟨k0_dev140 d, k0_dev140_lt d⟩]]
  x2 := ![⟨k0_dev94 d, k0_dev94_lt d⟩, ⟨k0_dev125 d, k0_dev125_lt d⟩, ⟨k0_dev141 d, k0_dev141_lt d⟩, ⟨k0_dev142 d, k0_dev142_lt d⟩]
  xo := ⟨k0_off1 d, k0_off1_inb d⟩
  xm := ⟨k0_off2 d, k0_off2_inb d⟩
  oh := ![⟨k0_off3 d, k0_off3_inb d⟩, ⟨k0_off5 d, k0_off5_inb d⟩, ⟨k0_off8 d, k0_off8_inb d⟩, ⟨k0_off12 d, k0_off12_inb d⟩]
  ot := ![⟨k0_off19 d, k0_off19_inb d⟩, ⟨k0_off20 d, k0_off20_inb d⟩, ⟨k0_off21 d, k0_off21_inb d⟩, ⟨k0_off22 d, k0_off22_inb d⟩]
  oc := ![⟨k0_off7 d, k0_off7_inb d⟩, ⟨k0_off10 d, k0_off10_inb d⟩, ⟨k0_off14 d, k0_off14_inb d⟩, ⟨k0_off16 d, k0_off16_inb d⟩]
  ar := ![fun j => ⟨k0_off11 d (BitVec.ofNat 32 (2 + 2 * j.val)), k0_off11_inb d j⟩, fun j => ⟨k0_off15 d (BitVec.ofNat 32 (2 + 2 * j.val)), k0_off15_inb d j⟩,
    fun j => ⟨k0_off17 d (BitVec.ofNat 32 (2 + 2 * j.val)), k0_off17_inb d j⟩, fun j => ⟨k0_off18 d (BitVec.ofNat 32 (2 + 2 * j.val)), k0_off18_inb d j⟩]
  cb := ![fun j => ⟨k0_off4 d (BitVec.ofNat 32 (2 + 2 * j.val)), _, k0_off4_wordsbf16 d j⟩, fun j => ⟨k0_off6 d (BitVec.ofNat 32 (2 + 2 * j.val)), _, k0_off6_wordsbf16 d j⟩,
    fun j => ⟨k0_off9 d (BitVec.ofNat 32 (2 + 2 * j.val)), _, k0_off9_wordsbf16 d j⟩, fun j => ⟨k0_off13 d (BitVec.ofNat 32 (2 + 2 * j.val)), _, k0_off13_wordsbf16 d j⟩]

/-- The printed body is the structured program at the printed addresses. -/
theorem body_eq : (bodyAt0 (F := F) t0_0) = .op .deviceId (fun d => prog (addrP d)) := by
  sl_kernel_rfl

end Cert.KernelIdeal.MM

end
-- ==== Proof.Addr.lean ====
/-
  The addresses of the body in closed form.

  Device `d` is the pair of its parity `d % 2` and its rank `d / 2` among the sixteen devices of that
  parity. Its partner differs in parity only; peer `j` is the device `2 (j + 1)` further round. The
  theorem `addr_eq` says that the device numbers and offsets the printed body computes are these.
-/
module

public import proofs.«01_k».proof.Proof.Prog

@[expose] public section

set_option maxRecDepth 16384

noncomputable section

namespace Cert.KernelIdeal.MM

open Idealize.ShloMosaic Idealize.SL.Sem Cert.KernelIdeal.Gen

variable {F : FTy → Type} [FloatOps F]

/-- The device of the other parity and the same rank. -/
def prt (d : Dev nD) : Dev nD := ⟨(d.val + 1 - 2 * (d.val % 2)), by have := d.isLt; show _ < 32; have : d.val < 32 := d.isLt; omega⟩
/-- The device `k` ranks further round, of the same parity. -/
def nx (d : Dev nD) (k : Nat) : Dev nD := ⟨(d.val + 2 * k) % 32, Nat.mod_lt _ (by decide)⟩
/-- The device `k ≤ 16` ranks back round, of the same parity. -/
def pv (d : Dev nD) (k : Nat) : Dev nD := nx d (16 - k)

/-- The first row of a parity's half of the result. -/
def hrow (d : Dev nD) : Nat := 512 * (d.val % 2)
/-- The first row, within the half, of the chunk a rank reduces. -/
def crow (d : Dev nD) : Nat := 32 * (d.val / 2)

theorem prt_prt (d : Dev nD) : prt (prt d) = d := by revert d; decide
theorem pv_nx (d : Dev nD) (j : J15) : pv (nx d (j.val + 1)) (j.val + 1) = d := by revert d j; decide
theorem nx_pv (d : Dev nD) (j : J15) : nx (pv d (j.val + 1)) (j.val + 1) = d := by revert d j; decide
theorem hrow_nx (d : Dev nD) (j : J15) : hrow (nx d (j.val + 1)) = hrow d := by revert d j; decide
theorem hrow_pv (d : Dev nD) (j : J15) : hrow (pv d (j.val + 1)) = hrow d := by revert d j; decide
theorem hrow_prt (d : Dev nD) : hrow (prt d) = 512 - hrow d := by revert d; decide
theorem crow_prt (d : Dev nD) : crow (prt d) = crow d := by revert d; decide

theorem hrow_le (d : Dev nD) : hrow d ≤ 512 := by unfold hrow; omega
theorem crow_le (d : Dev nD) : crow d ≤ 480 := by unfold crow; have : d.val < 32 := d.isLt; omega

theorem inb_xrow (d : Dev nD) : ∀ a, (![hrow d, 0] : Fin 2 → Nat) a + S512x32.size a ≤ S1024x32.size a := by
  have := hrow_le d
  intro a; fin_cases a
  · show hrow d + 512 ≤ 1024; omega
  · show 0 + 32 ≤ 32; omega
theorem inb_half (d : Dev nD) (g : G4) : ∀ a, (![hrow d, 256 * g.val] : Fin 2 → Nat) a + S512x256.size a ≤ S1024x1024.size a := by
  have := hrow_le d
  intro a; fin_cases a
  · show hrow d + 512 ≤ 1024; omega
  · show 256 * g.val + 256 ≤ 1024; omega
theorem inb_chunk (d : Dev nD) (g : G4) : ∀ a, (![hrow d + crow d, 256 * g.val] : Fin 2 → Nat) a + S32x256.size a ≤ S1024x1024.size a := by
  have := hrow_le d
  have := crow_le d
  intro a; fin_cases a
  · show hrow d + crow d + 32 ≤ 1024; omega
  · show 256 * g.val + 256 ≤ 1024; omega
theorem words_cb (d : Dev nD) (g : G4) : ∃ h : ∀ a, (![g.val, crow d, 0] : Fin 3 → Nat) a + S1x32x256.size a ≤ S4x512x256.size a,
    (Rect.unit (s := S4x512x256) ![g.val, crow d, 0] S1x32x256.size h).WholeWords (EltTy.packing .bf16) := by
  revert d g; decide +kernel

/-- The addresses device `d` computes, in closed form. -/
def addr (d : Dev nD) : Addr where
  sg := fun i => if i = 0 then prt d else nx d i.val
  xw := fun _ => prt d
  rs := fun _ j => nx d (j.val + 1)
  ag := fun _ j => nx d (j.val + 1)
  x2 := fun _ => prt d
  xo := ⟨![hrow (prt d), 0], inb_xrow _⟩
  xm := ⟨![hrow d, 0], inb_xrow _⟩
  oh := fun g => ⟨![hrow d, 256 * g.val], inb_half d g⟩
  ot := fun g => ⟨![hrow (prt d), 256 * g.val], inb_half _ g⟩
  oc := fun g => ⟨![hrow d + crow d, 256 * g.val], inb_chunk d g⟩
  ar := fun g j => ⟨![hrow (pv d (j.val + 1)) + crow (pv d (j.val + 1)), 256 * g.val], inb_chunk _ g⟩
  cb := fun g j => ⟨![g.val, crow (nx d (j.val + 1)), 0], words_cb _ g⟩

theorem addr_sg : ∀ (d : Dev nD) (i : Fin 16), (addrP d).sg i = (addr d).sg i := by decide +kernel
theorem addr_xw : ∀ (d : Dev nD) (i : Fin 2), (addrP d).xw i = (addr d).xw i := by decide +kernel
theorem addr_rs : ∀ (d : Dev nD) (g : G4) (j : J15), (addrP d).rs g j = (addr d).rs g j := by decide +kernel
theorem addr_ag : ∀ (d : Dev nD) (g : G4) (j : J15), (addrP d).ag g j = (addr d).ag g j := by decide +kernel
theorem addr_x2 : ∀ (d : Dev nD) (g : G4), (addrP d).x2 g = (addr d).x2 g := by decide +kernel
theorem addr_xo : ∀ (d : Dev nD) (a : Fin 2), (addrP d).xo.1 a = (addr d).xo.1 a := by decide +kernel
theorem addr_xm : ∀ (d : Dev nD) (a : Fin 2), (addrP d).xm.1 a = (addr d).xm.1 a := by decide +kernel
theorem addr_oh : ∀ (d : Dev nD) (g : G4) (a : Fin 2), ((addrP d).oh g).1 a = ((addr d).oh g).1 a := by decide +kernel
theorem addr_ot : ∀ (d : Dev nD) (g : G4) (a : Fin 2), ((addrP d).ot g).1 a = ((addr d).ot g).1 a := by decide +kernel
theorem addr_oc : ∀ (d : Dev nD) (g : G4) (a : Fin 2), ((addrP d).oc g).1 a = ((addr d).oc g).1 a := by decide +kernel
theorem addr_ar : ∀ (d : Dev nD) (g : G4) (j : J15) (a : Fin 2), ((addrP d).ar g j).1 a = ((addr d).ar g j).1 a := by decide +kernel
theorem addr_cb : ∀ (d : Dev nD) (g : G4) (j : J15) (a : Fin 3), ((addrP d).cb g j).1 a = ((addr d).cb g j).1 a := by decide +kernel

theorem Addr.ext' {A B : Addr} (h1 : ∀ i, A.sg i = B.sg i) (h2 : ∀ i, A.xw i = B.xw i) (h3 : ∀ g j, A.rs g j = B.rs g j)
    (h4 : ∀ g j, A.ag g j = B.ag g j) (h5 : ∀ g, A.x2 g = B.x2 g) (h6 : ∀ a, A.xo.1 a = B.xo.1 a) (h7 : ∀ a, A.xm.1 a = B.xm.1 a)
    (h8 : ∀ g a, (A.oh g).1 a = (B.oh g).1 a) (h9 : ∀ g a, (A.ot g).1 a = (B.ot g).1 a) (h10 : ∀ g a, (A.oc g).1 a = (B.oc g).1 a)
    (h11 : ∀ g j a, (A.ar g j).1 a = (B.ar g j).1 a) (h12 : ∀ g j a, (A.cb g j).1 a = (B.cb g j).1 a) : A = B := by
  obtain ⟨a1, a2, a3, a4, a5, a6, a7, a8, a9, a10, a11, a12⟩ := A
  obtain ⟨b1, b2, b3, b4, b5, b6, b7, b8, b9, b10, b11, b12⟩ := B
  have e1 : a1 = b1 := funext h1
  have e2 : a2 = b2 := funext h2
  have e3 : a3 = b3 := funext fun g => funext (h3 g)
  have e4 : a4 = b4 := funext fun g => funext (h4 g)
  have e5 : a5 = b5 := funext h5
  have e6 : a6 = b6 := Subtype.ext (funext h6)
  have e7 : a7 = b7 := Subtype.ext (funext h7)
  have e8 : a8 = b8 := funext fun g => Subtype.ext (funext (h8 g))
  have e9 : a9 = b9 := funext fun g => Subtype.ext (funext (h9 g))
  have e10 : a10 = b10 := funext fun g => Subtype.ext (funext (h10 g))
  have e11 : a11 = b11 := funext fun g => funext fun j => Subtype.ext (funext (h11 g j))
  have e12 : a12 = b12 := funext fun g => funext fun j => Subtype.ext (funext (h12 g j))
  subst e1 e2 e3 e4 e5 e6 e7 e8 e9 e10 e11 e12
  rfl

/-- The printed addresses are the closed ones. -/
theorem addr_eq (d : Dev nD) : addrP d = addr d :=
  Addr.ext' (addr_sg d) (addr_xw d) (addr_rs d) (addr_ag d) (addr_x2 d) (addr_xo d) (addr_xm d) (addr_oh d) (addr_ot d) (addr_oc d)
    (addr_ar d) (addr_cb d)

/-! ## The semaphores' numbers -/

theorem sem10 : ∀ i : Fin 2, (sem2 cc0_scratch10 i).val = 3 + i.val := by decide +kernel
theorem sem11 : ∀ i : Fin 2, (sem2 cc0_scratch11 i).val = 5 + i.val := by decide +kernel
theorem sem12 : ∀ (g : G4) (j : J15), (sem415 cc0_scratch12 g j).val = 7 + 15 * g.val + j.val := by decide +kernel
theorem sem13 : ∀ (g : G4) (j : J15), (sem415 cc0_scratch13 g j).val = 67 + 15 * g.val + j.val := by decide +kernel
theorem sem14 : ∀ (g : G4) (j : J15), (sem415 cc0_scratch14 g j).val = 127 + 15 * g.val + j.val := by decide +kernel
theorem sem15 : ∀ (g : G4) (j : J15), (sem415 cc0_scratch15 g j).val = 187 + 15 * g.val + j.val := by decide +kernel
theorem sem16 : ∀ g : G4, (sem4 cc0_scratch16 g).val = 247 + g.val := by decide +kernel
theorem sem17 : ∀ g : G4, (sem4 cc0_scratch17 g).val = 251 + g.val := by decide +kernel

end Cert.KernelIdeal.MM

end
-- ==== Proof.Contents.lean ====
/-
  What each buffer holds, and the sets of elements the transfers move.

  The contents are functions of a device: what it stages of the two factors, the rounded operands it
  sends its partner, the partial sums, the chunks it receives, the chunk it reduces, the reduced chunks
  it receives, its finished half, and the partner's half. Each is a function on a whole buffer, given
  by the write that fills the element's own block; `old` stands for what a write leaves alone.
-/
module

public import proofs.«01_k».proof.Proof.Addr
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.MM

open Idealize.ShloMosaic Idealize.ShloMosaic.TcCoe
open Idealize.SL Idealize.SL.Sem Cert.KernelIdeal.Gen

variable {F : FTy → Type} [FloatOps F]
variable (m : (ℓ : Loc nD τ sig) → Buf (Elt F) ℓ)

/-- The contents of a buffer of a core. -/
abbrev Con (F : FTy → Type) (b : Ref sig .tc) := b.ty.Contents (Elt F)

/-- What a core's buffer holds at launch. -/
def old (c : Dev nD) (b : Ref sig .tc) : Con F b := m ((c : Thread nD τ).loc b)

/-! ## Ranks and peers -/

/-- The device itself, or the peer it sends its slot-`j` transfers to. -/
def outp (c : Dev nD) : Option J15 → Dev nD
  | none => c
  | some j => nx c (j.val + 1)
/-- The device itself, or the peer whose transfers fill its slot `j`. -/
def inp (c : Dev nD) : Option J15 → Dev nD
  | none => c
  | some j => pv c (j.val + 1)

/-- The rank of a device among the devices of its parity. -/
def rk (d : Dev nD) : Fin 16 := ⟨d.val / 2, by have : d.val < 32 := d.isLt; omega⟩

/-- Which of itself and its peers to send to has a given rank. -/
def outOf (c : Dev nD) (k : Fin 16) : Option J15 :=
  if h : (k.val + 16 - (rk c).val) % 16 = 0 then none else some ⟨(k.val + 16 - (rk c).val) % 16 - 1, by omega⟩
/-- Which of itself and the peers it receives from has a given rank. -/
def inOf (c : Dev nD) (k : Fin 16) : Option J15 :=
  if h : ((rk c).val + 16 - k.val) % 16 = 0 then none else some ⟨((rk c).val + 16 - k.val) % 16 - 1, by omega⟩

theorem outOf_iff : ∀ (c : Dev nD) (k : Fin 16) (t : Option J15), outOf c k = t ↔ rk (outp c t) = k := by decide +kernel
theorem inOf_iff : ∀ (c : Dev nD) (k : Fin 16) (t : Option J15), inOf c k = t ↔ rk (inp c t) = k := by decide +kernel
theorem inOf_inp (c : Dev nD) (t : Option J15) : inOf c (rk (inp c t)) = t := (inOf_iff c _ t).mpr rfl
theorem hrow_inp (c : Dev nD) (t : Option J15) : hrow (inp c t) = hrow c := by
  cases t with
  | none => rfl
  | some j => exact hrow_pv c j
theorem crow_eq (d : Dev nD) : crow d = 32 * (rk d).val := rfl

/-! ## Rectangles of the result and of the partial sums -/

abbrev hR (d : Dev nD) (g : G4) : Rect S1024x1024 := Rect.unit (s := S1024x1024) ![hrow d, 256 * g.val] S512x256.size (inb_half d g)
abbrev oR (d : Dev nD) (g : G4) : Rect S1024x1024 := Rect.unit (s := S1024x1024) ![hrow d + crow d, 256 * g.val] S32x256.size (inb_chunk d g)
abbrev xoR (d : Dev nD) : Rect S1024x32 := Rect.unit (s := S1024x32) ![hrow d, 0] S512x32.size (inb_xrow d)
/-- The chunk of the partial sums that device `d` reduces. -/
abbrev kM (g : G4) (d : Dev nD) : Memref sig .tc .vmem S32x256 .bf16 := cbMem ⟨![g.val, crow d, 0], words_cb d g⟩

/-! ## Reading an element's block off its index -/

def gOf3 (x : S4x512x256.Idx) : G4 := x 0
def aOf3 (x : S4x32x256.Idx) : G4 := x 0
def gOf4 (x : S4x15x32x256.Idx) : G4 := x 0
def jOf4 (x : S4x15x32x256.Idx) : J15 := x 1
def gOfO (x : S1024x1024.Idx) : G4 := ⟨(x 1).val / 256, by have : (x 1).val < 1024 := (x 1).isLt; omega⟩
/-- The rank whose chunk a row of the result lies in. -/
def kOfO (x : S1024x1024.Idx) : Fin 16 := ⟨(x 0).val % 512 / 32, by omega⟩
/-- The rank whose chunk a row of the partial sums lies in. -/
def kOf3 (x : S4x512x256.Idx) : Fin 16 := ⟨(x 1).val / 32, by have : (x 1).val < 512 := (x 1).isLt; omega⟩

/-! ## Contents -/

/-- The columns of the first factor a device stages. -/
def XT (c : Dev nD) : Con F cc0_stg0_0 := (win0_0.blk (0 : Fin 1)).view.read (Elt F) (m ((c : Thread nD τ).loc main_arg0))
/-- The rows of the second factor a device stages. -/
def WT (c : Dev nD) : Con F cc0_stg1_0 := (win0_1.blk (0 : Fin 1)).view.read (Elt F) (m ((c : Thread nD τ).loc main_arg1))

/-- The partner's rows of the first factor, rounded. -/
def XS (c : Dev nD) : Con F cc0_scratch0 := k0_pay1 (F := F) (xM.view.readAt (Elt F) (xoR (prt c)).toLoadRect (XT m c))
/-- The second factor, rounded. -/
def WS (c : Dev nD) : Con F cc0_scratch1 := k0_pay2 (F := F) (wM.view.readAt (Elt F) wR0.toLoadRect (WT m c))
/-- The partner's rounded operands. -/
def XP (c : Dev nD) : Con F cc0_scratch2 := XS m (prt c)
def WP (c : Dev nD) : Con F cc0_scratch3 := WS m (prt c)

/-- The partial sum of a device and its partner, on the device's half of the rows. -/
def O1 (c : Dev nD) : Con F cc0_stg2_0 := fun x =>
  (oM.access (hR c (gOfO x))).write (Elt F) (old m c cc0_stg2_0)
    (k0_pay3 (F := F) (xM.view.readAt (Elt F) (xoR c).toLoadRect (XT m c)) (wM.view.readAt (Elt F) (wR (gOfO x)).toLoadRect (WT m c))
      (xpM.view.readAt (Elt F) xR0.toLoadRect (XP m c)) (wpM.view.readAt (Elt F) (wR (gOfO x)).toLoadRect (WP m c))) Finset.univ x
/-- The same, rounded. -/
def CB (c : Dev nD) : Con F cc0_scratch4 := fun x =>
  (cbM.access (gR (gOf3 x))).write (Elt F) (old m c cc0_scratch4)
    (k0_pay4 (F := F) (xM.view.readAt (Elt F) (xoR c).toLoadRect (XT m c)) (wM.view.readAt (Elt F) (wR (gOf3 x)).toLoadRect (WT m c))
      (xpM.view.readAt (Elt F) xR0.toLoadRect (XP m c)) (wpM.view.readAt (Elt F) (wR (gOf3 x)).toLoadRect (WP m c))) Finset.univ x
/-- The chunks a device receives to reduce. -/
def RS (c : Dev nD) : Con F cc0_scratch5 := fun x =>
  (sM rsM (gOf4 x) (jOf4 x)).view.write (Elt F) (old m c cc0_scratch5)
    ((kM (gOf4 x) c).view.read (Elt F) (CB m (pv c ((jOf4 x).val + 1)))) Finset.univ x
/-- The reduced chunk of a device, rounded. -/
def AB (c : Dev nD) : Con F cc0_scratch6 := fun x =>
  (abM.access (aR (aOf3 x))).write (Elt F) (old m c cc0_scratch6)
    (k0_pay8 (F := F) (oM.view.readAt (Elt F) (oR c (aOf3 x)).toLoadRect (O1 m c)) (rsM.view.readAt (Elt F) (rR (aOf3 x)).toLoadRect (RS m c))) Finset.univ x
/-- The reduced chunks a device receives. -/
def AG (c : Dev nD) : Con F cc0_scratch7 := fun x =>
  (sM agM (gOf4 x) (jOf4 x)).view.write (Elt F) (old m c cc0_scratch7)
    ((aM (gOf4 x)).view.read (Elt F) (AB m (pv c ((jOf4 x).val + 1)))) Finset.univ x
/-- The result with device `e`'s chunk of a column group overwritten. -/
def chunkC (c e : Dev nD) (g : G4) (w : FVec F S32x256 .f32) : Con F cc0_stg2_0 :=
  (oM.access (oR e g)).write (Elt F) (old m c cc0_stg2_0) w Finset.univ
/-- The result with a device's own reduced chunk of a column group written. -/
def ownC (c : Dev nD) (g : G4) : Con F cc0_stg2_0 :=
  chunkC m c c g (k0_pay7 (F := F) (oM.view.readAt (Elt F) (oR c g).toLoadRect (O1 m c)) (rsM.view.readAt (Elt F) (rR g).toLoadRect (RS m c)))
/-- The result with a peer's reduced chunk of a column group written. -/
def peerC (c : Dev nD) (g : G4) (j : J15) : Con F cc0_stg2_0 :=
  chunkC m c (pv c (j.val + 1)) g (k0_pay14 (F := F) (agM.view.readAt (Elt F) (sR g j).toLoadRect (AG m c)))
/-- A device's finished half: its own reduced chunk, and the peers' as received. -/
def FH (c : Dev nD) : Con F cc0_stg2_0 := fun x =>
  match inOf c (kOfO x) with
  | none => ownC m c (gOfO x) x
  | some j => peerC m c (gOfO x) j x
/-- The finished half, rounded. -/
def XB (c : Dev nD) : Con F cc0_scratch8 := fun x =>
  (xbM.access (gR (gOf3 x))).write (Elt F) (old m c cc0_scratch8)
    (k0_pay30 (F := F) (k0_pay29 (F := F) (oM.view.readAt (Elt F) (hR c (gOf3 x)).toLoadRect (FH m c)))) Finset.univ x
/-- The partner's finished half, as received. -/
def XR (c : Dev nD) : Con F cc0_scratch9 := fun x =>
  (gM xrM (gOf3 x)).view.write (Elt F) (old m c cc0_scratch9) ((gM xbM (gOf3 x)).view.read (Elt F) (XB m (prt c))) Finset.univ x
/-- The result: the device's finished half, and the partner's. -/
def FIN (c : Dev nD) : Con F cc0_stg2_0 := fun x =>
  if (x 0).val / 512 = c.val % 2 then FH m c x
  else (oM.access (hR (prt c) (gOfO x))).write (Elt F) (old m c cc0_stg2_0)
    (k0_pay86 (F := F) (xrM.view.readAt (Elt F) (gR (gOfO x)).toLoadRect (XR m c))) Finset.univ x

/-! ## Membership -/

theorem mem_gR (g : G4) (x : S4x512x256.Idx) : x ∈ (gR g).set ↔ gOf3 x = g := by
  rw [Rect.mem_set_unit]
  constructor
  · intro h
    have h0 := h 0
    have a : g.val ≤ (x 0).val := h0.1
    have b : (x 0).val < g.val + 1 := h0.2
    exact Fin.ext (by show (x 0).val = g.val; omega)
  · rintro rfl a
    have h1 : (x 1).val < 512 := (x 1).isLt
    have h2 : (x 2).val < 256 := (x 2).isLt
    fin_cases a
    · exact ⟨le_refl _, Nat.lt_succ_self _⟩
    · exact ⟨Nat.zero_le _, by show (x 1).val < 0 + 512; omega⟩
    · exact ⟨Nat.zero_le _, by show (x 2).val < 0 + 256; omega⟩

theorem mem_aR (g : G4) (x : S4x32x256.Idx) : x ∈ (aR g).set ↔ aOf3 x = g := by
  rw [Rect.mem_set_unit]
  constructor
  · intro h
    have h0 := h 0
    have a : g.val ≤ (x 0).val := h0.1
    have b : (x 0).val < g.val + 1 := h0.2
    exact Fin.ext (by show (x 0).val = g.val; omega)
  · rintro rfl a
    have h1 : (x 1).val < 32 := (x 1).isLt
    have h2 : (x 2).val < 256 := (x 2).isLt
    fin_cases a
    · exact ⟨le_refl _, Nat.lt_succ_self _⟩
    · exact ⟨Nat.zero_le _, by show (x 1).val < 0 + 32; omega⟩
    · exact ⟨Nat.zero_le _, by show (x 2).val < 0 + 256; omega⟩

theorem mem_sR (g : G4) (j : J15) (x : S4x15x32x256.Idx) : x ∈ (sR g j).set ↔ gOf4 x = g ∧ jOf4 x = j := by
  rw [Rect.mem_set_unit]
  constructor
  · intro h
    have h0 := h 0
    have h1 := h 1
    have a : g.val ≤ (x 0).val := h0.1
    have b : (x 0).val < g.val + 1 := h0.2
    have a' : j.val ≤ (x 1).val := h1.1
    have b' : (x 1).val < j.val + 1 := h1.2
    exact ⟨Fin.ext (by show (x 0).val = g.val; omega), Fin.ext (by show (x 1).val = j.val; omega)⟩
  · rintro ⟨rfl, rfl⟩ a
    have h2 : (x 2).val < 32 := (x 2).isLt
    have h3 : (x 3).val < 256 := (x 3).isLt
    fin_cases a
    · exact ⟨le_refl _, Nat.lt_succ_self _⟩
    · exact ⟨le_refl _, Nat.lt_succ_self _⟩
    · exact ⟨Nat.zero_le _, by show (x 2).val < 0 + 32; omega⟩
    · exact ⟨Nat.zero_le _, by show (x 3).val < 0 + 256; omega⟩

theorem mem_rR (g : G4) (x : S4x15x32x256.Idx) : x ∈ (rR g).set ↔ gOf4 x = g := by
  rw [Rect.mem_set_unit]
  constructor
  · intro h
    have h0 := h 0
    have a : g.val ≤ (x 0).val := h0.1
    have b : (x 0).val < g.val + 1 := h0.2
    exact Fin.ext (by show (x 0).val = g.val; omega)
  · rintro rfl a
    have h1 : (x 1).val < 15 := (x 1).isLt
    have h2 : (x 2).val < 32 := (x 2).isLt
    have h3 : (x 3).val < 256 := (x 3).isLt
    fin_cases a
    · exact ⟨le_refl _, Nat.lt_succ_self _⟩
    · exact ⟨Nat.zero_le _, by show (x 1).val < 0 + 15; omega⟩
    · exact ⟨Nat.zero_le _, by show (x 2).val < 0 + 32; omega⟩
    · exact ⟨Nat.zero_le _, by show (x 3).val < 0 + 256; omega⟩

/-- The chunk device `d` reduces, of column group `g`. -/
def kS (g : G4) (d : Dev nD) : Finset S4x512x256.Idx := (kM g d).view.set

theorem mem_kS (g : G4) (d : Dev nD) (x : S4x512x256.Idx) : x ∈ kS g d ↔ gOf3 x = g ∧ kOf3 x = rk d := by
  have e : kS g d = (Rect.unit (s := S4x512x256) ![g.val, crow d, 0] S1x32x256.size (words_cb d g).choose).set := by
    unfold kS
    show ((View.whole cc0_scratch4).slice _ |>.reshape _ _).set = _
    rw [View.set_reshape, View.set_slice_whole]
  rw [e, Rect.mem_set_unit]
  constructor
  · intro h
    have h0 := h 0
    have h1 := h 1
    have a : g.val ≤ (x 0).val := h0.1
    have b : (x 0).val < g.val + 1 := h0.2
    have a' : 32 * (rk d).val ≤ (x 1).val := h1.1
    have b' : (x 1).val < 32 * (rk d).val + 32 := h1.2
    exact ⟨Fin.ext (by show (x 0).val = g.val; omega), Fin.ext (by show (x 1).val / 32 = (rk d).val; omega)⟩
  · rintro ⟨rfl, hk⟩ a
    have hk' : (x 1).val / 32 = (rk d).val := congrArg Fin.val hk
    have h2 : (x 2).val < 256 := (x 2).isLt
    fin_cases a
    · exact ⟨le_refl _, Nat.lt_succ_self _⟩
    · exact ⟨by show 32 * (rk d).val ≤ (x 1).val; omega, by show (x 1).val < 32 * (rk d).val + 32; omega⟩
    · exact ⟨Nat.zero_le _, by show (x 2).val < 0 + 256; omega⟩

theorem mem_hR (d : Dev nD) (g : G4) (x : S1024x1024.Idx) : x ∈ (hR d g).set ↔ (x 0).val / 512 = d.val % 2 ∧ gOfO x = g := by
  have q1 : (x 0).val < 1024 := (x 0).isLt
  have q2 : (x 1).val < 1024 := (x 1).isLt
  rw [Rect.mem_set_unit]
  constructor
  · intro h
    have a : 512 * (d.val % 2) ≤ (x 0).val := (h 0).1
    have b : (x 0).val < 512 * (d.val % 2) + 512 := (h 0).2
    have a' : 256 * g.val ≤ (x 1).val := (h 1).1
    have b' : (x 1).val < 256 * g.val + 256 := (h 1).2
    exact ⟨by omega, Fin.ext (by show (x 1).val / 256 = g.val; omega)⟩
  · rintro ⟨h, rfl⟩ a
    fin_cases a
    · exact ⟨by show 512 * (d.val % 2) ≤ (x 0).val; omega, by show (x 0).val < 512 * (d.val % 2) + 512; omega⟩
    · exact ⟨by show 256 * ((x 1).val / 256) ≤ (x 1).val; omega, by show (x 1).val < 256 * ((x 1).val / 256) + 256; omega⟩

theorem mem_oR (d : Dev nD) (g : G4) (x : S1024x1024.Idx) :
    x ∈ (oR d g).set ↔ ((x 0).val / 512 = d.val % 2 ∧ gOfO x = g) ∧ kOfO x = rk d := by
  have q1 : (x 0).val < 1024 := (x 0).isLt
  have q2 : (x 1).val < 1024 := (x 1).isLt
  have q3 : (rk d).val < 16 := (rk d).isLt
  rw [Rect.mem_set_unit]
  constructor
  · intro h
    have a : 512 * (d.val % 2) + 32 * (rk d).val ≤ (x 0).val := (h 0).1
    have b : (x 0).val < 512 * (d.val % 2) + 32 * (rk d).val + 32 := (h 0).2
    have a' : 256 * g.val ≤ (x 1).val := (h 1).1
    have b' : (x 1).val < 256 * g.val + 256 := (h 1).2
    exact ⟨⟨by omega, Fin.ext (by show (x 1).val / 256 = g.val; omega)⟩, Fin.ext (by show (x 0).val % 512 / 32 = (rk d).val; omega)⟩
  · rintro ⟨⟨h, rfl⟩, hk⟩ a
    have hk' : (x 0).val % 512 / 32 = (rk d).val := congrArg Fin.val hk
    fin_cases a
    · exact ⟨by show 512 * (d.val % 2) + 32 * (rk d).val ≤ (x 0).val; omega, by show (x 0).val < 512 * (d.val % 2) + 32 * (rk d).val + 32; omega⟩
    · exact ⟨by show 256 * ((x 1).val / 256) ≤ (x 1).val; omega, by show (x 1).val < 256 * ((x 1).val / 256) + 256; omega⟩

theorem par_inp : ∀ (c : Dev nD) (t : Option J15), (inp c t).val % 2 = c.val % 2 := by decide +kernel
theorem par_prt : ∀ c : Dev nD, (prt c).val % 2 = 1 - c.val % 2 := by decide +kernel

/-- A column group of the partial sums is the chunks of the device and its peers. -/
theorem mem_kS_iff (c : Dev nD) (g : G4) (t : Option J15) (x : S4x512x256.Idx) :
    x ∈ kS g (outp c t) ↔ x ∈ (gR g).set ∧ outOf c (kOf3 x) = t := by
  rw [mem_kS, mem_gR, outOf_iff, eq_comm (a := kOf3 x)]
/-- A column group of a half is the chunks of the device and its peers. -/
theorem mem_oR_iff (c : Dev nD) (g : G4) (t : Option J15) (x : S1024x1024.Idx) :
    x ∈ (oR (inp c t) g).set ↔ x ∈ (hR c g).set ∧ inOf c (kOfO x) = t := by
  rw [mem_oR, mem_hR, inOf_iff, eq_comm (a := kOfO x), par_inp]

/-! ## A write's elements do not depend on what was there -/

theorem write_over {s : Shape} {e : EltTy} {sp : Space} (v : View sig .tc sp s e) (f g : v.ty.Contents (Elt F)) (w : s.Idx → Elt F e) (i : v.ty.Idx) (hi : i ∈ v.set) :
    v.write (Elt F) f w Finset.univ i = v.write (Elt F) g w Finset.univ i :=
  View.write_congr (fun _ _ _ => rfl) fun h => absurd hi h

theorem hz2 : (![0, 0] : Fin 2 → Nat) = fun _ => 0 := funext fun a => by fin_cases a <;> rfl

end Cert.KernelIdeal.MM

end
-- ==== Proof.Schedule.lean ====
/-
  The protocol: the semaphores' cells, what each payment hands over, and who owes what.

  A device's cells are its barrier cell and, for each of its 126 transfers, a send cell and a receive
  cell. A transfer is a channel: the operands to the partner, a partial chunk or a reduced chunk to a
  peer, the finished half to the partner. Each cell is used once. The barrier cell is paid by the
  partner and the fifteen peers, who hand over the buffers this device is to write on them.
-/
module

public import proofs.«01_k».proof.Proof.Contents
public import Idealize.ShloMosaic.Lib.Transfers

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

/-- The rounds' resource: duties are numbered below sixteen. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## Channels and cells -/

/-- A device's transfers. -/
abbrev Chan := Fin 2 ⊕ (G4 × J15) ⊕ (G4 × J15) ⊕ G4
/-- The operands to the partner. -/
@[match_pattern] abbrev Chan.xw (i : Fin 2) : Chan := Sum.inl i
/-- A partial chunk to a peer. -/
@[match_pattern] abbrev Chan.rs (g : G4) (j : J15) : Chan := Sum.inr (Sum.inl (g, j))
/-- The reduced chunk to a peer. -/
@[match_pattern] abbrev Chan.ag (g : G4) (j : J15) : Chan := Sum.inr (Sum.inr (Sum.inl (g, j)))
/-- The finished half to the partner. -/
@[match_pattern] abbrev Chan.x2 (g : G4) : Chan := Sum.inr (Sum.inr (Sum.inr g))

instance : DecidableEq Chan := inferInstance
instance : Fintype Chan := inferInstance
instance : DecidableEq (Chan ⊕ Chan) := instDecidableEqSum

/-- A device's cells: the barrier's, and each channel's send and receive cell. -/
abbrev Cell := Unit ⊕ Chan ⊕ Chan
@[match_pattern] abbrev Cell.bar : Cell := Sum.inl ()
@[match_pattern] abbrev Cell.snd (h : Chan) : Cell := Sum.inr (Sum.inl h)
@[match_pattern] abbrev Cell.rcv (h : Chan) : Cell := Sum.inr (Sum.inr h)

instance : DecidableEq Cell := instDecidableEqSum
instance : DecidableEq (Option Cell) := inferInstance

def sndSem : Chan → DmaSem sig
  | .xw i => sem2 cc0_scratch10 i
  | .rs g j => sem415 cc0_scratch12 g j
  | .ag g j => sem415 cc0_scratch14 g j
  | .x2 g => sem4 cc0_scratch16 g
def rcvSem : Chan → DmaSem sig
  | .xw i => sem2 cc0_scratch11 i
  | .rs g j => sem415 cc0_scratch13 g j
  | .ag g j => sem415 cc0_scratch15 g j
  | .x2 g => sem4 cc0_scratch17 g

/-- A cell's semaphore. -/
def csem : Cell → SemLoc sig
  | .bar => .reg barS
  | .snd h => .dma (sndSem h)
  | .rcv h => .dma (rcvSem h)

/-- The cell of a DMA semaphore's number. -/
def unsem (n : Nat) : Option Cell :=
  if n < 3 then none
  else if n < 5 then some (.snd (.xw (Fin.ofNat 2 (n - 3))))
  else if n < 7 then some (.rcv (.xw (Fin.ofNat 2 (n - 5))))
  else if n < 67 then some (.snd (.rs (Fin.ofNat 4 ((n - 7) / 15)) (Fin.ofNat 15 ((n - 7) % 15))))
  else if n < 127 then some (.rcv (.rs (Fin.ofNat 4 ((n - 67) / 15)) (Fin.ofNat 15 ((n - 67) % 15))))
  else if n < 187 then some (.snd (.ag (Fin.ofNat 4 ((n - 127) / 15)) (Fin.ofNat 15 ((n - 127) % 15))))
  else if n < 247 then some (.rcv (.ag (Fin.ofNat 4 ((n - 187) / 15)) (Fin.ofNat 15 ((n - 187) % 15))))
  else if n < 251 then some (.snd (.x2 (Fin.ofNat 4 (n - 247))))
  else some (.rcv (.x2 (Fin.ofNat 4 (n - 251))))

/-- The cell of a semaphore. -/
def lookup : SemLoc sig → Option Cell
  | .reg s => some .bar
  | .dma q => unsem q.val

theorem unsem_snd : ∀ h : Chan, unsem (sndSem h).val = some (.snd h) := by decide +kernel
theorem unsem_rcv : ∀ h : Chan, unsem (rcvSem h).val = some (.rcv h) := by decide +kernel

theorem lookup_csem (k : Cell) : lookup (csem k) = some k := by
  rcases k with u | h | h
  · rfl
  · exact unsem_snd h
  · exact unsem_rcv h

theorem csem_injective : Function.Injective csem := fun a b h =>
  Option.some.inj ((lookup_csem a).symm.trans ((congrArg lookup h).trans (lookup_csem b)))

/-- Device `d`'s cell `k`. -/
abbrev cell (d : Dev nD) (k : Cell) : GSem nD τ sig := ((d : Thread nD τ), csem k)

theorem cell_injective : Function.Injective (fun x : Dev nD × Cell => cell x.1 x.2) := by
  rintro ⟨c, k⟩ ⟨c', k'⟩ h
  have h1 : c = c' := congrArg (fun g : GSem nD τ sig => g.1.1) h
  have h2 : k = k' := csem_injective (congrArg Prod.snd h)
  rw [h1, h2]

/-- The device a channel leads to. -/
def chd (c : Dev nD) : Chan → Dev nD
  | .xw _ => prt c
  | .rs _ j => nx c (j.val + 1)
  | .ag _ j => nx c (j.val + 1)
  | .x2 _ => prt c
/-- The device a channel comes from. -/
def chs (c : Dev nD) : Chan → Dev nD
  | .xw _ => prt c
  | .rs _ j => pv c (j.val + 1)
  | .ag _ j => pv c (j.val + 1)
  | .x2 _ => prt c

theorem chs_chd (c : Dev nD) (h : Chan) : chs (chd c h) h = c := by
  rcases h with i | ⟨g, j⟩ | ⟨g, j⟩ | g
  · exact prt_prt c
  · exact pv_nx c j
  · exact pv_nx c j
  · exact prt_prt c
theorem chd_chs (c : Dev nD) (h : Chan) : chd (chs c h) h = c := by
  rcases h with i | ⟨g, j⟩ | ⟨g, j⟩ | g
  · exact prt_prt c
  · exact nx_pv c j
  · exact nx_pv c j
  · exact prt_prt c

/-- The device signal `i` of device `c` goes to. -/
def sg (c : Dev nD) (i : Fin 16) : Dev nD := if i = 0 then prt c else nx c i.val
/-- The device whose signal `i` device `c` receives. -/
def gs (c : Dev nD) (i : Fin 16) : Dev nD := if i = 0 then prt c else nx c (16 - i.val)
theorem gs_sg : ∀ (c : Dev nD) (i : Fin 16), gs (sg c i) i = c := by decide +kernel
theorem sg_gs : ∀ (c : Dev nD) (i : Fin 16), sg (gs c i) i = c := by decide +kernel

/-- The units a channel's transfer credits. -/
def amt : Chan → ℕ
  | .xw i => if i = 0 then xpM.view.dmaCredit else wpM.view.dmaCredit
  | .rs g j => (sM rsM g j).view.dmaCredit
  | .ag g j => (sM agM g j).view.dmaCredit
  | .x2 g => (gM xrM g).view.dmaCredit

theorem amt_pos (h : Chan) : 0 < amt h := by
  rcases h with i | ⟨g, j⟩ | ⟨g, j⟩ | g
  · show 0 < if i = 0 then _ else _
    split <;> exact View.dmaCredit_pos _ (by decide)
  · exact View.dmaCredit_pos _ (by decide)
  · exact View.dmaCredit_pos _ (by decide)
  · exact View.dmaCredit_pos _ (by decide)

/-! ## What the payments hand over -/

/-- Elements `S` of a core's buffer `b`, at share `q`, holding `f` there. -/
def pts (c : Dev nD) (b : Ref sig .tc) (S : Finset b.ty.shape.Idx) (q : PosShare TreeShare) (f : Con F b) : sProp 𝕄 :=
  ((c : Thread nD τ).loc b) ↦[S]{q} f
/-- Elements `S` of a core's buffer, holding anything. -/
def any (c : Dev nD) (b : Ref sig .tc) (S : Finset b.ty.shape.Idx) : sProp 𝕄 := iprop(∃ f : Con F b, pts c b S fullShare f)

instance pts_storable (c : Dev nD) (b : Ref sig .tc) (S) (q) (f : Con F b) : BI.Storable (upEmb : UEmb _ 𝕄) (pts c b S q f) := by
  unfold pts; infer_instance
instance any_storable (c : Dev nD) (b : Ref sig .tc) (S) : BI.Storable (upEmb : UEmb _ 𝕄) (any (F := F) c b S) := by
  unfold any; infer_instance

/-- Where a channel's transfer lands, on the device `c` it leads to. -/
def slotMem (c : Dev nD) : Chan → sProp 𝕄
  | .xw i => if i = 0 then any c cc0_scratch2 Finset.univ else any c cc0_scratch3 Finset.univ
  | .rs g j => any c cc0_scratch5 (sR g j).set
  | .ag g j => any c cc0_scratch7 (sR g j).set
  | .x2 g => any c cc0_scratch9 (gR g).set

/-- What has landed on the device `c` a channel leads to. -/
def rcvPay (c : Dev nD) : Chan → sProp 𝕄
  | .xw i => if i = 0 then pts c cc0_scratch2 Finset.univ fullShare (XP m c) else pts c cc0_scratch3 Finset.univ fullShare (WP m c)
  | .rs g j => pts c cc0_scratch5 (sR g j).set fullShare (RS m c)
  | .ag g j => pts c cc0_scratch7 (sR g j).set fullShare (AG m c)
  | .x2 g => pts c cc0_scratch9 (gR g).set fullShare (XR m c)

/-- What the sender `c` of a channel lends its transfer. -/
def sndPay (c : Dev nD) : Chan → sProp 𝕄
  | .xw i => if i = 0 then pts c cc0_scratch0 Finset.univ fullShare (XS m c) else pts c cc0_scratch1 Finset.univ fullShare (WS m c)
  | .rs g j => pts c cc0_scratch4 (kS g (outp c (some j))) fullShare (CB m c)
  | .ag g j => pts c cc0_scratch6 (aR g).set (shareTok fullShare 15 j) (AB m c)
  | .x2 g => pts c cc0_scratch8 (gR g).set fullShare (XB m c)

/-- What signal `i` of device `d` hands over: the places on `d` the signalled device is to write. -/
def barGive (d : Dev nD) (i : Fin 16) : sProp 𝕄 :=
  if i = 0 then iprop((slotMem d (.xw 0) ∗ slotMem d (.xw 1)) ∗ bigSep Finset.univ fun g : G4 => slotMem d (.x2 g))
  else bigSep Finset.univ fun g : G4 => iprop(slotMem d (.rs g (Fin.ofNat 15 (15 - i.val))) ∗ slotMem d (.ag g (Fin.ofNat 15 (15 - i.val))))

instance slotMem_storable (c : Dev nD) (h : Chan) : BI.Storable (upEmb : UEmb _ 𝕄) (slotMem (F := F) c h) := by
  unfold slotMem; split
  · split <;> infer_instance
  all_goals infer_instance
instance rcvPay_storable (c : Dev nD) (h : Chan) : BI.Storable (upEmb : UEmb _ 𝕄) (rcvPay m c h) := by
  unfold rcvPay; split
  · split <;> infer_instance
  all_goals infer_instance
instance sndPay_storable (c : Dev nD) (h : Chan) : BI.Storable (upEmb : UEmb _ 𝕄) (sndPay m c h) := by
  unfold sndPay; split
  · split <;> infer_instance
  all_goals infer_instance
instance barGive_storable (c : Dev nD) (i : Fin 16) : BI.Storable (upEmb : UEmb _ 𝕄) (barGive (F := F) c i) := by
  unfold barGive; split <;> infer_instance

/-! ## The schedule -/

def cDuties : Cell → Finset (Fin 16)
  | .bar => Finset.univ
  | .snd _ => {0}
  | .rcv _ => {0}
def cAmt : Cell → ℕ
  | .bar => 1
  | .snd h => amt h
  | .rcv h => amt h
def cPay (c : Dev nD) (i : Fin 16) : Cell → sProp 𝕄
  | .bar => barGive (gs c i) i
  | .snd h => sndPay m c h
  | .rcv h => rcvPay m c h

instance cPay_storable (c : Dev nD) (i : Fin 16) (k : Cell) : BI.Storable (upEmb : UEmb _ 𝕄) (cPay m c i k) := by
  unfold cPay; split <;> infer_instance

/-- Every cell has one round: a barrier cell sixteen duties of one unit, a send or receive cell the one
    duty of its transfer's credit. -/
def Rd : Rounds.Schedule (GSem nD τ sig) (Fin 16) 𝕄 where
  duties g r := if r = 0 ∧ g.1.2 = .tc then (match lookup g.2 with | some k => cDuties k | none => ∅) else ∅
  unitless _ := False
  amount g _ _ := match lookup g.2 with | some k => cAmt k | none => 1
  payload g _ d := match lookup g.2 with | some k => cPay m g.1.1 d k | none => iprop(emp)
  amount_pos g _ _ _ := by
    split
    · rename_i k _
      rcases k with u | h | h
      · exact Nat.one_pos
      · exact amt_pos h
      · exact amt_pos h
    · exact Nat.one_pos

instance Rd_payload_storable (g : GSem nD τ sig) (r : ℕ) (d : Fin 16) : BI.Storable (upEmb : UEmb _ 𝕄) ((Rd m).payload g r d) := by
  show BI.Storable upEmb (match lookup g.2 with | some k => cPay m g.1.1 d k | none => iprop(emp))
  split <;> infer_instance

theorem duties_cell (c : Dev nD) (k : Cell) : (Rd m).duties (cell c k) 0 = cDuties k := by
  dsimp only [Rd]; rw [if_pos ⟨rfl, rfl⟩, lookup_csem]
theorem duties_later (g : GSem nD τ sig) : ∀ r, 1 ≤ r → (Rd m).duties g r = ∅ :=
  fun r hr => by dsimp only [Rd]; rw [if_neg fun h => by omega]
theorem amount_cell (c : Dev nD) (k : Cell) (d : Fin 16) : (Rd m).amount (cell c k) 0 d = cAmt k := by
  dsimp only [Rd]; rw [lookup_csem]
theorem payload_cell (c : Dev nD) (k : Cell) (d : Fin 16) : (Rd m).payload (cell c k) 0 d = cPay m c d k := by
  dsimp only [Rd]; rw [lookup_csem]

theorem expect_bar (c : Dev nD) : (Rd m).expect (cell c .bar) 0 = 16 := by
  unfold Schedule.expect Schedule.amountOf
  rw [duties_cell, Finset.sum_congr rfl fun d _ => amount_cell m c .bar d]; rfl
theorem expect_snd (c : Dev nD) (h : Chan) : (Rd m).expect (cell c (.snd h)) 0 = amt h := by
  unfold Schedule.expect Schedule.amountOf
  rw [duties_cell]; exact (Finset.sum_singleton _ _).trans (amount_cell m c (.snd h) 0)
theorem expect_rcv (c : Dev nD) (h : Chan) : (Rd m).expect (cell c (.rcv h)) 0 = amt h := by
  unfold Schedule.expect Schedule.amountOf
  rw [duties_cell]; exact (Finset.sum_singleton _ _).trans (amount_cell m c (.rcv h) 0)

theorem rest_bar (c : Dev nD) : bigSep ((Rd m).duties (cell c .bar) 0 \ ∅) (fun d => (Rd m).payload (cell c .bar) 0 d)
    = bigSep Finset.univ fun i : Fin 16 => (barGive (gs c i) i : sProp 𝕄) := by
  rw [Finset.sdiff_empty, duties_cell]; exact bigSep_congr fun d _ => payload_cell m c .bar d
theorem rest_snd (c : Dev nD) (h : Chan) : bigSep ((Rd m).duties (cell c (.snd h)) 0 \ ∅) (fun d => (Rd m).payload (cell c (.snd h)) 0 d) = sndPay m c h := by
  rw [Finset.sdiff_empty, duties_cell]; exact (bigSep_singleton).trans (payload_cell m c (.snd h) 0)
theorem rest_rcv (c : Dev nD) (h : Chan) : bigSep ((Rd m).duties (cell c (.rcv h)) 0 \ ∅) (fun d => (Rd m).payload (cell c (.rcv h)) 0 d) = rcvPay m c h := by
  rw [Finset.sdiff_empty, duties_cell]; exact (bigSep_singleton).trans (payload_cell m c (.rcv h) 0)

/-! ## What a device owes, and the order of the cells -/

/-- The payments a device makes: its signals and its transfers. -/
abbrev Pay := Fin 16 ⊕ Chan
instance : DecidableEq Pay := instDecidableEqSum
@[match_pattern] abbrev Pay.sig (i : Fin 16) : Pay := Sum.inl i
@[match_pattern] abbrev Pay.ch (h : Chan) : Pay := Sum.inr h

/-- The cell a payment of device `c` goes to. -/
def tcell (c : Dev nD) : Pay → GSem nD τ sig
  | .sig i => cell (sg c i) .bar
  | .ch h => cell (chd c h) (.rcv h)
def pamt : Pay → ℕ
  | .sig _ => 1
  | .ch h => amt h

/-- What a device owes that has the payments `l` left to make. -/
def oweL (c : Dev nD) : List Pay → CellTallies nD τ sig Unit
  | [] => 0
  | o :: l => oweL c l + tallyAt (tcell c o) () (pamt o)

/-- The order of the channels' receive cells: each is waited for only when every payment left goes to a later one. -/
def ord : Chan → ℕ
  | .xw _ => 2
  | .rs g _ => ![3, 4, 6, 9] g
  | .ag g _ => ![5, 7, 10, 12] g
  | .x2 g => ![8, 11, 13, 14] g
def pord : Pay → ℕ
  | .sig _ => 1
  | .ch h => ord h

def L (g : GSem nD τ sig) : Finset Unit := if g.1.2 = .tc then {()} else ∅
def lv (g : GSem nD τ sig) (_ : Unit) : ℕ :=
  match lookup g.2 with | some .bar => 1 | some (.rcv h) => ord h | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_tcell (c : Dev nD) (o : Pay) : lv (tcell c o) () = pord o := by
  rcases o with i | h
  · show (match lookup (csem .bar) with | some .bar => 1 | some (.rcv h) => ord h | _ => 0) = 1
    rw [lookup_csem]
  · show (match lookup (csem (.rcv h)) with | some .bar => 1 | some (.rcv h) => ord h | _ => 0) = ord h
    rw [lookup_csem]
theorem L_tcell (c : Dev nD) (o : Pay) : L (tcell c o) = {()} := by
  rcases o with i | h <;> rfl

theorem oweL_pos {c : Dev nD} {l : List Pay} {g : GSem nD τ sig} {u : Unit} (h : 0 < oweL c l g u) : ∃ o ∈ l, g = tcell c o := by
  induction l with
  | nil => exact absurd h (Nat.lt_irrefl 0)
  | cons o l ih =>
    unfold oweL at h
    rw [Pi.add_apply, Finsupp.add_apply, tallyAt_apply] at h
    by_cases hg : g = tcell c o
    · exact ⟨o, List.mem_cons_self, hg⟩
    · rw [if_neg (fun h' => hg h'.1), Nat.add_zero] at h
      obtain ⟨o', ho', hg'⟩ := ih h
      exact ⟨o', List.mem_cons_of_mem _ ho', hg'⟩

/-- A device may wait on a cell when every payment it has left goes to a later cell. -/
theorem mayWait (c : Dev nD) (sm : SemLoc sig) (n : ℕ) (l : List Pay) (hn : lv ((c : Thread nD τ), sm) () ≤ n) (hl : ∀ o ∈ l, n < pord o) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by obtain ⟨o, _, rfl⟩ := oweL_pos hg; rw [L_tcell]; exact Finset.mem_singleton_self _)
    (fun p hp => by rw [Finset.mem_singleton.mp hp]; exact hn)
    (fun g u hg => by obtain ⟨o, ho, rfl⟩ := oweL_pos hg; rw [lv_tcell]; exact hl o ho)

theorem lv_cell_rcv (c : Dev nD) (h : Chan) : lv (cell c (.rcv h)) () = ord h := by
  show (match lookup (csem (.rcv h)) with | some .bar => 1 | some (.rcv h) => ord h | _ => 0) = ord h
  rw [lookup_csem]
theorem lv_cell_bar (c : Dev nD) : lv (cell c .bar) () = 1 := rfl

/-! ## The payments in program order -/

def lxw : List Pay := [.ch (.xw 0), .ch (.xw 1)]
def lrs (g : G4) : List Pay := peers.map fun j => .ch (.rs g j)
def lag (g : G4) : List Pay := peers.map fun j => .ch (.ag g j)
def lx2 (g : G4) : List Pay := [.ch (.x2 g)]
def lsg : List Pay := sigs.map .sig

/-- The payments left before each stage of the body, last stage first. -/
def p13 : List Pay := []
def p12 : List Pay := lx2 3 ++ p13
def p11 : List Pay := lx2 2 ++ p12
def p10 : List Pay := lag 3 ++ p11
def p9 : List Pay := lx2 1 ++ p10
def p8 : List Pay := lag 2 ++ p9
def p7 : List Pay := lrs 3 ++ p8
def p6 : List Pay := lx2 0 ++ p7
def p5 : List Pay := lag 1 ++ p6
def p4 : List Pay := lrs 2 ++ p5
def p3 : List Pay := lag 0 ++ p4
def p2 : List Pay := lrs 1 ++ p3
def p1 : List Pay := lrs 0 ++ p2
def p0 : List Pay := lxw ++ p1
def pAll : List Pay := lsg ++ p0

/-- What a device owes at launch. -/
def O₀ (c : Dev nD) : CellTallies nD τ sig Unit := oweL c pAll

/-- Every payment is made once. -/
theorem pAll_nodup : pAll.Nodup := by decide +kernel
theorem pAll_any : ∀ o : Pay, (pAll.any fun a => decide (a = o)) = true := by decide +kernel
theorem pAll_mem (o : Pay) : o ∈ pAll := by
  obtain ⟨a, ha, h⟩ := List.any_eq_true.mp (pAll_any o)
  rw [← of_decide_eq_true h]; exact ha

end Cert.KernelIdeal.MM

end
-- ==== Proof.Rules.lean ====
/-
  The rules of the body: a signal, a transfer, a wait, each in terms of the channel it serves; and how
  loops and stages compose.
-/
module

public import proofs.«01_k».proof.Proof.Schedule

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## What is known throughout -/

/-- Every cell's invariant, and that its round has begun. -/
def recs : sProp 𝕄 := bigSep Finset.univ fun x : Dev nD × Cell =>
  iprop(cellInv ER (Rd m) (K x) (cell x.1 x.2) ∗ reached ER (cell x.1 x.2) 0)
instance recs_persistent : BI.Persistent (recs m K) := by unfold recs; infer_instance

/-- That, and the cells' order. -/
def ctx : sProp 𝕄 := iprop(recs m K ∗ levAts L lv)
instance ctx_persistent : BI.Persistent (ctx m K) := by unfold ctx; infer_instance

theorem ctx_cell (c : Dev nD) (k : Cell) :
    ctx m K ⊢ iprop(cellInv ER (Rd m) (K (c, k)) (cell c k) ∗ reached ER (cell c k) 0) := by
  unfold ctx recs
  iintro ⟨H, -⟩
  iapply (show (bigSep Finset.univ fun x : Dev nD × Cell => iprop(cellInv ER (Rd m) (K x) (cell x.1 x.2) ∗ reached ER (cell x.1 x.2) 0))
      ⊢ iprop(cellInv ER (Rd m) (K (c, k)) (cell c k) ∗ reached ER (cell c k) 0) from bigSep_elim (Finset.mem_univ ((c, k) : Dev nD × Cell)))
  iexact H
theorem ctx_lev : ctx m K ⊢ (levAts L lv : sProp 𝕄) := by
  unfold ctx; iintro ⟨-, H⟩; iexact H

/-- The device with the payments `l` left to make. -/
def own (c : Dev nD) (l : List Pay) : sProp 𝕄 := iprop(ctx m K ∗ ∃ W, owes (c : Thread nD τ) (oweL c l) W)

/-- The tokens of a transfer. -/
def sT (c : Dev nD) (h : Chan) : sProp 𝕄 :=
  iprop(dutyTok ER (cell c (.snd h)) 0 (0 : Fin 16) ∗ dutyTok ER (cell (chd c h) (.rcv h)) 0 (0 : Fin 16))
/-- The send cell before the transfer. -/
def sA (c : Dev nD) (h : Chan) : sProp 𝕄 := atPos ER (cell c (.snd h)) 0 (∅ : Finset (Fin 16)) 0
/-- The send cell while the transfer is on its way. -/
def sC (c : Dev nD) (h : Chan) : sProp 𝕄 := iprop(sA c h ∗ cred (tallyAt (cell c (.snd h)) () (amt h)))
/-- The receive cell before its wait. -/
def rA (c : Dev nD) (h : Chan) : sProp 𝕄 :=
  iprop(atPos ER (cell c (.rcv h)) 0 (∅ : Finset (Fin 16)) 0 ∗ cred (tallyAt (cell c (.rcv h)) () (amt h)))
/-- A cell at zero, its use over. -/
def z (c : Dev nD) (k : Cell) : sProp 𝕄 := semVal (cell c k) 0

/-- The weakest precondition on a device. -/
abbrev wpp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Composition -/

theorem seq {c : Dev nD} {A B R : sProp 𝕄} {p q : PR F} {Q : PUnit → sProp 𝕄} (h : A ⊢ wpp c p fun _ => B) (h' : iprop(B ∗ R) ⊢ wpp c q Q) :
    iprop(A ∗ R) ⊢ wpp c (p.bind fun _ => q) Q := by
  show _ ⊢ wpp c (p >>= fun _ => q) Q
  unfold wpp
  rw [wp_bind]
  exact (sep_mono_left h).trans ((wp_frame_r _ _ _).trans (wp_mono _ _ _ fun _ => h'))

theorem seq0 {c : Dev nD} {A B : sProp 𝕄} {p q : PR F} {Q : PUnit → sProp 𝕄} (h : A ⊢ wpp c p fun _ => B) (h' : B ⊢ wpp c q Q) :
    A ⊢ wpp c (p.bind fun _ => q) Q := by
  show _ ⊢ wpp c (p >>= fun _ => q) Q
  unfold wpp
  rw [wp_bind]
  exact h.trans (wp_mono _ _ _ fun _ => h')

theorem wpp_post {c : Dev nD} {A B B' : sProp 𝕄} {p : PR F} (h : A ⊢ wpp c p fun _ => B) (h' : B ⊢ B') : A ⊢ wpp c p fun _ => B' :=
  h.trans (wp_mono _ _ _ fun _ => h')

/-- The separating conjunction along a list. -/
def sepL {ι : Type} (Φ : ι → sProp 𝕄) : List ι → sProp 𝕄
  | [] => iprop(emp)
  | i :: l => iprop(Φ i ∗ sepL Φ l)

theorem sepL_eq {ι : Type} [DecidableEq ι] (Φ : ι → sProp 𝕄) : ∀ l : List ι, l.Nodup → sepL Φ l = bigSep l.toFinset Φ
  | [], _ => (bigSep_empty (Φ := Φ)).symm
  | i :: l, h => by
    rw [List.toFinset_cons, bigSep_insert (by rw [List.mem_toFinset]; exact (List.nodup_cons.mp h).1), ← sepL_eq Φ l (List.nodup_cons.mp h).2]
    rfl

/-- A loop whose iterations each turn their own `Pre` into `Post` and step the invariant. -/
theorem runL_wp {ι : Type} (c : Dev nD) (f : ι → PR F) (I : List ι → sProp 𝕄) (Pre Post : ι → sProp 𝕄)
    (h : ∀ j l, iprop(I (j :: l) ∗ Pre j) ⊢ wpp c (f j) fun _ => iprop(I l ∗ Post j)) (l : List ι) :
    iprop(I l ∗ sepL Pre l) ⊢ wpp c (runL f l) fun _ => iprop(I [] ∗ sepL Post l) := by
  induction l with
  | nil =>
    unfold runL wpp
    rw [wp_ret]
    iintro H; imodintro; iexact H
  | cons j l ih =>
    unfold runL sepL
    refine BIBase.Entails.trans ?_ (seq (A := iprop(I (j :: l) ∗ Pre j)) (B := iprop(I l ∗ Post j)) (R := sepL Pre l) (h j l) ?_)
    · iintro ⟨HI, Hj, Hl⟩
      isplitl [HI Hj]
      · isplitl [HI] <;> iassumption
      · iexact Hl
    · refine BIBase.Entails.trans (Q := iprop(iprop(I l ∗ sepL Pre l) ∗ Post j)) ?_ ?_
      · iintro ⟨⟨HI, Hj⟩, Hl⟩
        isplitl [HI Hl]
        · isplitl [HI] <;> iassumption
        · iexact Hj
      · refine (sep_mono_left ih).trans ((wp_frame_r _ _ _).trans (wp_mono _ _ _ fun _ => ?_))
        iintro ⟨⟨HI, Hl⟩, Hj⟩
        isplitl [HI]; · iexact HI
        isplitl [Hj] <;> iassumption

theorem peers_sep (Φ : J15 → sProp 𝕄) : sepL Φ peers = bigSep Finset.univ Φ :=
  (sepL_eq Φ _ (by decide)).trans (congrArg (fun S => bigSep S Φ) (by decide))
theorem sigs_sep (Φ : Fin 16 → sProp 𝕄) : sepL Φ sigs = bigSep Finset.univ Φ :=
  (sepL_eq Φ _ (by decide)).trans (congrArg (fun S => bigSep S Φ) (by decide))

/-- A loop over the peers, each iteration making one payment. -/
theorem peers_wp (c : Dev nD) (f : J15 → PR F) (pay : J15 → Pay) (rest : List Pay) (Pre Post : J15 → sProp 𝕄)
    (h : ∀ j l, iprop(own m K c (pay j :: l) ∗ Pre j) ⊢ wpp c (f j) fun _ => iprop(own m K c l ∗ Post j)) :
    iprop(own m K c (peers.map pay ++ rest) ∗ bigSep Finset.univ Pre) ⊢ wpp c (runL f peers) fun _ => iprop(own m K c rest ∗ bigSep Finset.univ Post) := by
  have := runL_wp c f (fun l => own m K c (l.map pay ++ rest)) Pre Post (fun j l => h j _) peers
  rw [peers_sep, peers_sep] at this
  exact this

/-- A loop over the peers that makes no payment and keeps `R`. -/
theorem peers_wp0 (c : Dev nD) (f : J15 → PR F) (R : sProp 𝕄) (Pre Post : J15 → sProp 𝕄)
    (h : ∀ j, iprop(R ∗ Pre j) ⊢ wpp c (f j) fun _ => iprop(R ∗ Post j)) :
    iprop(R ∗ bigSep Finset.univ Pre) ⊢ wpp c (runL f peers) fun _ => iprop(R ∗ bigSep Finset.univ Post) := by
  have := runL_wp c f (fun l => R) Pre Post (fun j l => h j) peers
  rw [peers_sep, peers_sep] at this
  exact this

/-- An operation alone, from its rule before a continuation. -/
theorem lift_wp {c : Dev nD} {A B : sProp 𝕄} {o : TpuEff nD τ sig (Elt F) Λ₀ .tc PUnit}
    (h : ∀ Q : PUnit → sProp 𝕄, A ⊢ iprop((B -∗ wpp c (Prog.ret ⟨⟩) Q) -∗ wpp c (.op o Prog.ret) Q)) :
    A ⊢ wpp c (.op o Prog.ret) fun _ => B := by
  iintro HA
  iapply (h fun _ => B) $$ HA
  iintro H
  unfold wpp; rw [wp_ret]; imodintro; iexact H

/-! ## A signal -/

theorem sig_wp (c : Dev nD) (i : Fin 16) (l : List Pay) :
    iprop(own m K c (.sig i :: l) ∗ dutyTok ER (cell (sg c i) .bar) 0 i ∗ barGive c i)
      ⊢ wpp c (semSignalWord (sg c i) barS 1#32) fun _ => own m K c l := by
  refine lift_wp fun Q => ?_
  unfold own
  iintro ⟨⟨#Hctx, ⟨%W, HO⟩⟩, Ht, Hp⟩ Hk
  ihave Hc := (ctx_cell m K (sg c i) .bar) $$ Hctx
  icases Hc with ⟨#HI, #Hr⟩
  iapply (Rounds.wp_signal 𝒱₀ ER (Rd m) (c : Thread nD τ) none (dst := (sg c i : Thread nD τ)) (κ := K (sg c i, .bar)) (r := 0)
      (d := i) (by show i ∈ (Rd m).duties (cell (sg c i) .bar) 0; rw [duties_cell]; exact Finset.mem_univ _)
      ((amount_cell m (sg c i) .bar i).trans (by decide)) () (oweL c l) rfl (W := W)) $$ [HO Ht Hp]
  · isplitr; · iexact HI
    isplitl [HO]; · iexact HO
    isplitl [Ht]; · iexact Ht
    isplitl [Hp]
    · rw [show (Rd m).payload ((sg c i : Thread nD τ), SemLoc.reg barS) 0 i = barGive c i from
        (payload_cell m (sg c i) .bar i).trans (congrArg (fun d => barGive d i) (gs_sg c i))]
      iexact Hp
    iexact Hr
  iintro HO
  iapply Hk
  isplitr; · iexact Hctx
  iexists W; iexact HO

/-! ## A transfer -/

theorem send_wp (c n : Dev nD) (h : Chan) (hn : n = chd c h) (l : List Pay) {s : Shape} {e : EltTy} {sp sp' : Space}
    {src : Memref sig .tc sp s e} {dst : Memref sig (Dev.tc n : Thread nD τ).2.kind sp' s e} {hsc : dst.view.ref.isScScratch = false}
    {sS sR : DmaSem sig} (hS : sS = sndSem h) (hR : sR = rcvSem h)
    {hsrc : src.view.WordExact} {hdst : dst.view.WordExact} {hsem : DmaTarget.Typed sp (.dma sR) (.remote (Dev.tc n : Thread nD τ) dst (.dma sS) hsc)}
    {q : PosShare TreeShare} {fs : Buf (Elt F) (src.view.loc (c : Thread nD τ))} {fd : Buf (Elt F) (dst.view.loc (Dev.tc n : Thread nD τ))}
    (hN : dst.view.amount (.dma sR) = amt h)
    (hpay₁ : (src.view.loc (c : Thread nD τ) ↦[src.view.set]{q} fs) ⊢ sndPay m c h)
    (hpay₂ : (dst.view.loc (Dev.tc n : Thread nD τ) ↦[dst.view.set]{fullShare} (dst.view.write (Elt F) fd (src.view.read (Elt F) fs) Finset.univ))
      ⊢ rcvPay m n h) {α : Type} (k : PUnit → Prog (TpuEff nD τ sig (Elt F) Λ₀ .tc) α) (Q : α → sProp 𝕄) :
    iprop(own m K c (.ch h :: l) ∗ sT c h ∗ sA c h ∗ (src.view.loc (c : Thread nD τ) ↦[src.view.set]{q} fs)
        ∗ (dst.view.loc (Dev.tc n : Thread nD τ) ↦[dst.view.set]{fullShare} fd))
      ⊢ iprop((iprop(own m K c l ∗ sC c h) -∗ wpp c (k ⟨⟩) Q)
        -∗ wpp c (.op (.enqueueDma src (.remote (Dev.tc n : Thread nD τ) dst (.dma sS) hsc) (.dma sR) hsrc hdst hsem) k) Q) := by
  subst hn hS hR
  unfold own sT sC sA
  iintro ⟨⟨#Hctx, ⟨%W, HO⟩⟩, ⟨Hts, Htr⟩, Hat, Hs, Hd⟩ Hk
  ihave Hc := (ctx_cell m K c (.snd h)) $$ Hctx
  icases Hc with ⟨#HI, #Hr⟩
  ihave Hc := (ctx_cell m K (chd c h) (.rcv h)) $$ Hctx
  icases Hc with ⟨#HI', #Hr'⟩
  iapply (Rounds.wp_send_pointsTo 𝒱₀ ER (Rd m) (c : Thread nD τ) none (κ₁ := K (c, .snd h)) (κ₂ := K (chd c h, .rcv h))
    (r₁ := 0) (r₂ := 0) (d₁ := 0) (d₂ := 0) (fd := fd)
    (by show (0 : Fin 16) ∈ (Rd m).duties (cell c (.snd h)) 0; rw [duties_cell]; exact Finset.mem_singleton_self _)
    (by show (0 : Fin 16) ∈ (Rd m).duties (cell (chd c h) (.rcv h)) 0; rw [duties_cell]; exact Finset.mem_singleton_self _)
    () () (amt h) hN (amount_cell m c (.snd h) 0) (amount_cell m (chd c h) (.rcv h) 0) (oweL c l) rfl (W := W)
    (hpay₁.trans (Entails.of_eq (payload_cell m c (.snd h) 0).symm))
    (hpay₂.trans (Entails.of_eq (payload_cell m (chd c h) (.rcv h) 0).symm))) $$ [HO Hts Htr Hs Hd]
  · isplitr; · iexact HI
    isplitr; · iexact HI'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hcr, HO⟩
  iapply Hk
  isplitl [HO]
  · isplitr; · iexact Hctx
    iexists W; iexact HO
  isplitl [Hat] <;> iassumption

/-! ## Waits -/

theorem rest_bar' (c : Dev nD) : bigSep ((Rd m).duties ((c : Thread nD τ), SemLoc.reg barS) 0 \ ∅) (fun d => (Rd m).payload ((c : Thread nD τ), SemLoc.reg barS) 0 d)
    = bigSep Finset.univ fun i : Fin 16 => (barGive (gs c i) i : sProp 𝕄) := rest_bar m c
theorem rest_snd' (c : Dev nD) (h : Chan) : bigSep ((Rd m).duties ((c : Thread nD τ), SemLoc.dma (sndSem h)) 0 \ ∅)
    (fun d => (Rd m).payload ((c : Thread nD τ), SemLoc.dma (sndSem h)) 0 d) = sndPay m c h := rest_snd m c h
theorem rest_rcv' (c : Dev nD) (h : Chan) : bigSep ((Rd m).duties ((c : Thread nD τ), SemLoc.dma (rcvSem h)) 0 \ ∅)
    (fun d => (Rd m).payload ((c : Thread nD τ), SemLoc.dma (rcvSem h)) 0 d) = rcvPay m c h := rest_rcv m c h

/-- A receive cell's wait: what landed, and the cell at zero. -/
theorem rcv_wp (c : Dev nD) (h : Chan) (l : List Pay) (hl : ∀ o ∈ l, ord h < pord o) {s : Shape} {e : EltTy} {sp sp' : Space}
    {src : Memref sig .tc sp' s e} {dst : Memref sig .tc sp s e} {hsrc : src.view.WordExact} {hdst : dst.view.WordExact}
    {sR : DmaSem sig} (hR : sR = rcvSem h) (hN : amt h = dst.view.dmaCredit)
    {α : Type} (k : PUnit → Prog (TpuEff nD τ sig (Elt F) Λ₀ .tc) α) (Q : α → sProp 𝕄) :
    iprop(own m K c l ∗ rA c h)
      ⊢ iprop((iprop(own m K c l ∗ z c (.rcv h) ∗ rcvPay m c h) -∗ wpp c (k ⟨⟩) Q) -∗ wpp c (.op (.waitDma2 sR src dst hsrc hdst) k) Q) := by
  subst hR
  unfold own rA z
  rw [hN]
  iintro ⟨⟨#Hctx, ⟨%W, HO⟩⟩, Hat, Hcr⟩ Hk
  ihave Hc := (ctx_cell m K c (.rcv h)) $$ Hctx
  icases Hc with ⟨#HI, #Hr⟩
  ihave #Hlev := (ctx_lev m K) $$ Hctx
  iapply (Rounds.wp_wait_rest_token 𝒱₀ ER (Rd m) (c : Thread nD τ) none (κ := K (c, .rcv h))
      (wpE_waitDma2_eq 𝒱₀ (c : Thread nD τ) none Set.univ) (Set.mem_univ _) () (O := oweL c l) (W := W) (R := 0) (m := 0) (T := ∅)
      (by rw [Nat.zero_add, ← hN]; exact (expect_rcv m c h).symm)) $$ [Hat HO Hcr]
  · isplitr; · iexact HI
    isplitl [Hcr]; · iexact Hcr
    isplitl [HO]; · iexact HO
    isplitr; · iapply (mayWait c (csem (.rcv h)) (ord h) l (le_of_eq (lv_cell_rcv c h)) hl); iexact Hlev
    iexact Hat
  iintro ⟨HO, Hat, -, Hp⟩
  ihave Hp := (Entails.of_eq (rest_rcv' m c h)) $$ Hp
  imod (Rounds.cell_close ER (Rd m) (Set.mem_univ (K (c, .rcv h))) (fun h => h) (R := 0 + 1) (duties_later m (cell c (.rcv h)))) $$ [Hat] with Hz
  · isplitr; · iexact HI
    iexact Hat
  iapply Hk
  isplitl [HO]
  · isplitr; · iexact Hctx
    iexists _; iexact HO
  isplitl [Hz] <;> iassumption

/-- A send cell's wait, when every payment has been made: what the transfer borrowed, and the cell at zero. -/
theorem snd_wp (c : Dev nD) (h : Chan) {s : Shape} {e : EltTy} {sp sp' : Space}
    {src : Memref sig .tc sp' s e} {dst : Memref sig .tc sp s e} {hsrc : src.view.WordExact} {hdst : dst.view.WordExact}
    {sS : DmaSem sig} (hS : sS = sndSem h) (hN : amt h = dst.view.dmaCredit)
    {α : Type} (k : PUnit → Prog (TpuEff nD τ sig (Elt F) Λ₀ .tc) α) (Q : α → sProp 𝕄) :
    iprop(own m K c [] ∗ sC c h)
      ⊢ iprop((iprop(own m K c [] ∗ z c (.snd h) ∗ sndPay m c h) -∗ wpp c (k ⟨⟩) Q) -∗ wpp c (.op (.waitDma2 sS src dst hsrc hdst) k) Q) := by
  subst hS
  unfold own sC sA z
  rw [hN]
  iintro ⟨⟨#Hctx, ⟨%W, HO⟩⟩, Hat, Hcr⟩ Hk
  ihave Hc := (ctx_cell m K c (.snd h)) $$ Hctx
  icases Hc with ⟨#HI, #Hr⟩
  iapply (Rounds.wp_wait_rest_token 𝒱₀ ER (Rd m) (c : Thread nD τ) none (κ := K (c, .snd h))
      (wpE_waitDma2_eq 𝒱₀ (c : Thread nD τ) none Set.univ) (Set.mem_univ _) () (O := oweL c []) (W := W) (R := 0) (m := 0) (T := ∅)
      (by rw [Nat.zero_add, ← hN]; exact (expect_snd m c h).symm)) $$ [Hat HO Hcr]
  · isplitr; · iexact HI
    isplitl [Hcr]; · iexact Hcr
    isplitl [HO]; · iexact HO
    isplitr; · rw [show oweL c [] = 0 from rfl, MayWait_zero]; iempintro
    iexact Hat
  iintro ⟨HO, Hat, -, Hp⟩
  ihave Hp := (Entails.of_eq (rest_snd' m c h)) $$ Hp
  imod (Rounds.cell_close ER (Rd m) (Set.mem_univ (K (c, .snd h))) (fun h => h) (R := 0 + 1) (duties_later m (cell c (.snd h)))) $$ [Hat] with Hz
  · isplitr; · iexact HI
    iexact Hat
  iapply Hk
  isplitl [HO]
  · isplitr; · iexact Hctx
    iexists _; iexact HO
  isplitl [Hz] <;> iassumption

/-- The wait for the sixteen signals: what they hand over, and the cell at zero. -/
theorem bar_wp (c : Dev nD) (l : List Pay) (hl : ∀ o ∈ l, 1 < pord o) :
    iprop(own m K c l ∗ atPos ER (cell c .bar) 0 (∅ : Finset (Fin 16)) 0 ∗ cred (tallyAt (cell c .bar) () 16))
      ⊢ wpp c (semWaitWord barS 16#32) fun _ => iprop(own m K c l ∗ z c .bar ∗ bigSep Finset.univ fun i : Fin 16 => barGive (gs c i) i) := by
  refine lift_wp fun Q => ?_
  unfold own z
  iintro ⟨⟨#Hctx, ⟨%W, HO⟩⟩, Hat, Hcr⟩ Hk
  ihave Hc := (ctx_cell m K c .bar) $$ Hctx
  icases Hc with ⟨#HI, #Hr⟩
  ihave #Hlev := (ctx_lev m K) $$ Hctx
  iapply (Rounds.wp_wait_rest_token 𝒱₀ ER (Rd m) (c : Thread nD τ) none (κ := K (c, .bar))
      (wpE_semWait_eq 𝒱₀ (c : Thread nD τ) none Set.univ) (Set.mem_univ _) () (O := oweL c l) (W := W) (R := 0) (m := 0) (T := ∅)
      (by rw [show ((c : Thread nD τ), SemLoc.reg barS) = cell c .bar from rfl, expect_bar]; decide)) $$ [Hat HO Hcr]
  · isplitr; · iexact HI
    isplitl [Hcr]; · iexact Hcr
    isplitl [HO]; · iexact HO
    isplitr; · iapply (mayWait c (csem .bar) 1 l (le_of_eq (lv_cell_bar c)) hl); iexact Hlev
    iexact Hat
  iintro ⟨HO, Hat, -, Hp⟩
  ihave Hp := (Entails.of_eq (rest_bar' m c)) $$ Hp
  imod (Rounds.cell_close ER (Rd m) (Set.mem_univ (K (c, .bar))) (fun h => h) (R := 0 + 1) (duties_later m (cell c .bar))) $$ [Hat] with Hz
  · isplitr; · iexact HI
    iexact Hat
  iapply Hk
  isplitl [HO]
  · isplitr; · iexact Hctx
    iexists _; iexact HO
  isplitl [Hz] <;> iassumption

end Cert.KernelIdeal.MM

end
-- ==== Proof.Pieces.lean ====
/-
  Memory in pieces: splitting a buffer's elements by a classifier, joining them again, and the pieces
  the transfers move.
-/
module

public import proofs.«01_k».proof.Proof.Rules

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ)

/-! ## Families -/

theorem bigSep_opt (Φ : Option J15 → sProp 𝕄) :
    bigSep Finset.univ Φ = iprop(Φ none ∗ bigSep Finset.univ fun j : J15 => Φ (some j)) := by
  rw [show (Finset.univ : Finset (Option J15)) = insert none ((Finset.univ : Finset J15).map Function.Embedding.some) by decide,
    bigSep_insert (by decide), bigSep_map]
  rfl

theorem bigSep_two (Φ : Fin 2 → sProp 𝕄) : bigSep Finset.univ Φ = iprop(Φ 0 ∗ Φ 1) :=
  bigSep_univ_eq_bigSepL [0, 1] (by decide) (by decide) Φ
theorem bigSep_four (Φ : G4 → sProp 𝕄) : bigSep Finset.univ Φ = iprop(Φ 0 ∗ Φ 1 ∗ Φ 2 ∗ Φ 3) :=
  bigSep_univ_eq_bigSepL [0, 1, 2, 3] (by decide) (by decide) Φ

/-- A family over the channels, by kind. -/
theorem bigSep_chan (Φ : Chan → sProp 𝕄) :
    bigSep Finset.univ Φ = iprop((Φ (.xw 0) ∗ Φ (.xw 1)) ∗ (bigSep Finset.univ fun g : G4 => bigSep Finset.univ fun j : J15 => Φ (.rs g j))
      ∗ (bigSep Finset.univ fun g : G4 => bigSep Finset.univ fun j : J15 => Φ (.ag g j)) ∗ bigSep Finset.univ fun g : G4 => Φ (.x2 g)) := by
  refine (bigSep_univ_sum Φ).trans ?_
  rw [bigSep_univ_sum (fun b : (G4 × J15) ⊕ (G4 × J15) ⊕ G4 => Φ (.inr b)), bigSep_univ_sum (fun b : (G4 × J15) ⊕ G4 => Φ (.inr (.inr b))),
    bigSep_univ_prod, bigSep_univ_prod, bigSep_two]
  rfl

/-- The signals are the partner's and, for each slot, a peer's. -/
def sigE : Unit ⊕ J15 ≃ Fin 16 where
  toFun x := match x with | .inl _ => 0 | .inr j => ⟨15 - j.val, by omega⟩
  invFun i := if i = 0 then .inl () else .inr (Fin.ofNat 15 (15 - i.val))
  left_inv := by decide
  right_inv := by decide

theorem bigSep_sig (Φ : Fin 16 → sProp 𝕄) :
    bigSep Finset.univ Φ = iprop(Φ 0 ∗ bigSep Finset.univ fun j : J15 => Φ ⟨15 - j.val, by omega⟩) := by
  rw [bigSep_univ_equiv sigE Φ]
  refine (bigSep_univ_sum _).trans ?_
  rw [show (bigSep Finset.univ fun a : Unit => Φ (sigE (Sum.inl a))) = Φ 0 from bigSep_univ_eq_bigSepL [()] (by decide) (by decide) _]
  rfl

/-! ## Pieces of a buffer -/

theorem pts_split {T : Type} [Fintype T] [DecidableEq T] (c : Dev nD) (b : Ref sig .tc) (S : Finset b.ty.shape.Idx) (q : PosShare TreeShare)
    (f : Con F b) (cl : b.ty.shape.Idx → T) (A : T → Finset b.ty.shape.Idx) (h : ∀ t i, i ∈ A t ↔ i ∈ S ∧ cl i = t) :
    pts c b S q f = bigSep Finset.univ fun t => pts c b (A t) q f := by
  unfold pts
  rw [show S = Finset.univ.biUnion A from Finset.ext fun i => by
    rw [Finset.mem_biUnion]
    exact ⟨fun hi => ⟨cl i, Finset.mem_univ _, (h _ i).mpr ⟨hi, rfl⟩⟩, fun ⟨t, _, ht⟩ => ((h t i).mp ht).1⟩]
  exact pointsTo_biUnion _ _ fun t _ t' _ hne => Finset.disjoint_left.mpr fun i hi hi' => hne (((h t i).mp hi).2.symm.trans ((h t' i).mp hi').2)

theorem pts_congr {c : Dev nD} {b : Ref sig .tc} {S : Finset b.ty.shape.Idx} {q : PosShare TreeShare} {f g : Con F b} (h : ∀ i ∈ S, f i = g i) :
    pts c b S q f = pts c b S q g := pointsTo_congr h

theorem pts_any (c : Dev nD) (b : Ref sig .tc) (S : Finset b.ty.shape.Idx) (f : Con F b) : pts c b S fullShare f ⊢ any c b S := by
  unfold any; iintro H; iexists f; iexact H

theorem any_split {T : Type} [Fintype T] [DecidableEq T] (c : Dev nD) (b : Ref sig .tc) (S : Finset b.ty.shape.Idx)
    (cl : b.ty.shape.Idx → T) (A : T → Finset b.ty.shape.Idx) (h : ∀ t i, i ∈ A t ↔ i ∈ S ∧ cl i = t) :
    any (F := F) c b S ⊢ bigSep Finset.univ fun t => any c b (A t) := by
  unfold any
  iintro ⟨%f, H⟩
  ihave H := (Entails.of_eq (pts_split c b S fullShare f cl A h)) $$ H
  iapply (show (bigSep Finset.univ fun t => pts c b (A t) fullShare f) ⊢ bigSep Finset.univ fun t => iprop(∃ f : Con F b, pts c b (A t) fullShare f) from
    bigSep_mono fun t _ => pts_any c b (A t) f)
  iexact H

theorem any_join {T : Type} [Fintype T] [DecidableEq T] (c : Dev nD) (b : Ref sig .tc) [Nonempty (Con F b)] (S : Finset b.ty.shape.Idx)
    (cl : b.ty.shape.Idx → T) (A : T → Finset b.ty.shape.Idx) (h : ∀ t i, i ∈ A t ↔ i ∈ S ∧ cl i = t) :
    (bigSep Finset.univ fun t => any (F := F) c b (A t)) ⊢ any c b S := by
  unfold any
  iintro H
  ihave H := (show (bigSep Finset.univ fun t => iprop(∃ f : Con F b, pts c b (A t) fullShare f)) ⊢ iprop(∃ y : T → Con F b, bigSep Finset.univ fun t => pts c b (A t) fullShare (y t)) from
    bigSep_exists_pi Finset.univ fun t (f : Con F b) => pts c b (A t) fullShare f) $$ H
  icases H with ⟨%y, H⟩
  iexists fun i => y (cl i) i
  iapply (Entails.of_eq (pts_split c b S fullShare (fun i => y (cl i) i) cl A h).symm)
  iapply (Entails.of_eq (show (bigSep Finset.univ fun t => pts c b (A t) fullShare (y t)) = bigSep Finset.univ fun t => pts c b (A t) fullShare (fun i => y (cl i) i) from
    bigSep_congr fun t _ => pts_congr fun i hi => by rw [((h t i).mp hi).2]))
  iexact H

/-! ## The pieces -/

theorem set_xr (g : G4) : (gM xrM g).view.set = (gR g).set := by
  show ((View.whole cc0_scratch9).slice _ |>.reshape _ _).set = _
  rw [View.set_reshape, View.set_slice_whole]
theorem set_xb (g : G4) : (gM xbM g).view.set = (gR g).set := by
  show ((View.whole cc0_scratch8).slice _ |>.reshape _ _).set = _
  rw [View.set_reshape, View.set_slice_whole]
theorem set_ab (g : G4) : (aM g).view.set = (aR g).set := by
  show ((View.whole cc0_scratch6).slice _ |>.reshape _ _).set = _
  rw [View.set_reshape, View.set_slice_whole]
theorem set_rs (g : G4) (j : J15) : (sM rsM g j).view.set = (sR g j).set := by
  show ((View.whole cc0_scratch5).slice _ |>.reshape _ _).set = _
  rw [View.set_reshape, View.set_slice_whole]
theorem set_ag (g : G4) (j : J15) : (sM agM g j).view.set = (sR g j).set := by
  show ((View.whole cc0_scratch7).slice _ |>.reshape _ _).set = _
  rw [View.set_reshape, View.set_slice_whole]

theorem setOn_whole (b : Ref sig .tc) (T : Finset b.ty.shape.Idx) : (View.whole b : View sig .tc _ _ _).setOn T = T := by
  ext i
  constructor
  · intro h; obtain ⟨j, hj, e⟩ := Finset.mem_map.mp h; exact (show j = i from e) ▸ hj
  · intro h; exact Finset.mem_map.mpr ⟨i, h, rfl⟩

theorem setOn_load (b : Ref sig .tc) (r : Rect b.ty.shape) : (View.whole b : View sig .tc _ _ _).setOn r.toLoadRect.set = r.set :=
  (setOn_whole b _).trans rfl

/-- The slots of a column group. -/
theorem sR_cl (g : G4) (j : J15) (x : S4x15x32x256.Idx) : x ∈ (sR g j).set ↔ x ∈ (rR g).set ∧ jOf4 x = j := by
  rw [mem_sR, mem_rR]
/-- A device's slots' rows, group by group. -/
theorem gR_cl (g : G4) (x : S4x512x256.Idx) : x ∈ (gR g).set ↔ x ∈ (Finset.univ : Finset S4x512x256.Idx) ∧ gOf3 x = g := by
  rw [mem_gR]; exact ⟨fun h => ⟨Finset.mem_univ _, h⟩, fun h => h.2⟩
theorem aR_cl (g : G4) (x : S4x32x256.Idx) : x ∈ (aR g).set ↔ x ∈ (Finset.univ : Finset S4x32x256.Idx) ∧ aOf3 x = g := by
  rw [mem_aR]; exact ⟨fun h => ⟨Finset.mem_univ _, h⟩, fun h => h.2⟩
theorem rR_cl (g : G4) (x : S4x15x32x256.Idx) : x ∈ (rR g).set ↔ x ∈ (Finset.univ : Finset S4x15x32x256.Idx) ∧ gOf4 x = g := by
  rw [mem_rR]; exact ⟨fun h => ⟨Finset.mem_univ _, h⟩, fun h => h.2⟩

/-- The result's two halves of a column group, by whether the row is the device's. -/
def ownHalf (c : Dev nD) (x : S1024x1024.Idx) : Bool := decide ((x 0).val / 512 = c.val % 2)
def halfR (c : Dev nD) (b : Bool) (g : G4) : Rect S1024x1024 := hR (if b then c else prt c) g

theorem halfR_cl (c : Dev nD) (t : Bool × G4) (x : S1024x1024.Idx) :
    x ∈ (halfR c t.1 t.2).set ↔ x ∈ (Finset.univ : Finset S1024x1024.Idx) ∧ (ownHalf c x, gOfO x) = t := by
  obtain ⟨b, g⟩ := t
  have q1 : (x 0).val < 1024 := (x 0).isLt
  have hp := par_prt c
  have e : x ∈ (halfR c b g).set ↔ (x 0).val / 512 = (if b then c else prt c).val % 2 ∧ gOfO x = g := mem_hR _ _ _
  show x ∈ (halfR c b g).set ↔ _
  rw [e, Prod.mk.injEq]
  cases b
  · constructor
    · rintro ⟨h, h'⟩
      refine ⟨Finset.mem_univ _, decide_eq_false fun h2 => ?_, h'⟩
      have h3 : (x 0).val / 512 = (prt c).val % 2 := h
      omega
    · rintro ⟨-, h, h'⟩
      refine ⟨?_, h'⟩
      have h2 := of_decide_eq_false h
      show (x 0).val / 512 = (prt c).val % 2
      omega
  · constructor
    · rintro ⟨h, h'⟩
      exact ⟨Finset.mem_univ _, decide_eq_true h, h'⟩
    · rintro ⟨-, h, h'⟩
      exact ⟨of_decide_eq_true h, h'⟩

/-- The whole result in its halves and column groups. -/
theorem bigSep_half (c : Dev nD) (Φ : (b : Bool) → G4 → sProp 𝕄) :
    (bigSep Finset.univ fun t : Bool × G4 => Φ t.1 t.2) = iprop((bigSep Finset.univ fun g => Φ true g) ∗ bigSep Finset.univ fun g => Φ false g) :=
  (bigSep_univ_prod _).trans (bigSep_univ_eq_bigSepL [true, false] (by decide) (by decide) _)

end Cert.KernelIdeal.MM

end
-- ==== Proof.Sends.lean ====
/-
  The transfers and the waits of the body, one theorem per kind.
-/
module

public import proofs.«01_k».proof.Proof.Pieces

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## What lands -/

/-- A chunk sent to slot `j` of the device `j + 1` ranks on is the chunk that device receives there. -/
theorem RS_lands (c : Dev nD) (g : G4) (j : J15) (fd : Con F cc0_scratch5) (i : S4x15x32x256.Idx) (hi : i ∈ (sR g j).set) :
    (sM rsM g j).view.write (Elt F) fd ((kM g (nx c (j.val + 1))).view.read (Elt F) (CB m c)) Finset.univ i = RS m (nx c (j.val + 1)) i := by
  obtain ⟨rfl, rfl⟩ := (mem_sR g j i).mp hi
  unfold RS
  rw [pv_nx]
  exact write_over (sM rsM (gOf4 i) (jOf4 i)).view _ _ _ i (by rw [set_rs]; exact hi)
theorem AG_lands (c : Dev nD) (g : G4) (j : J15) (fd : Con F cc0_scratch7) (i : S4x15x32x256.Idx) (hi : i ∈ (sR g j).set) :
    (sM agM g j).view.write (Elt F) fd ((aM g).view.read (Elt F) (AB m c)) Finset.univ i = AG m (nx c (j.val + 1)) i := by
  obtain ⟨rfl, rfl⟩ := (mem_sR g j i).mp hi
  unfold AG
  rw [pv_nx]
  exact write_over (sM agM (gOf4 i) (jOf4 i)).view _ _ _ i (by rw [set_ag]; exact hi)
theorem XR_lands (c : Dev nD) (g : G4) (fd : Con F cc0_scratch9) (i : S4x512x256.Idx) (hi : i ∈ (gR g).set) :
    (gM xrM g).view.write (Elt F) fd ((gM xbM g).view.read (Elt F) (XB m c)) Finset.univ i = XR m (prt c) i := by
  obtain rfl := (mem_gR g i).mp hi
  unfold XR
  rw [prt_prt]
  exact write_over (gM xrM (gOf3 i)).view _ _ _ i (by rw [set_xr]; exact hi)

/-! ## Sends -/

theorem slot_xw0 (c : Dev nD) : (slotMem c (.xw 0) : sProp 𝕄) = any c cc0_scratch2 Finset.univ := rfl
theorem slot_xw1 (c : Dev nD) : (slotMem c (.xw 1) : sProp 𝕄) = any c cc0_scratch3 Finset.univ := rfl

/-- A partial chunk is sent: the chunk is lent, the peer's slot is filled. -/
theorem send_rs (c : Dev nD) (g : G4) (j : J15) (l : List Pay) :
    iprop(own m K c (.ch (.rs g j) :: l) ∗ ((sT c (.rs g j) ∗ sA c (.rs g j) ∗ any (nx c (j.val + 1)) cc0_scratch5 (sR g j).set)
        ∗ pts c cc0_scratch4 (kS g (outp c (some j))) fullShare (CB m c)))
      ⊢ wpp c (pRsSend (addr c) g j) fun _ => iprop(own m K c l ∗ sC c (.rs g j)) := by
  refine lift_wp fun Q => ?_
  unfold any
  iintro ⟨HO, ⟨Ht, Ha, %fd, Hd⟩, Hs⟩ Hk
  iapply (send_wp m K c (nx c (j.val + 1)) (.rs g j) rfl l (src := kM g (nx c (j.val + 1))) (dst := sM rsM g j) (fs := CB m c) (fd := fd) (q := fullShare)
    rfl rfl (hsc := rfl) rfl
    (by show _ ⊢ pts c cc0_scratch4 (kS g (nx c (j.val + 1))) fullShare (CB m c); unfold pts kS; exact BIBase.Entails.rfl)
    (by
      show (_ : sProp 𝕄) ⊢ pts (nx c (j.val + 1)) cc0_scratch5 (sR g j).set fullShare (RS m (nx c (j.val + 1)))
      unfold pts
      rw [set_rs]
      exact Entails.of_eq (pointsTo_congr fun i hi => RS_lands m c g j fd i hi)) Prog.ret Q) $$ [HO Ht Ha Hd Hs]
  · isplitl [HO]; · iexact HO
    isplitl [Ht]; · iexact Ht
    isplitl [Ha]; · iexact Ha
    isplitl [Hs]
    · rw [show outp c (some j) = nx c (j.val + 1) from rfl]; unfold pts kS; iexact Hs
    unfold pts; rw [set_rs]; iexact Hd
  iexact Hk

/-- The reduced chunk is sent: a share of it is lent, the peer's slot is filled. -/
theorem send_ag (c : Dev nD) (g : G4) (j : J15) (l : List Pay) :
    iprop(own m K c (.ch (.ag g j) :: l) ∗ ((sT c (.ag g j) ∗ sA c (.ag g j) ∗ any (nx c (j.val + 1)) cc0_scratch7 (sR g j).set)
        ∗ pts c cc0_scratch6 (aR g).set (shareTok fullShare 15 j) (AB m c)))
      ⊢ wpp c (pAgSend (addr c) g j) fun _ => iprop(own m K c l ∗ sC c (.ag g j)) := by
  refine lift_wp fun Q => ?_
  unfold any
  iintro ⟨HO, ⟨Ht, Ha, %fd, Hd⟩, Hs⟩ Hk
  iapply (send_wp m K c (nx c (j.val + 1)) (.ag g j) rfl l (src := aM g) (dst := sM agM g j) (fs := AB m c) (fd := fd) (q := shareTok fullShare 15 j)
    rfl rfl (hsc := rfl) rfl
    (by show _ ⊢ pts c cc0_scratch6 (aR g).set (shareTok fullShare 15 j) (AB m c); unfold pts; rw [set_ab])
    (by
      show (_ : sProp 𝕄) ⊢ pts (nx c (j.val + 1)) cc0_scratch7 (sR g j).set fullShare (AG m (nx c (j.val + 1)))
      unfold pts
      rw [set_ag]
      exact Entails.of_eq (pointsTo_congr fun i hi => AG_lands m c g j fd i hi)) Prog.ret Q) $$ [HO Ht Ha Hd Hs]
  · isplitl [HO]; · iexact HO
    isplitl [Ht]; · iexact Ht
    isplitl [Ha]; · iexact Ha
    isplitl [Hs]; · unfold pts; rw [set_ab]; iexact Hs
    unfold pts; rw [set_ag]; iexact Hd
  iexact Hk

/-- The finished half is sent. -/
theorem send_x2 (c n : Dev nD) (hn : n = prt c) (g : G4) (l : List Pay) {hsc hsrc hdst hsem} (Q : PUnit → sProp 𝕄) (k : PUnit → PR F) :
    iprop(own m K c (.ch (.x2 g) :: l) ∗ (sT c (.x2 g) ∗ sA c (.x2 g) ∗ any (prt c) cc0_scratch9 (gR g).set)
        ∗ pts c cc0_scratch8 (gR g).set fullShare (XB m c))
      ⊢ iprop((iprop(own m K c l ∗ sC c (.x2 g)) -∗ wpp c (k ⟨⟩) Q) -∗ wpp c
        (.op (.enqueueDma (gM xbM g) (.remote (Dev.tc n : Thread nD τ) (gM xrM g) (.dma (sem4 cc0_scratch16 g)) hsc) (.dma (sem4 cc0_scratch17 g)) hsrc hdst hsem) k) Q) := by
  subst hn
  unfold any
  iintro ⟨HO, ⟨Ht, Ha, %fd, Hd⟩, Hs⟩ Hk
  iapply (send_wp m K c (prt c) (.x2 g) rfl l (src := gM xbM g) (dst := gM xrM g) (fs := XB m c) (fd := fd) (q := fullShare)
    rfl rfl (hsc := hsc) rfl
    (by show _ ⊢ pts c cc0_scratch8 (gR g).set fullShare (XB m c); unfold pts; rw [set_xb])
    (by
      show (_ : sProp 𝕄) ⊢ pts (prt c) cc0_scratch9 (gR g).set fullShare (XR m (prt c))
      unfold pts
      rw [set_xr]
      exact Entails.of_eq (pointsTo_congr fun i hi => XR_lands m c g fd i hi)) k Q) $$ [HO Ht Ha Hd Hs]
  · isplitl [HO]; · iexact HO
    isplitl [Ht]; · iexact Ht
    isplitl [Ha]; · iexact Ha
    isplitl [Hs]; · unfold pts; rw [set_xb]; iexact Hs
    unfold pts; rw [set_xr]; iexact Hd
  iexact Hk

theorem set_xs : (xsM : Memref sig .tc .vmem S512x32 .bf16).view.set = Finset.univ := View.set_whole _
theorem set_ws : (wsM : Memref sig .tc .vmem S32x1024 .bf16).view.set = Finset.univ := View.set_whole _
theorem set_xp : (xpM : Memref sig .tc .vmem S512x32 .bf16).view.set = Finset.univ := View.set_whole _
theorem set_wp : (wpM : Memref sig .tc .vmem S32x1024 .bf16).view.set = Finset.univ := View.set_whole _

/-- The rounded rows are sent. -/
theorem send_xs (c n : Dev nD) (hn : n = prt c) (l : List Pay) {hsc hsrc hdst hsem} (Q : PUnit → sProp 𝕄) (k : PUnit → PR F) :
    iprop(own m K c (.ch (.xw 0) :: l) ∗ (sT c (.xw 0) ∗ sA c (.xw 0) ∗ any (prt c) cc0_scratch2 Finset.univ)
        ∗ pts c cc0_scratch0 Finset.univ fullShare (XS m c))
      ⊢ iprop((iprop(own m K c l ∗ sC c (.xw 0)) -∗ wpp c (k ⟨⟩) Q) -∗ wpp c
        (.op (.enqueueDma xsM (.remote (Dev.tc n : Thread nD τ) xpM (.dma (sem2 cc0_scratch10 0)) hsc) (.dma (sem2 cc0_scratch11 0)) hsrc hdst hsem) k) Q) := by
  subst hn
  unfold any
  iintro ⟨HO, ⟨Ht, Ha, %fd, Hd⟩, Hs⟩ Hk
  iapply (send_wp m K c (prt c) (.xw 0) rfl l (src := xsM) (dst := xpM) (fs := XS m c) (fd := fd) (q := fullShare)
    rfl rfl (hsc := hsc) rfl
    (by show _ ⊢ pts c cc0_scratch0 Finset.univ fullShare (XS m c); unfold pts; rw [set_xs])
    (by
      show (_ : sProp 𝕄) ⊢ pts (prt c) cc0_scratch2 Finset.univ fullShare (XP m (prt c))
      unfold pts
      rw [set_xp]
      refine Entails.of_eq (pointsTo_congr fun i _ => ?_)
      unfold XP; rw [prt_prt]
      exact congrFun (View.write_whole_univ (Val := Elt F) cc0_scratch2 fd (XS m c)) i) k Q) $$ [HO Ht Ha Hd Hs]
  · isplitl [HO]; · iexact HO
    isplitl [Ht]; · iexact Ht
    isplitl [Ha]; · iexact Ha
    isplitl [Hs]; · unfold pts; rw [set_xs]; iexact Hs
    unfold pts; rw [set_xp]; iexact Hd
  iexact Hk

/-- The rounded second factor is sent. -/
theorem send_ws (c n : Dev nD) (hn : n = prt c) (l : List Pay) {hsc hsrc hdst hsem} (Q : PUnit → sProp 𝕄) (k : PUnit → PR F) :
    iprop(own m K c (.ch (.xw 1) :: l) ∗ (sT c (.xw 1) ∗ sA c (.xw 1) ∗ any (prt c) cc0_scratch3 Finset.univ)
        ∗ pts c cc0_scratch1 Finset.univ fullShare (WS m c))
      ⊢ iprop((iprop(own m K c l ∗ sC c (.xw 1)) -∗ wpp c (k ⟨⟩) Q) -∗ wpp c
        (.op (.enqueueDma wsM (.remote (Dev.tc n : Thread nD τ) wpM (.dma (sem2 cc0_scratch10 1)) hsc) (.dma (sem2 cc0_scratch11 1)) hsrc hdst hsem) k) Q) := by
  subst hn
  unfold any
  iintro ⟨HO, ⟨Ht, Ha, %fd, Hd⟩, Hs⟩ Hk
  iapply (send_wp m K c (prt c) (.xw 1) rfl l (src := wsM) (dst := wpM) (fs := WS m c) (fd := fd) (q := fullShare)
    rfl rfl (hsc := hsc) rfl
    (by show _ ⊢ pts c cc0_scratch1 Finset.univ fullShare (WS m c); unfold pts; rw [set_ws])
    (by
      show (_ : sProp 𝕄) ⊢ pts (prt c) cc0_scratch3 Finset.univ fullShare (WP m (prt c))
      unfold pts
      rw [set_wp]
      refine Entails.of_eq (pointsTo_congr fun i _ => ?_)
      unfold WP; rw [prt_prt]
      exact congrFun (View.write_whole_univ (Val := Elt F) cc0_scratch3 fd (WS m c)) i) k Q) $$ [HO Ht Ha Hd Hs]
  · isplitl [HO]; · iexact HO
    isplitl [Ht]; · iexact Ht
    isplitl [Ha]; · iexact Ha
    isplitl [Hs]; · unfold pts; rw [set_ws]; iexact Hs
    unfold pts; rw [set_wp]; iexact Hd
  iexact Hk

/-! ## Waits in loops -/

theorem wait_rs (c : Dev nD) (g : G4) (j : J15) (l : List Pay) (hl : ∀ o ∈ l, ord (.rs g j) < pord o) :
    iprop(own m K c l ∗ rA c (.rs g j))
      ⊢ wpp c (pRsWait (addr c) g j) fun _ => iprop(own m K c l ∗ (z c (.rcv (.rs g j)) ∗ pts c cc0_scratch5 (sR g j).set fullShare (RS m c))) :=
  lift_wp fun Q => rcv_wp m K c (.rs g j) l hl (dst := sM rsM g j) rfl rfl Prog.ret Q
theorem wait_ag (c : Dev nD) (g : G4) (j : J15) (l : List Pay) (hl : ∀ o ∈ l, ord (.ag g j) < pord o) :
    iprop(own m K c l ∗ rA c (.ag g j))
      ⊢ wpp c (pAgWait (addr c) g j) fun _ => iprop(own m K c l ∗ (z c (.rcv (.ag g j)) ∗ pts c cc0_scratch7 (sR g j).set fullShare (AG m c))) :=
  lift_wp fun Q => rcv_wp m K c (.ag g j) l hl (dst := sM agM g j) rfl rfl Prog.ret Q
theorem done_rs (c : Dev nD) (g : G4) (j : J15) :
    iprop(own m K c [] ∗ sC c (.rs g j))
      ⊢ wpp c (pRsDone (addr c) g j) fun _ => iprop(own m K c [] ∗ (z c (.snd (.rs g j)) ∗ pts c cc0_scratch4 (kS g (outp c (some j))) fullShare (CB m c))) :=
  lift_wp fun Q => snd_wp m K c (.rs g j) (dst := kM g (nx c (j.val + 1))) rfl rfl Prog.ret Q
theorem done_ag (c : Dev nD) (g : G4) (j : J15) :
    iprop(own m K c [] ∗ sC c (.ag g j))
      ⊢ wpp c (pAgDone (addr c) g j) fun _ => iprop(own m K c [] ∗ (z c (.snd (.ag g j)) ∗ pts c cc0_scratch6 (aR g).set (shareTok fullShare 15 j) (AB m c))) :=
  lift_wp fun Q => snd_wp m K c (.ag g j) (dst := aM g) rfl rfl Prog.ret Q

end Cert.KernelIdeal.MM

end
-- ==== Proof.Stages.lean ====
/-
  The stages of the body: what each needs and what it leaves.

  A column group passes through five states: untouched; its partial sums computed and their chunks on
  their way; its own chunk reduced and on its way; its half finished and on its way; its other half
  received and every send waited out.
-/
module

public import proofs.«01_k».proof.Proof.Sends

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## What the stores leave -/

theorem O1_on (c : Dev nD) (g : G4) (f : Con F cc0_stg2_0) (i : S1024x1024.Idx) (hi : i ∈ (hR c g).set) :
    (oM.access (hR c g)).write (Elt F) f
      (k0_pay3 (F := F) (xM.view.readAt (Elt F) (xoR c).toLoadRect (XT m c)) (wM.view.readAt (Elt F) (wR g).toLoadRect (WT m c))
        (xpM.view.readAt (Elt F) xR0.toLoadRect (XP m c)) (wpM.view.readAt (Elt F) (wR g).toLoadRect (WP m c))) Finset.univ i = O1 m c i := by
  obtain rfl := ((mem_hR c g i).mp hi).2
  exact write_over (oM.access (hR c (gOfO i))) _ _ _ i (by rw [View.set_slice_whole]; exact hi)
theorem CB_on (c : Dev nD) (g : G4) (f : Con F cc0_scratch4) (i : S4x512x256.Idx) (hi : i ∈ (gR g).set) :
    (cbM.access (gR g)).write (Elt F) f
      (k0_pay4 (F := F) (xM.view.readAt (Elt F) (xoR c).toLoadRect (XT m c)) (wM.view.readAt (Elt F) (wR g).toLoadRect (WT m c))
        (xpM.view.readAt (Elt F) xR0.toLoadRect (XP m c)) (wpM.view.readAt (Elt F) (wR g).toLoadRect (WP m c))) Finset.univ i = CB m c i := by
  obtain rfl := (mem_gR g i).mp hi
  exact write_over (cbM.access (gR (gOf3 i))) _ _ _ i (by rw [View.set_slice_whole]; exact hi)
theorem AB_on (c : Dev nD) (g : G4) (f : Con F cc0_scratch6) (i : S4x32x256.Idx) (hi : i ∈ (aR g).set) :
    (abM.access (aR g)).write (Elt F) f
      (k0_pay8 (F := F) (oM.view.readAt (Elt F) (oR c g).toLoadRect (O1 m c)) (rsM.view.readAt (Elt F) (rR g).toLoadRect (RS m c))) Finset.univ i = AB m c i := by
  obtain rfl := (mem_aR g i).mp hi
  exact write_over (abM.access (aR (aOf3 i))) _ _ _ i (by rw [View.set_slice_whole]; exact hi)
theorem XB_on (c : Dev nD) (g : G4) (f : Con F cc0_scratch8) (i : S4x512x256.Idx) (hi : i ∈ (gR g).set) :
    (xbM.access (gR g)).write (Elt F) f
      (k0_pay30 (F := F) (k0_pay29 (F := F) (oM.view.readAt (Elt F) (hR c g).toLoadRect (FH m c)))) Finset.univ i = XB m c i := by
  obtain rfl := (mem_gR g i).mp hi
  exact write_over (xbM.access (gR (gOf3 i))) _ _ _ i (by rw [View.set_slice_whole]; exact hi)

theorem mem_own (c : Dev nD) (g : G4) (t : Option J15) (i : S1024x1024.Idx) (hi : i ∈ (oR (inp c t) g).set) : gOfO i = g ∧ inOf c (kOfO i) = t := by
  have h := (mem_oR_iff c g t i).mp hi
  exact ⟨((mem_hR c g i).mp h.1).2, h.2⟩

/-- A chunk written over anything. -/
theorem chunk_on (c e : Dev nD) (g : G4) (w : FVec F S32x256 .f32) (f : Con F cc0_stg2_0) (i : S1024x1024.Idx) (hi : i ∈ (oR e g).set) :
    (oM.access (oR e g)).write (Elt F) f w Finset.univ i = chunkC m c e g w i :=
  write_over (oM.access (oR e g)) _ _ _ i (by rw [View.set_slice_whole]; exact hi)
/-- The device's own chunk of its finished half. -/
theorem FH_own (c : Dev nD) (g : G4) (i : S1024x1024.Idx) (hi : i ∈ (oR (inp c none) g).set) : ownC m c g i = FH m c i := by
  obtain ⟨rfl, hk⟩ := mem_own c g none i hi
  unfold FH
  rw [hk]
/-- A peer's chunk of the finished half. -/
theorem FH_peer (c : Dev nD) (g : G4) (j : J15) (i : S1024x1024.Idx) (hi : i ∈ (oR (inp c (some j)) g).set) : peerC m c g j i = FH m c i := by
  obtain ⟨rfl, hk⟩ := mem_own c g (some j) i hi
  unfold FH
  rw [hk]
/-- The partner's half of the result. -/
theorem FIN_other (c : Dev nD) (g : G4) (f : Con F cc0_stg2_0) (i : S1024x1024.Idx) (hi : i ∈ (hR (prt c) g).set) :
    (oM.access (hR (prt c) g)).write (Elt F) f
      (k0_pay86 (F := F) (xrM.view.readAt (Elt F) (gR g).toLoadRect (XR m c))) Finset.univ i = FIN m c i := by
  obtain ⟨hp, rfl⟩ := (mem_hR (prt c) g i).mp hi
  unfold FIN
  rw [if_neg (by have := par_prt c; omega)]
  exact write_over (oM.access (hR (prt c) (gOfO i))) _ _ _ i (by rw [View.set_slice_whole]; exact hi)
/-- The device's half of the result. -/
theorem FIN_own (c : Dev nD) (g : G4) (i : S1024x1024.Idx) (hi : i ∈ (hR c g).set) : FH m c i = FIN m c i := by
  unfold FIN
  rw [if_pos ((mem_hR c g i).mp hi).1]

/-! ## States -/

/-- The operands, staged and received. -/
def opsX (c : Dev nD) : sProp 𝕄 :=
  iprop(pts c cc0_stg0_0 Finset.univ fullShare (XT m c) ∗ pts c cc0_stg1_0 Finset.univ fullShare (WT m c)
    ∗ pts c cc0_scratch2 Finset.univ fullShare (XP m c) ∗ pts c cc0_scratch3 Finset.univ fullShare (WP m c))

/-- A group's exchange with the partner, untouched. -/
def C0 (c : Dev nD) (g : G4) : sProp 𝕄 :=
  iprop((sT c (.x2 g) ∗ sA c (.x2 g) ∗ any (prt c) cc0_scratch9 (gR g).set) ∗ rA c (.x2 g) ∗ any c cc0_scratch8 (gR g).set
    ∗ any c cc0_stg2_0 (hR (prt c) g).set)
/-- A group's gathering, untouched. -/
def B0 (c : Dev nD) (g : G4) : sProp 𝕄 :=
  iprop((bigSep Finset.univ fun j : J15 => iprop(sT c (.ag g j) ∗ sA c (.ag g j) ∗ any (nx c (j.val + 1)) cc0_scratch7 (sR g j).set))
    ∗ (bigSep Finset.univ fun j : J15 => rA c (.ag g j)) ∗ any c cc0_scratch6 (aR g).set)
/-- A group untouched. -/
def A0 (c : Dev nD) (g : G4) : sProp 𝕄 :=
  iprop((bigSep Finset.univ fun j : J15 => iprop(sT c (.rs g j) ∗ sA c (.rs g j) ∗ any (nx c (j.val + 1)) cc0_scratch5 (sR g j).set))
    ∗ (bigSep Finset.univ fun j : J15 => rA c (.rs g j)) ∗ any c cc0_scratch4 (gR g).set ∗ any c cc0_stg2_0 (hR c g).set
    ∗ B0 c g ∗ C0 c g)
/-- Its partial sums computed and sent. -/
def A1 (c : Dev nD) (g : G4) : sProp 𝕄 :=
  iprop((bigSep Finset.univ fun j : J15 => sC c (.rs g j)) ∗ any c cc0_scratch4 (kS g c)
    ∗ (bigSep Finset.univ fun j : J15 => rA c (.rs g j)) ∗ pts c cc0_stg2_0 (hR c g).set fullShare (O1 m c)
    ∗ B0 c g ∗ C0 c g)
/-- The waits on received chunks, over. -/
def D1 (c : Dev nD) (g : G4) : sProp 𝕄 :=
  iprop((bigSep Finset.univ fun j : J15 => sC c (.rs g j)) ∗ any c cc0_scratch4 (kS g c)
    ∗ (bigSep Finset.univ fun j : J15 => z c (.rcv (.rs g j))) ∗ any c cc0_scratch5 (rR g).set)
/-- Its own chunk reduced and sent. -/
def A2 (c : Dev nD) (g : G4) : sProp 𝕄 :=
  iprop(D1 c g
    ∗ (bigSep Finset.univ fun j : J15 => sC c (.ag g j)) ∗ pts c cc0_scratch6 (aR g).set (shareDrop fullShare 15) (AB m c)
    ∗ (bigSep Finset.univ fun j : J15 => rA c (.ag g j))
    ∗ pts c cc0_stg2_0 (oR c g).set fullShare (FH m c) ∗ (bigSep Finset.univ fun j : J15 => any c cc0_stg2_0 (oR (inp c (some j)) g).set)
    ∗ C0 c g)
/-- Its half finished and sent. -/
def A3 (c : Dev nD) (g : G4) : sProp 𝕄 :=
  iprop(D1 c g
    ∗ (bigSep Finset.univ fun j : J15 => sC c (.ag g j)) ∗ pts c cc0_scratch6 (aR g).set (shareDrop fullShare 15) (AB m c)
    ∗ (bigSep Finset.univ fun j : J15 => z c (.rcv (.ag g j))) ∗ any c cc0_scratch7 (rR g).set
    ∗ sC c (.x2 g) ∗ rA c (.x2 g) ∗ pts c cc0_stg2_0 (hR c g).set fullShare (FH m c) ∗ any c cc0_stg2_0 (hR (prt c) g).set)
/-- Its other half received, every send waited out. -/
def A4 (c : Dev nD) (g : G4) : sProp 𝕄 :=
  iprop(((bigSep Finset.univ fun j : J15 => z c (.snd (.rs g j))) ∗ (bigSep Finset.univ fun j : J15 => z c (.rcv (.rs g j)))
      ∗ (bigSep Finset.univ fun j : J15 => z c (.snd (.ag g j))) ∗ (bigSep Finset.univ fun j : J15 => z c (.rcv (.ag g j)))
      ∗ z c (.snd (.x2 g)) ∗ z c (.rcv (.x2 g)))
    ∗ (any c cc0_scratch4 (gR g).set ∗ any c cc0_scratch5 (rR g).set ∗ any c cc0_scratch6 (aR g).set ∗ any c cc0_scratch7 (rR g).set
      ∗ any c cc0_scratch8 (gR g).set ∗ any c cc0_scratch9 (gR g).set)
    ∗ pts c cc0_stg2_0 (hR c g).set fullShare (FIN m c) ∗ pts c cc0_stg2_0 (hR (prt c) g).set fullShare (FIN m c))

/-! ## The start -/

theorem pBar_wp (c : Dev nD) (l : List Pay) (hl : ∀ o ∈ l, 1 < pord o) :
    iprop((own m K c (lsg ++ l) ∗ bigSep Finset.univ fun i : Fin 16 => iprop(dutyTok ER (cell (sg c i) .bar) 0 i ∗ barGive c i))
        ∗ atPos ER (cell c .bar) 0 (∅ : Finset (Fin 16)) 0 ∗ cred (tallyAt (cell c .bar) () 16))
      ⊢ wpp c (pBar (addr c)) fun _ => iprop(own m K c l ∗ z c .bar ∗ bigSep Finset.univ fun i : Fin 16 => barGive (gs c i) i) := by
  have hs : ∀ (i : Fin 16) (s : List (Fin 16)),
      iprop(own m K c ((i :: s).map Pay.sig ++ l) ∗ iprop(dutyTok ER (cell (sg c i) .bar) 0 i ∗ barGive c i))
        ⊢ wpp c (semSignalWord (sg c i) barS 1#32) fun _ => iprop(own m K c (s.map Pay.sig ++ l) ∗ emp) := fun i s => by
    rw [List.map_cons, List.cons_append]
    refine wpp_post (sig_wp m K c i (s.map Pay.sig ++ l)) ?_
    iintro H; isplitl [H]; · iexact H
    iempintro
  have h := runL_wp c (fun i : Fin 16 => (semSignalWord (sg c i) barS 1#32 : PR F)) (fun s => own m K c (s.map Pay.sig ++ l))
    (fun i => iprop(dutyTok ER (cell (sg c i) .bar) 0 i ∗ barGive c i)) (fun _ => iprop(emp)) hs sigs
  rw [sigs_sep] at h
  have h' : iprop(own m K c (lsg ++ l) ∗ bigSep Finset.univ fun i : Fin 16 => iprop(dutyTok ER (cell (sg c i) .bar) 0 i ∗ barGive c i))
      ⊢ wpp c (runL (fun i => semSignalWord (sg c i) barS 1#32) sigs) fun _ => own m K c l := by
    refine wpp_post h ?_
    iintro ⟨H, -⟩; iexact H
  exact seq h' (bar_wp m K c l hl)

/-- The operands are rounded and sent, and the partner's received. -/
theorem pXW_wp (c : Dev nD) (l : List Pay) (hl : ∀ o ∈ l, 2 < pord o) :
    iprop(own m K c (lxw ++ l) ∗ (pts c cc0_stg0_0 Finset.univ fullShare (XT m c) ∗ pts c cc0_stg1_0 Finset.univ fullShare (WT m c))
        ∗ (any c cc0_scratch0 Finset.univ ∗ any c cc0_scratch1 Finset.univ)
        ∗ (sT c (.xw 0) ∗ sA c (.xw 0) ∗ any (prt c) cc0_scratch2 Finset.univ) ∗ (sT c (.xw 1) ∗ sA c (.xw 1) ∗ any (prt c) cc0_scratch3 Finset.univ)
        ∗ rA c (.xw 0) ∗ rA c (.xw 1))
      ⊢ wpp c (pXW (addr c)) fun _ => iprop(own m K c l ∗ opsX m c ∗ (sC c (.xw 0) ∗ sC c (.xw 1)) ∗ z c (.rcv (.xw 0)) ∗ z c (.rcv (.xw 1))) := by
  unfold pXW
  simp only [Prog.lift, Prog.bind_op, Prog.bind_ret, Prog.pure_eq_ret]
  unfold opsX any
  iintro ⟨HO, ⟨Hx, Hw⟩, ⟨⟨%f0, Hxs⟩, ⟨%f1, Hws⟩⟩, Hs0, Hs1, Hr0, Hr1⟩
  unfold pts
  iapply (wp_load 𝒱₀ (c : Thread nD τ) none Set.univ (m := xM) (Finset.subset_univ _)) $$ Hx; iintro Hx
  iapply (wp_load 𝒱₀ (c : Thread nD τ) none Set.univ (m := xsM) (Finset.subset_univ _)) $$ Hxs; iintro Hxs
  iapply (wp_store 𝒱₀ (c : Thread nD τ) none Set.univ (m := xsM) (r := xR0) (Mk := Finset.univ) (Finset.subset_univ _)) $$ Hxs; iintro Hxs
  iapply (wp_load 𝒱₀ (c : Thread nD τ) none Set.univ (m := wM) (Finset.subset_univ _)) $$ Hw; iintro Hw
  iapply (wp_load 𝒱₀ (c : Thread nD τ) none Set.univ (m := wsM) (Finset.subset_univ _)) $$ Hws; iintro Hws
  iapply (wp_store 𝒱₀ (c : Thread nD τ) none Set.univ (m := wsM) (r := wR0) (Mk := Finset.univ) (Finset.subset_univ _)) $$ Hws; iintro Hws
  have e0 : ∀ w, (xsM.access xR0).write (Elt F) f0 w Finset.univ = w := fun w => Memref.write_access_unit_zero_univ (Elt F) cc0_scratch0 hz2 _ f0 w
  have e1 : ∀ w, (wsM.access wR0).write (Elt F) f1 w Finset.univ = w := fun w => Memref.write_access_unit_zero_univ (Elt F) cc0_scratch1 hz2 _ f1 w
  rw [e0, e1]
  iapply (send_xs m K c _ rfl (.ch (.xw 1) :: l)) $$ [HO Hs0 Hxs]
  · isplitl [HO]; · iexact HO
    isplitl [Hs0]; · unfold any pts; iexact Hs0
    unfold pts XS; iexact Hxs
  iintro ⟨HO, Hc0⟩
  iapply (send_ws m K c _ rfl l) $$ [HO Hs1 Hws]
  · isplitl [HO]; · iexact HO
    isplitl [Hs1]; · unfold any pts; iexact Hs1
    unfold pts WS; iexact Hws
  iintro ⟨HO, Hc1⟩
  iapply (rcv_wp m K c (.xw 0) l hl (dst := xpM) rfl rfl) $$ [HO Hr0]
  · isplitl [HO] <;> iassumption
  iintro ⟨HO, Hz0, Hp0⟩
  iapply (rcv_wp m K c (.xw 1) l hl (dst := wpM) rfl rfl) $$ [HO Hr1]
  · isplitl [HO] <;> iassumption
  iintro ⟨HO, Hz1, Hp1⟩
  ihave Hp0 := (show rcvPay m c (.xw 0) ⊢ pts c cc0_scratch2 Finset.univ fullShare (XP m c) from BIBase.Entails.rfl) $$ Hp0
  ihave Hp1 := (show rcvPay m c (.xw 1) ⊢ pts c cc0_scratch3 Finset.univ fullShare (WP m c) from BIBase.Entails.rfl) $$ Hp1
  unfold pts wpp
  rw [wp_ret]; imodintro
  isplitl [HO]; · iexact HO
  isplitl [Hx Hw Hp0 Hp1]
  · isplitl [Hx]; · iexact Hx
    isplitl [Hw]; · iexact Hw
    isplitl [Hp0] <;> iassumption
  isplitl [Hc0 Hc1]
  · isplitl [Hc0] <;> iassumption
  isplitl [Hz0] <;> iassumption

end Cert.KernelIdeal.MM

end
-- ==== Proof.Groups.lean ====
/-
  What each stage of a column group does.
-/
module

public import proofs.«01_k».proof.Proof.Stages

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-- A stage, with what it does not touch, before the rest of the program. -/
theorem step {c : Dev nD} {X A B R : sProp 𝕄} {p q : PR F} {Q : PUnit → sProp 𝕄} (h : A ⊢ wpp c p fun _ => B) (hin : X ⊢ iprop(A ∗ R))
    (hout : iprop(B ∗ R) ⊢ wpp c q Q) : X ⊢ wpp c (p.bind fun _ => q) Q :=
  hin.trans (seq h hout)
/-- A last stage, with what it does not touch. -/
theorem last {c : Dev nD} {X A B R Y : sProp 𝕄} {p : PR F} (h : A ⊢ wpp c p fun _ => B) (hin : X ⊢ iprop(A ∗ R))
    (hout : iprop(B ∗ R) ⊢ Y) : X ⊢ wpp c p fun _ => Y :=
  hin.trans ((sep_mono_left h).trans ((wp_frame_r _ _ _).trans (wp_mono _ _ _ fun _ => hout)))

/-! ## The partial sums -/

theorem comb_wp (c : Dev nD) (g : G4) :
    iprop(opsX m c ∗ any c cc0_stg2_0 (hR c g).set ∗ any c cc0_scratch4 (gR g).set)
      ⊢ wpp c (pComb (addr c) g) fun _ => iprop(opsX m c ∗ pts c cc0_stg2_0 (hR c g).set fullShare (O1 m c) ∗ pts c cc0_scratch4 (gR g).set fullShare (CB m c)) := by
  unfold pComb
  simp only [Prog.lift, Prog.bind_op, Prog.bind_ret, Prog.pure_eq_ret]
  unfold opsX any pts
  iintro ⟨⟨Hx, Hw, Hxp, Hwp⟩, ⟨%fo, Ho⟩, ⟨%fb, Hb⟩⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := xpM) (Finset.subset_univ _)) $$ Hxp; iintro Hxp
  iapply (wp_load 𝒱₀ (c : Thread nD τ) none Set.univ (m := wpM) (Finset.subset_univ _)) $$ Hwp; iintro Hwp
  iapply (wp_load 𝒱₀ (c : Thread nD τ) none Set.univ (m := oM) (subset_of_eq (setOn_load cc0_stg2_0 (hR c g)))) $$ Ho; iintro Ho
  iapply (wp_store 𝒱₀ (c : Thread nD τ) none Set.univ (m := oM) (r := hR c g) (Mk := Finset.univ)
    (subset_of_eq (View.set_slice_whole cc0_stg2_0 (hR c g)))) $$ Ho; iintro Ho
  iapply (wp_load 𝒱₀ (c : Thread nD τ) none Set.univ (m := cbM) (subset_of_eq (setOn_load cc0_scratch4 (gR g)))) $$ Hb; iintro Hb
  iapply (wp_store 𝒱₀ (c : Thread nD τ) none Set.univ (m := cbM) (r := gR g) (Mk := Finset.univ)
    (subset_of_eq (View.set_slice_whole cc0_scratch4 (gR g)))) $$ Hb; iintro Hb
  ihave Ho := (Entails.of_eq (pointsTo_congr (O1_on m c g fo))) $$ Ho
  ihave Hb := (Entails.of_eq (pointsTo_congr (CB_on m c g fb))) $$ Hb
  rw [wp_ret]; imodintro
  isplitl [Hx Hw Hxp Hwp]
  · isplitl [Hx]; · iexact Hx
    isplitl [Hw]; · iexact Hw
    isplitl [Hxp] <;> iassumption
  isplitl [Ho] <;> iassumption

/-- Two families side by side are the family of pairs. -/
theorem sep2 (Φ Ψ : J15 → sProp 𝕄) : iprop(bigSep Finset.univ Φ ∗ bigSep Finset.univ Ψ) ⊢ bigSep Finset.univ fun j => iprop(Φ j ∗ Ψ j) := by
  rw [bigSep_sep']

/-- The partial sums of a group, as chunks for the device and for each peer. -/
theorem split_cb (c : Dev nD) (g : G4) (q : PosShare TreeShare) (f : Con F cc0_scratch4) :
    (pts c cc0_scratch4 (gR g).set q f : sProp 𝕄)
      = iprop(pts c cc0_scratch4 (kS g c) q f ∗ bigSep Finset.univ fun j : J15 => pts c cc0_scratch4 (kS g (outp c (some j))) q f) := by
  rw [pts_split c cc0_scratch4 (gR g).set q f (fun x => outOf c (kOf3 x)) (fun t => kS g (outp c t)) (fun t x => mem_kS_iff c g t x), bigSep_opt]
  rfl
/-- A group of the device's half, as its own chunk and each peer's. -/
theorem split_half (c : Dev nD) (g : G4) (f : Con F cc0_stg2_0) :
    (pts c cc0_stg2_0 (hR c g).set fullShare f : sProp 𝕄)
      = iprop(pts c cc0_stg2_0 (oR (inp c none) g).set fullShare f ∗ bigSep Finset.univ fun j : J15 => pts c cc0_stg2_0 (oR (inp c (some j)) g).set fullShare f) := by
  rw [pts_split c cc0_stg2_0 (hR c g).set fullShare f (fun x => inOf c (kOfO x)) (fun t => (oR (inp c t) g).set) (fun t x => mem_oR_iff c g t x), bigSep_opt]
include m in
theorem join_cb (c : Dev nD) (g : G4) :
    iprop(any (F := F) c cc0_scratch4 (kS g c) ∗ bigSep Finset.univ fun j : J15 => any c cc0_scratch4 (kS g (outp c (some j)))) ⊢ any c cc0_scratch4 (gR g).set := by
  haveI : Nonempty (Con F cc0_scratch4) := ⟨old m c cc0_scratch4⟩
  refine BIBase.Entails.trans (Entails.of_eq ?_) (any_join c cc0_scratch4 (gR g).set (fun x => outOf c (kOf3 x)) (fun t => kS g (outp c t)) (fun t x => mem_kS_iff c g t x))
  rw [bigSep_opt]
  rfl

theorem pR2_wp (c : Dev nD) (g : G4) (rest : List Pay) :
    iprop(own m K c (lrs g ++ rest) ∗ opsX m c ∗ A0 c g) ⊢ wpp c (pR2 (addr c) g) fun _ => iprop(own m K c rest ∗ opsX m c ∗ A1 m c g) := by
  unfold pR2 A0 A1
  refine step (comb_wp m c g) (R := iprop(own m K c (lrs g ++ rest)
      ∗ (bigSep Finset.univ fun j : J15 => iprop(sT c (.rs g j) ∗ sA c (.rs g j) ∗ any (nx c (j.val + 1)) cc0_scratch5 (sR g j).set))
      ∗ (bigSep Finset.univ fun j : J15 => rA c (.rs g j)) ∗ B0 c g ∗ C0 c g)) ?_ ?_
  · iintro ⟨HO, HX, Hs, Hr, Hb, Ho, HB, HC⟩
    isplitl [HX Ho Hb]
    · isplitl [HX]; · iexact HX
      isplitl [Ho] <;> iassumption
    isplitl [HO]; · iexact HO
    isplitl [Hs]; · iexact Hs
    isplitl [Hr]; · iexact Hr
    isplitl [HB] <;> iassumption
  refine last (peers_wp m K c (pRsSend (addr c) g) (fun j => .ch (.rs g j)) rest _ (fun j => sC c (.rs g j)) (fun j l => send_rs m K c g j l))
    (R := iprop(opsX m c ∗ pts c cc0_stg2_0 (hR c g).set fullShare (O1 m c) ∗ pts c cc0_scratch4 (kS g c) fullShare (CB m c)
      ∗ (bigSep Finset.univ fun j : J15 => rA c (.rs g j)) ∗ B0 c g ∗ C0 c g)) ?_ ?_
  · rw [split_cb]
    iintro ⟨⟨HX, Ho, Hc, Hcs⟩, HO, Hs, Hr, HB, HC⟩
    isplitl [HO Hs Hcs]
    · isplitl [HO]; · iexact HO
      iapply (sep2 _ _)
      isplitl [Hs] <;> iassumption
    isplitl [HX]; · iexact HX
    isplitl [Ho]; · iexact Ho
    isplitl [Hc]; · iexact Hc
    isplitl [Hr]; · iexact Hr
    isplitl [HB] <;> iassumption
  · iintro ⟨⟨HO, Hs⟩, HX, Ho, Hc, Hr, HB, HC⟩
    ihave Hc := (pts_any c cc0_scratch4 (kS g c) (CB m c)) $$ Hc
    isplitl [HO]; · iexact HO
    isplitl [HX]; · iexact HX
    isplitl [Hs]; · iexact Hs
    isplitl [Hc]; · iexact Hc
    isplitl [Hr]; · iexact Hr
    isplitl [Ho]; · iexact Ho
    isplitl [HB] <;> iassumption

/-! ## The reduction -/

theorem own_on (c : Dev nD) (g : G4) (i : S1024x1024.Idx) (hi : i ∈ (oR c g).set) :
    (oM.access (oR c g)).write (Elt F) (O1 m c)
      (k0_pay7 (F := F) (oM.view.readAt (Elt F) (oR c g).toLoadRect (O1 m c)) (rsM.view.readAt (Elt F) (rR g).toLoadRect (RS m c))) Finset.univ i = FH m c i :=
  (chunk_on m c c g _ (O1 m c) i hi).trans (FH_own m c g i hi)

theorem acc_wp (c : Dev nD) (g : G4) :
    iprop(pts c cc0_stg2_0 (oR c g).set fullShare (O1 m c) ∗ pts c cc0_scratch5 (rR g).set fullShare (RS m c) ∗ any c cc0_scratch6 (aR g).set)
      ⊢ wpp c (pAcc (addr c) g) fun _ => iprop(pts c cc0_stg2_0 (oR c g).set fullShare (FH m c) ∗ pts c cc0_scratch5 (rR g).set fullShare (RS m c)
        ∗ pts c cc0_scratch6 (aR g).set fullShare (AB m c)) := by
  unfold pAcc
  simp only [Prog.lift, Prog.bind_op, Prog.bind_ret, Prog.pure_eq_ret]
  unfold any pts
  iintro ⟨Ho, Hr, ⟨%fb, Hb⟩⟩
  iapply (wp_load 𝒱₀ (c : Thread nD τ) none Set.univ (m := oM) (subset_of_eq (setOn_load cc0_stg2_0 (oR c g)))) $$ Ho; iintro Ho
  iapply (wp_load 𝒱₀ (c : Thread nD τ) none Set.univ (m := rsM) (subset_of_eq (setOn_load cc0_scratch5 (rR g)))) $$ Hr; iintro Hr
  iapply (wp_load 𝒱₀ (c : Thread nD τ) none Set.univ (m := oM) (subset_of_eq (setOn_load cc0_stg2_0 (oR c g)))) $$ Ho; iintro Ho
  iapply (wp_store 𝒱₀ (c : Thread nD τ) none Set.univ (m := oM) (r := oR c g) (Mk := Finset.univ)
    (subset_of_eq (View.set_slice_whole cc0_stg2_0 (oR c g)))) $$ Ho; iintro Ho
  iapply (wp_load 𝒱₀ (c : Thread nD τ) none Set.univ (m := abM) (subset_of_eq (setOn_load cc0_scratch6 (aR g)))) $$ Hb; iintro Hb
  iapply (wp_store 𝒱₀ (c : Thread nD τ) none Set.univ (m := abM) (r := aR g) (Mk := Finset.univ)
    (subset_of_eq (View.set_slice_whole cc0_scratch6 (aR g)))) $$ Hb; iintro Hb
  ihave Ho := (Entails.of_eq (pointsTo_congr (own_on m c g))) $$ Ho
  ihave Hb := (Entails.of_eq (pointsTo_congr (AB_on m c g fb))) $$ Hb
  rw [wp_ret]; imodintro
  isplitl [Ho]; · iexact Ho
  isplitl [Hr] <;> iassumption

/-- The reduced chunk, as a share kept and one for each send. -/
theorem toks_ab (c : Dev nD) (g : G4) :
    (pts c cc0_scratch6 (aR g).set fullShare (AB m c) : sProp 𝕄)
      ⊣⊢ iprop(pts c cc0_scratch6 (aR g).set (shareDrop fullShare 15) (AB m c)
        ∗ bigSep Finset.univ fun j : J15 => pts c cc0_scratch6 (aR g).set (shareTok fullShare 15 j) (AB m c)) :=
  ⟨Transfers.pointsTo_toks_split fullShare 15, Transfers.pointsTo_toks_join fullShare 15⟩

theorem pAG_wp (c : Dev nD) (g : G4) (rest : List Pay) (hl : ∀ o ∈ lag g ++ rest, ord (.rs g 0) < pord o) :
    iprop(own m K c (lag g ++ rest) ∗ A1 m c g) ⊢ wpp c (pAG (addr c) g) fun _ => iprop(own m K c rest ∗ A2 m c g) := by
  unfold pAG A1 A2 B0 D1
  refine step (peers_wp0 c (pRsWait (addr c) g) (own m K c (lag g ++ rest)) (fun j => rA c (.rs g j))
      (fun j => iprop(z c (.rcv (.rs g j)) ∗ pts c cc0_scratch5 (sR g j).set fullShare (RS m c))) fun j => wait_rs m K c g j _ hl)
    (R := iprop((bigSep Finset.univ fun j : J15 => sC c (.rs g j)) ∗ any c cc0_scratch4 (kS g c) ∗ pts c cc0_stg2_0 (hR c g).set fullShare (O1 m c)
      ∗ ((bigSep Finset.univ fun j : J15 => iprop(sT c (.ag g j) ∗ sA c (.ag g j) ∗ any (nx c (j.val + 1)) cc0_scratch7 (sR g j).set))
        ∗ (bigSep Finset.univ fun j : J15 => rA c (.ag g j)) ∗ any c cc0_scratch6 (aR g).set) ∗ C0 c g)) ?_ ?_
  · iintro ⟨HO, Hs, Hc, Hr, Ho, HB, HC⟩
    isplitl [HO Hr]
    · isplitl [HO] <;> iassumption
    isplitl [Hs]; · iexact Hs
    isplitl [Hc]; · iexact Hc
    isplitl [Ho]; · iexact Ho
    isplitl [HB] <;> iassumption
  refine step (acc_wp m c g) (R := iprop((own m K c (lag g ++ rest)
      ∗ (bigSep Finset.univ fun j : J15 => iprop(sT c (.ag g j) ∗ sA c (.ag g j) ∗ any (nx c (j.val + 1)) cc0_scratch7 (sR g j).set)))
      ∗ ((bigSep Finset.univ fun j : J15 => sC c (.rs g j)) ∗ any c cc0_scratch4 (kS g c) ∗ (bigSep Finset.univ fun j : J15 => z c (.rcv (.rs g j))))
      ∗ (bigSep Finset.univ fun j : J15 => rA c (.ag g j))
      ∗ (bigSep Finset.univ fun j : J15 => any c cc0_stg2_0 (oR (inp c (some j)) g).set) ∗ C0 c g)) ?_ ?_
  · rw [bigSep_sep', split_half, ← pts_split c cc0_scratch5 (rR g).set fullShare (RS m c) jOf4 (fun j => (sR g j).set) (sR_cl g)]
    iintro ⟨⟨HO, Hz, Hrs⟩, Hs, Hc, ⟨Ho, Hos⟩, ⟨Hs', Hr', Hb⟩, HC⟩
    ihave Hos := (show (bigSep Finset.univ fun j : J15 => pts c cc0_stg2_0 (oR (inp c (some j)) g).set fullShare (O1 m c))
      ⊢ (bigSep Finset.univ fun j : J15 => any c cc0_stg2_0 (oR (inp c (some j)) g).set) from bigSep_mono fun j _ => pts_any _ _ _ _) $$ Hos
    isplitl [Ho Hrs Hb]
    · isplitl [Ho]; · iexact Ho
      isplitl [Hrs] <;> iassumption
    isplitl [HO Hs']
    · isplitl [HO] <;> iassumption
    isplitl [Hs Hc Hz]
    · isplitl [Hs]; · iexact Hs
      isplitl [Hc] <;> iassumption
    isplitl [Hr']; · iexact Hr'
    isplitl [Hos] <;> iassumption
  refine last (peers_wp m K c (pAgSend (addr c) g) (fun j => .ch (.ag g j)) rest _ (fun j => sC c (.ag g j)) (fun j l => send_ag m K c g j l))
    (R := iprop(pts c cc0_stg2_0 (oR c g).set fullShare (FH m c) ∗ pts c cc0_scratch5 (rR g).set fullShare (RS m c)
      ∗ pts c cc0_scratch6 (aR g).set (shareDrop fullShare 15) (AB m c)
      ∗ ((bigSep Finset.univ fun j : J15 => sC c (.rs g j)) ∗ any c cc0_scratch4 (kS g c) ∗ (bigSep Finset.univ fun j : J15 => z c (.rcv (.rs g j))))
      ∗ (bigSep Finset.univ fun j : J15 => rA c (.ag g j))
      ∗ (bigSep Finset.univ fun j : J15 => any c cc0_stg2_0 (oR (inp c (some j)) g).set) ∗ C0 c g)) ?_ ?_
  · iintro ⟨⟨Ho, Hrs, Hb⟩, ⟨HO, Hs'⟩, HD, Hr', Hos, HC⟩
    ihave Hb := (toks_ab m c g).1 $$ Hb
    icases Hb with ⟨Hb, Hbs⟩
    isplitl [HO Hs' Hbs]
    · isplitl [HO]; · iexact HO
      iapply (sep2 _ _)
      isplitl [Hs'] <;> iassumption
    isplitl [Ho]; · iexact Ho
    isplitl [Hrs]; · iexact Hrs
    isplitl [Hb]; · iexact Hb
    isplitl [HD]; · iexact HD
    isplitl [Hr']; · iexact Hr'
    isplitl [Hos] <;> iassumption
  · iintro ⟨⟨HO, Hs'⟩, Ho, Hrs, Hb, ⟨Hs, Hc, Hz⟩, Hr', Hos, HC⟩
    ihave Hrs := (pts_any c cc0_scratch5 (rR g).set (RS m c)) $$ Hrs
    isplitl [HO]; · iexact HO
    isplitl [Hs Hc Hz Hrs]
    · isplitl [Hs]; · iexact Hs
      isplitl [Hc]; · iexact Hc
      isplitl [Hz] <;> iassumption
    isplitl [Hs']; · iexact Hs'
    isplitl [Hb]; · iexact Hb
    isplitl [Hr']; · iexact Hr'
    isplitl [Ho]; · iexact Ho
    isplitl [Hos] <;> iassumption

/-! ## The gathering and the exchange -/

/-- The copy of a received chunk to an offset of the result. -/
def copyP (o : Off S1024x1024 S32x256.size) (g : G4) (j : J15) : PR F := do
  let v ← Prog.lift (.load agM (sR g j).toLoadRect (View.loadsAt_vmem h_S1x1x32x256))
  let _ ← Prog.lift (.load oM (Rect.unit (s := S1024x1024) o.1 S32x256.size o.2).toLoadRect (View.loadsAt_vmem h_S32x256))
  Prog.lift (.store oM (Rect.unit (s := S1024x1024) o.1 S32x256.size o.2) (k0_pay14 v) Finset.univ (View.stores_vmem_bits_univ h_S32x256 rfl) (.inl rfl))

theorem copy_at (c e : Dev nD) (g : G4) (j : J15) :
    iprop(pts c cc0_scratch7 (sR g j).set fullShare (AG m c) ∗ any c cc0_stg2_0 (oR e g).set)
      ⊢ wpp c (copyP ⟨![hrow e + crow e, 256 * g.val], inb_chunk e g⟩ g j) fun _ => iprop(pts c cc0_scratch7 (sR g j).set fullShare (AG m c)
        ∗ pts c cc0_stg2_0 (oR e g).set fullShare (chunkC m c e g (k0_pay14 (F := F) (agM.view.readAt (Elt F) (sR g j).toLoadRect (AG m c))))) := by
  unfold copyP
  simp only [Prog.lift, Prog.bind_op, Prog.bind_ret, Prog.pure_eq_ret]
  unfold any pts
  iintro ⟨Hs, ⟨%fo, Ho⟩⟩
  iapply (wp_load 𝒱₀ (c : Thread nD τ) none Set.univ (m := agM) (subset_of_eq (setOn_load cc0_scratch7 (sR g j)))) $$ Hs; iintro Hs
  iapply (wp_load 𝒱₀ (c : Thread nD τ) none Set.univ (m := oM) (subset_of_eq (setOn_load cc0_stg2_0 (oR e g)))) $$ Ho; iintro Ho
  iapply (wp_store 𝒱₀ (c : Thread nD τ) none Set.univ (m := oM) (r := oR e g) (Mk := Finset.univ)
    (subset_of_eq (View.set_slice_whole cc0_stg2_0 (oR e g)))) $$ Ho; iintro Ho
  ihave Ho := (Entails.of_eq (pointsTo_congr fun i hi => chunk_on m c e g _ fo i hi)) $$ Ho
  rw [wp_ret]; imodintro
  isplitl [Hs] <;> iassumption

theorem copy_wp (c : Dev nD) (g : G4) (j : J15) :
    iprop(emp ∗ iprop(pts c cc0_scratch7 (sR g j).set fullShare (AG m c) ∗ any c cc0_stg2_0 (oR (inp c (some j)) g).set))
      ⊢ wpp c (pAgCopy (addr c) g j) fun _ => iprop(emp ∗ iprop(pts c cc0_scratch7 (sR g j).set fullShare (AG m c)
        ∗ pts c cc0_stg2_0 (oR (inp c (some j)) g).set fullShare (FH m c))) := by
  show _ ⊢ wpp c (copyP ((addr c).ar g j) g j) _
  refine last (copy_at m c (inp c (some j)) g j) (R := iprop(emp)) ?_ ?_
  · iintro ⟨He, H⟩; isplitl [H] <;> iassumption
  · iintro ⟨⟨Hs, Ho⟩, He⟩
    isplitl [He]; · iexact He
    isplitl [Hs]; · iexact Hs
    iapply (Entails.of_eq (pts_congr (b := cc0_stg2_0) (c := c) (q := fullShare) (FH_peer m c g j)))
    iexact Ho

theorem half_wp (c : Dev nD) (g : G4) (rest : List Pay) :
    iprop(own m K c (.ch (.x2 g) :: rest) ∗ (sT c (.x2 g) ∗ sA c (.x2 g) ∗ any (prt c) cc0_scratch9 (gR g).set) ∗ any c cc0_scratch8 (gR g).set
        ∗ pts c cc0_stg2_0 (hR c g).set fullShare (FH m c))
      ⊢ wpp c (pHalf (addr c) g) fun _ => iprop((own m K c rest ∗ sC c (.x2 g)) ∗ pts c cc0_stg2_0 (hR c g).set fullShare (FH m c)) := by
  unfold pHalf
  simp only [Prog.lift, Prog.bind_op, Prog.bind_ret, Prog.pure_eq_ret]
  iintro ⟨HO, Hs, Hb, Ho⟩
  ihave Hb := (show any c cc0_scratch8 (gR g).set ⊢ (iprop(∃ f : Con F cc0_scratch8, pts c cc0_scratch8 (gR g).set fullShare f) : sProp 𝕄) from BIBase.Entails.rfl) $$ Hb
  icases Hb with ⟨%fb, Hb⟩
  unfold pts
  iapply (wp_load 𝒱₀ (c : Thread nD τ) none Set.univ (m := oM) (subset_of_eq (setOn_load cc0_stg2_0 (hR c g)))) $$ Ho; iintro Ho
  iapply (wp_load 𝒱₀ (c : Thread nD τ) none Set.univ (m := xbM) (subset_of_eq (setOn_load cc0_scratch8 (gR g)))) $$ Hb; iintro Hb
  iapply (wp_store 𝒱₀ (c : Thread nD τ) none Set.univ (m := xbM) (r := gR g) (Mk := Finset.univ)
    (subset_of_eq (View.set_slice_whole cc0_scratch8 (gR g)))) $$ Hb; iintro Hb
  ihave Hb := (Entails.of_eq (pointsTo_congr (XB_on m c g fb))) $$ Hb
  iapply (send_x2 m K c _ rfl g rest) $$ [HO Hs Hb]
  · isplitl [HO]; · iexact HO
    isplitl [Hs]; · iexact Hs
    unfold pts; iexact Hb
  iintro H
  unfold wpp
  rw [wp_ret]; imodintro
  isplitl [H] <;> iassumption

theorem pX2_wp (c : Dev nD) (g : G4) (rest : List Pay) (hl : ∀ o ∈ lx2 g ++ rest, ord (.ag g 0) < pord o) :
    iprop(own m K c (lx2 g ++ rest) ∗ A2 m c g) ⊢ wpp c (pX2 (addr c) g) fun _ => iprop(own m K c rest ∗ A3 m c g) := by
  unfold pX2 A2 A3 C0
  refine step (peers_wp0 c (pAgWait (addr c) g) (own m K c (lx2 g ++ rest)) (fun j => rA c (.ag g j))
      (fun j => iprop(z c (.rcv (.ag g j)) ∗ pts c cc0_scratch7 (sR g j).set fullShare (AG m c))) fun j => wait_ag m K c g j _ hl)
    (R := iprop(D1 c g ∗ ((bigSep Finset.univ fun j : J15 => sC c (.ag g j)) ∗ pts c cc0_scratch6 (aR g).set (shareDrop fullShare 15) (AB m c))
      ∗ (pts c cc0_stg2_0 (oR c g).set fullShare (FH m c) ∗ (bigSep Finset.univ fun j : J15 => any c cc0_stg2_0 (oR (inp c (some j)) g).set))
      ∗ ((sT c (.x2 g) ∗ sA c (.x2 g) ∗ any (prt c) cc0_scratch9 (gR g).set) ∗ rA c (.x2 g) ∗ any c cc0_scratch8 (gR g).set
        ∗ any c cc0_stg2_0 (hR (prt c) g).set))) ?_ ?_
  · iintro ⟨HO, HD, Hs, Hb, Hr, Ho, Hos, HC⟩
    isplitl [HO Hr]
    · isplitl [HO] <;> iassumption
    isplitl [HD]; · iexact HD
    isplitl [Hs Hb]
    · isplitl [Hs] <;> iassumption
    isplitl [Ho Hos]
    · isplitl [Ho] <;> iassumption
    iexact HC
  refine step (peers_wp0 c (pAgCopy (addr c) g) iprop(emp)
      (fun j => iprop(pts c cc0_scratch7 (sR g j).set fullShare (AG m c) ∗ any c cc0_stg2_0 (oR (inp c (some j)) g).set))
      (fun j => iprop(pts c cc0_scratch7 (sR g j).set fullShare (AG m c) ∗ pts c cc0_stg2_0 (oR (inp c (some j)) g).set fullShare (FH m c)))
      fun j => copy_wp m c g j)
    (R := iprop(own m K c (lx2 g ++ rest) ∗ D1 c g ∗ ((bigSep Finset.univ fun j : J15 => sC c (.ag g j)) ∗ pts c cc0_scratch6 (aR g).set (shareDrop fullShare 15) (AB m c))
      ∗ (bigSep Finset.univ fun j : J15 => z c (.rcv (.ag g j))) ∗ pts c cc0_stg2_0 (oR c g).set fullShare (FH m c)
      ∗ ((sT c (.x2 g) ∗ sA c (.x2 g) ∗ any (prt c) cc0_scratch9 (gR g).set) ∗ rA c (.x2 g) ∗ any c cc0_scratch8 (gR g).set
        ∗ any c cc0_stg2_0 (hR (prt c) g).set))) ?_ ?_
  · rw [bigSep_sep']
    iintro ⟨⟨HO, Hz, Hg⟩, HD, Hs, ⟨Ho, Hos⟩, HC⟩
    isplitl [Hg Hos]
    · isplitr; · iempintro
      iapply (sep2 _ _)
      isplitl [Hg] <;> iassumption
    isplitl [HO]; · iexact HO
    isplitl [HD]; · iexact HD
    isplitl [Hs]; · iexact Hs
    isplitl [Hz]; · iexact Hz
    isplitl [Ho] <;> iassumption
  refine last (half_wp m K c g rest)
    (R := iprop(D1 c g ∗ ((bigSep Finset.univ fun j : J15 => sC c (.ag g j)) ∗ pts c cc0_scratch6 (aR g).set (shareDrop fullShare 15) (AB m c))
      ∗ (bigSep Finset.univ fun j : J15 => z c (.rcv (.ag g j))) ∗ pts c cc0_scratch7 (rR g).set fullShare (AG m c)
      ∗ rA c (.x2 g) ∗ any c cc0_stg2_0 (hR (prt c) g).set)) ?_ ?_
  · rw [bigSep_sep', ← pts_split c cc0_scratch7 (rR g).set fullShare (AG m c) jOf4 (fun j => (sR g j).set) (sR_cl g), split_half]
    iintro ⟨⟨-, Hg, Hos⟩, HO, HD, Hs, Hz, Ho, Hx, Hr, Hb, Hh⟩
    isplitl [HO Hx Hb Ho Hos]
    · isplitl [HO]; · iexact HO
      isplitl [Hx]; · iexact Hx
      isplitl [Hb]; · iexact Hb
      isplitl [Ho]
      · iapply (Entails.of_eq (show (pts c cc0_stg2_0 (oR c g).set fullShare (FH m c) : sProp 𝕄) = pts c cc0_stg2_0 (oR (inp c none) g).set fullShare (FH m c) from rfl)); iexact Ho
      iexact Hos
    isplitl [HD]; · iexact HD
    isplitl [Hs]; · iexact Hs
    isplitl [Hz]; · iexact Hz
    isplitl [Hg]; · iexact Hg
    isplitl [Hr] <;> iassumption
  · iintro ⟨⟨⟨HO, Hc⟩, Ho⟩, HD, ⟨Hs, Hb⟩, Hz, Hg, Hr, Hh⟩
    ihave Hg := (pts_any c cc0_scratch7 (rR g).set (AG m c)) $$ Hg
    isplitl [HO]; · iexact HO
    isplitl [HD]; · iexact HD
    isplitl [Hs]; · iexact Hs
    isplitl [Hb]; · iexact Hb
    isplitl [Hz]; · iexact Hz
    isplitl [Hg]; · iexact Hg
    isplitl [Hc]; · iexact Hc
    isplitl [Hr]; · iexact Hr
    isplitl [Ho] <;> iassumption

/-! ## The end of a group -/

theorem other_wp (c : Dev nD) (g : G4) :
    iprop(own m K c [] ∗ sC c (.x2 g) ∗ rA c (.x2 g) ∗ any c cc0_stg2_0 (hR (prt c) g).set)
      ⊢ wpp c (pOther (addr c) g) fun _ => iprop(own m K c [] ∗ (z c (.snd (.x2 g)) ∗ z c (.rcv (.x2 g)))
        ∗ (any c cc0_scratch8 (gR g).set ∗ any c cc0_scratch9 (gR g).set) ∗ pts c cc0_stg2_0 (hR (prt c) g).set fullShare (FIN m c)) := by
  unfold pOther
  simp only [Prog.lift, Prog.bind_op, Prog.bind_ret, Prog.pure_eq_ret]
  iintro ⟨HO, Hs, Hr, Ho⟩
  iapply (rcv_wp m K c (.x2 g) [] (fun o h => absurd h List.not_mem_nil) (dst := gM xrM g) rfl rfl) $$ [HO Hr]
  · isplitl [HO] <;> iassumption
  iintro ⟨HO, Hz, Hx⟩
  ihave Hx := (show rcvPay m c (.x2 g) ⊢ pts c cc0_scratch9 (gR g).set fullShare (XR m c) from BIBase.Entails.rfl) $$ Hx
  ihave Ho := (show any c cc0_stg2_0 (hR (prt c) g).set ⊢ (iprop(∃ f : Con F cc0_stg2_0, pts c cc0_stg2_0 (hR (prt c) g).set fullShare f) : sProp 𝕄) from BIBase.Entails.rfl) $$ Ho
  icases Ho with ⟨%fo, Ho⟩
  unfold pts wpp
  iapply (wp_load 𝒱₀ (c : Thread nD τ) none Set.univ (m := xrM) (subset_of_eq (setOn_load cc0_scratch9 (gR g)))) $$ Hx; iintro Hx
  iapply (wp_load 𝒱₀ (c : Thread nD τ) none Set.univ (m := oM) (subset_of_eq (setOn_load cc0_stg2_0 (hR (prt c) g)))) $$ Ho; iintro Ho
  iapply (wp_store 𝒱₀ (c : Thread nD τ) none Set.univ (m := oM) (r := hR (prt c) g) (Mk := Finset.univ)
    (subset_of_eq (View.set_slice_whole cc0_stg2_0 (hR (prt c) g)))) $$ Ho; iintro Ho
  ihave Ho := (Entails.of_eq (pointsTo_congr (FIN_other m c g fo))) $$ Ho
  iapply (snd_wp m K c (.x2 g) (dst := gM xbM g) rfl rfl) $$ [HO Hs]
  · isplitl [HO] <;> iassumption
  iintro ⟨HO, Hz', Hb⟩
  ihave Hb := (show sndPay m c (.x2 g) ⊢ any c cc0_scratch8 (gR g).set from pts_any c cc0_scratch8 (gR g).set (XB m c)) $$ Hb
  ihave Hx := (show ((c : Thread nD τ).loc cc0_scratch9 ↦[(gR g).set]{fullShare} (XR m c)) ⊢ any c cc0_scratch9 (gR g).set from pts_any c cc0_scratch9 (gR g).set (XR m c)) $$ Hx
  unfold wpp
  rw [wp_ret]; imodintro
  isplitl [HO]; · iexact HO
  isplitl [Hz Hz']
  · isplitl [Hz'] <;> iassumption
  isplitl [Hb Hx]
  · isplitl [Hb] <;> iassumption
  iexact Ho

theorem pTail_wp (c : Dev nD) (g : G4) :
    iprop(own m K c [] ∗ A3 m c g) ⊢ wpp c (pTail (addr c) g) fun _ => iprop(own m K c [] ∗ A4 m c g) := by
  unfold pTail A3 A4 D1
  refine step (other_wp m K c g) (R := iprop(((bigSep Finset.univ fun j : J15 => sC c (.rs g j)) ∗ any c cc0_scratch4 (kS g c)
      ∗ (bigSep Finset.univ fun j : J15 => z c (.rcv (.rs g j))) ∗ any c cc0_scratch5 (rR g).set)
    ∗ (bigSep Finset.univ fun j : J15 => sC c (.ag g j)) ∗ pts c cc0_scratch6 (aR g).set (shareDrop fullShare 15) (AB m c)
    ∗ (bigSep Finset.univ fun j : J15 => z c (.rcv (.ag g j))) ∗ any c cc0_scratch7 (rR g).set
    ∗ pts c cc0_stg2_0 (hR c g).set fullShare (FIN m c))) ?_ ?_
  · rw [pts_congr (b := cc0_stg2_0) (c := c) (q := fullShare) (FIN_own m c g)]
    iintro ⟨HO, HD, Hs, Hb, Hz, Hg, Hc, Hr, Ho, Hh⟩
    isplitl [HO Hc Hr Hh]
    · isplitl [HO]; · iexact HO
      isplitl [Hc]; · iexact Hc
      isplitl [Hr] <;> iassumption
    isplitl [HD]; · iexact HD
    isplitl [Hs]; · iexact Hs
    isplitl [Hb]; · iexact Hb
    isplitl [Hz]; · iexact Hz
    isplitl [Hg] <;> iassumption
  refine step (peers_wp0 c (pRsDone (addr c) g) (own m K c []) (fun j => sC c (.rs g j))
      (fun j => iprop(z c (.snd (.rs g j)) ∗ pts c cc0_scratch4 (kS g (outp c (some j))) fullShare (CB m c))) fun j => done_rs m K c g j)
    (R := iprop((((z c (.snd (.x2 g)) ∗ z c (.rcv (.x2 g)))
        ∗ (any c cc0_scratch8 (gR g).set ∗ any c cc0_scratch9 (gR g).set) ∗ pts c cc0_stg2_0 (hR (prt c) g).set fullShare (FIN m c)))
      ∗ (any c cc0_scratch4 (kS g c) ∗ (bigSep Finset.univ fun j : J15 => z c (.rcv (.rs g j))) ∗ any c cc0_scratch5 (rR g).set)
      ∗ (bigSep Finset.univ fun j : J15 => sC c (.ag g j)) ∗ pts c cc0_scratch6 (aR g).set (shareDrop fullShare 15) (AB m c)
      ∗ (bigSep Finset.univ fun j : J15 => z c (.rcv (.ag g j))) ∗ any c cc0_scratch7 (rR g).set
      ∗ pts c cc0_stg2_0 (hR c g).set fullShare (FIN m c))) ?_ ?_
  · iintro ⟨⟨HO, HE⟩, ⟨Hs, HD⟩, HF⟩
    isplitl [HO Hs]
    · isplitl [HO] <;> iassumption
    isplitl [HE]; · iexact HE
    isplitl [HD] <;> iassumption
  refine last (peers_wp0 c (pAgDone (addr c) g) (own m K c []) (fun j => sC c (.ag g j))
      (fun j => iprop(z c (.snd (.ag g j)) ∗ pts c cc0_scratch6 (aR g).set (shareTok fullShare 15 j) (AB m c))) fun j => done_ag m K c g j)
    (R := iprop((((z c (.snd (.x2 g)) ∗ z c (.rcv (.x2 g)))
        ∗ (any c cc0_scratch8 (gR g).set ∗ any c cc0_scratch9 (gR g).set) ∗ pts c cc0_stg2_0 (hR (prt c) g).set fullShare (FIN m c)))
      ∗ ((bigSep Finset.univ fun j : J15 => z c (.snd (.rs g j))) ∗ any c cc0_scratch4 (gR g).set ∗ (bigSep Finset.univ fun j : J15 => z c (.rcv (.rs g j))) ∗ any c cc0_scratch5 (rR g).set)
      ∗ pts c cc0_scratch6 (aR g).set (shareDrop fullShare 15) (AB m c)
      ∗ (bigSep Finset.univ fun j : J15 => z c (.rcv (.ag g j))) ∗ any c cc0_scratch7 (rR g).set
      ∗ pts c cc0_stg2_0 (hR c g).set fullShare (FIN m c))) ?_ ?_
  · rw [bigSep_sep']
    iintro ⟨⟨HO, Hz, Hcs⟩, HE, ⟨Hc, Hz', H5⟩, Hs, HF⟩
    ihave Hcs := (show (bigSep Finset.univ fun j : J15 => pts c cc0_scratch4 (kS g (outp c (some j))) fullShare (CB m c))
      ⊢ (bigSep Finset.univ fun j : J15 => any c cc0_scratch4 (kS g (outp c (some j)))) from bigSep_mono fun j _ => pts_any _ _ _ _) $$ Hcs
    ihave Hc := (join_cb m c g) $$ [Hc Hcs]
    · isplitl [Hc] <;> iassumption
    isplitl [HO Hs]
    · isplitl [HO] <;> iassumption
    isplitl [HE]; · iexact HE
    isplitl [Hz Hc Hz' H5]
    · isplitl [Hz]; · iexact Hz
      isplitl [Hc]; · iexact Hc
      isplitl [Hz'] <;> iassumption
    iexact HF
  · rw [bigSep_sep']
    iintro ⟨⟨HO, Hz, Hbs⟩, ⟨⟨Hx, Hx'⟩, ⟨H8, H9⟩, Hh⟩, ⟨Hzs, H4, Hzr, H5⟩, Hb, Hz', H7, Ho⟩
    ihave Hb := (toks_ab m c g).2 $$ [Hb Hbs]
    · isplitl [Hb] <;> iassumption
    ihave Hb := (pts_any c cc0_scratch6 (aR g).set (AB m c)) $$ Hb
    isplitl [HO]; · iexact HO
    isplitl [Hz Hx Hx' Hzs Hzr Hz']
    · isplitl [Hzs]; · iexact Hzs
      isplitl [Hzr]; · iexact Hzr
      isplitl [Hz]; · iexact Hz
      isplitl [Hz']; · iexact Hz'
      isplitl [Hx] <;> iassumption
    isplitl [H4 H5 Hb H7 H8 H9]
    · isplitl [H4]; · iexact H4
      isplitl [H5]; · iexact H5
      isplitl [Hb]; · iexact Hb
      isplitl [H7]; · iexact H7
      isplitl [H8] <;> iassumption
    isplitl [Ho] <;> iassumption

/-- The operands' sends, waited out. -/
theorem pEnd_wp (c : Dev nD) :
    iprop(own m K c [] ∗ sC c (.xw 0) ∗ sC c (.xw 1))
      ⊢ wpp c pEnd fun _ => iprop(own m K c [] ∗ (z c (.snd (.xw 0)) ∗ z c (.snd (.xw 1))) ∗ any c cc0_scratch0 Finset.univ ∗ any c cc0_scratch1 Finset.univ) := by
  unfold pEnd
  simp only [Prog.lift, Prog.bind_op, Prog.bind_ret, Prog.pure_eq_ret]
  iintro ⟨HO, Hs0, Hs1⟩
  iapply (snd_wp m K c (.xw 0) (dst := xsM) rfl rfl) $$ [HO Hs0]
  · isplitl [HO] <;> iassumption
  iintro ⟨HO, Hz0, Hb0⟩
  iapply (snd_wp m K c (.xw 1) (dst := wsM) rfl rfl) $$ [HO Hs1]
  · isplitl [HO] <;> iassumption
  iintro ⟨HO, Hz1, Hb1⟩
  ihave Hb0 := (show sndPay m c (.xw 0) ⊢ any c cc0_scratch0 Finset.univ from pts_any c cc0_scratch0 Finset.univ (XS m c)) $$ Hb0
  ihave Hb1 := (show sndPay m c (.xw 1) ⊢ any c cc0_scratch1 Finset.univ from pts_any c cc0_scratch1 Finset.univ (WS m c)) $$ Hb1
  unfold wpp
  rw [wp_ret]; imodintro
  isplitl [HO]; · iexact HO
  isplitl [Hz0 Hz1]
  · isplitl [Hz0] <;> iassumption
  isplitl [Hb0] <;> iassumption

end Cert.KernelIdeal.MM

end
-- ==== Proof.Body.lean ====
/-
  The whole body: the states of the four column groups through the program, from what a device starts
  with to what it ends with.
-/
module

public import proofs.«01_k».proof.Proof.Groups

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## The places handed over, by channel -/

/-- The signal that hands over a channel's place. -/
def chi : Chan → Fin 16
  | .xw _ => 0
  | .rs _ j => ⟨15 - j.val, by omega⟩
  | .ag _ j => ⟨15 - j.val, by omega⟩
  | .x2 _ => 0

theorem barGive_peer (d : Dev nD) (j : J15) :
    (barGive d ⟨15 - j.val, by omega⟩ : sProp 𝕄) = bigSep Finset.univ fun g : G4 => iprop(slotMem d (.rs g j) ∗ slotMem d (.ag g j)) := by
  unfold barGive
  rw [if_neg (by revert j; decide)]
  have e : Fin.ofNat 15 (15 - (15 - j.val)) = j := by revert j; decide
  show (bigSep Finset.univ fun g : G4 => iprop(slotMem d (.rs g (Fin.ofNat 15 (15 - (15 - j.val)))) ∗ slotMem d (.ag g (Fin.ofNat 15 (15 - (15 - j.val)))))) = _
  rw [e]

/-- What the signals hand over is every channel's place. -/
theorem give_iff (D : Fin 16 → Dev nD) :
    (bigSep Finset.univ fun i : Fin 16 => (barGive (D i) i : sProp 𝕄)) ⊣⊢ bigSep Finset.univ fun h : Chan => slotMem (D (chi h)) h := by
  have e : (bigSep Finset.univ fun j : J15 => (barGive (D ⟨15 - j.val, by omega⟩) ⟨15 - j.val, by omega⟩ : sProp 𝕄))
      = iprop((bigSep Finset.univ fun g : G4 => bigSep Finset.univ fun j : J15 => slotMem (D (chi (.rs g j))) (.rs g j))
        ∗ bigSep Finset.univ fun g : G4 => bigSep Finset.univ fun j : J15 => slotMem (D (chi (.ag g j))) (.ag g j)) := by
    rw [← bigSep_sep', bigSep_congr (s := Finset.univ) (fun (g : G4) _ => (bigSep_sep' Finset.univ (fun j : J15 => (slotMem (D (chi (.rs g j))) (.rs g j) : sProp 𝕄))
      (fun j => slotMem (D (chi (.ag g j))) (.ag g j))).symm), bigSep_univ_comm]
    exact bigSep_congr fun j _ => barGive_peer _ j
  have e0 : (barGive (D 0) 0 : sProp 𝕄) = iprop((slotMem (D (chi (.xw 0))) (.xw 0) ∗ slotMem (D (chi (.xw 1))) (.xw 1))
      ∗ bigSep Finset.univ fun g : G4 => slotMem (D (chi (.x2 g))) (.x2 g)) := rfl
  rw [bigSep_sig, bigSep_chan, e, e0]
  constructor
  · iintro ⟨⟨H1, H2⟩, H3, H4⟩
    isplitl [H1]; · iexact H1
    isplitl [H3]; · iexact H3
    isplitl [H4] <;> iassumption
  · iintro ⟨H1, H3, H4, H2⟩
    isplitl [H1 H2]
    · isplitl [H1] <;> iassumption
    isplitl [H3] <;> iassumption

theorem gs_chi (c : Dev nD) (h : Chan) : gs c (chi h) = chd c h := by
  rcases h with i | ⟨g, j⟩ | ⟨g, j⟩ | g
  · rfl
  · show gs c ⟨15 - j.val, _⟩ = nx c (j.val + 1); revert c j; decide
  · show gs c ⟨15 - j.val, _⟩ = nx c (j.val + 1); revert c j; decide
  · rfl

/-! ## The states of the four groups -/

/-- What the group stages leave alone. -/
def rest (c : Dev nD) : sProp 𝕄 :=
  iprop((sC c (.xw 0) ∗ sC c (.xw 1)) ∗ (z c (.rcv (.xw 0)) ∗ z c (.rcv (.xw 1))) ∗ z c .bar)

/-- The device with payments `p` left and its four groups in the states `s0` to `s3`. -/
def St (c : Dev nD) (p : List Pay) (s0 s1 s2 s3 : sProp 𝕄) : sProp 𝕄 :=
  iprop(own m K c p ∗ opsX m c ∗ (s0 ∗ s1 ∗ s2 ∗ s3) ∗ rest c)

theorem withX {c : Dev nD} {p p' : List Pay} {s s' : sProp 𝕄} {q : PR F}
    (h : iprop(own m K c p ∗ s) ⊢ wpp c q fun _ => iprop(own m K c p' ∗ s')) :
    iprop(own m K c p ∗ opsX m c ∗ s) ⊢ wpp c q fun _ => iprop(own m K c p' ∗ opsX m c ∗ s') := by
  refine last h (R := opsX m c) ?_ ?_
  · iintro ⟨H1, H2, H3⟩
    isplitr [H2]
    · isplitl [H1] <;> iassumption
    iexact H2
  · iintro ⟨⟨H1, H3⟩, H2⟩
    isplitl [H1]; · iexact H1
    isplitl [H2] <;> iassumption

section
variable {m K} {c : Dev nD} {p p' : List Pay} {q : PR F}
theorem at0 {s s' t1 t2 t3 : sProp 𝕄}
    (h : iprop(own m K c p ∗ opsX m c ∗ s) ⊢ wpp c q fun _ => iprop(own m K c p' ∗ opsX m c ∗ s')) :
    St m K c p s t1 t2 t3 ⊢ wpp c q fun _ => St m K c p' s' t1 t2 t3 := by
  unfold St
  refine last h (R := iprop((t1 ∗ t2 ∗ t3) ∗ rest c)) ?_ ?_
  · iintro ⟨H1, H2, ⟨H3, HT⟩, HR⟩
    isplitl [H1 H2 H3]
    · isplitl [H1]; · iexact H1
      isplitl [H2] <;> iassumption
    isplitl [HT] <;> iassumption
  · iintro ⟨⟨H1, H2, H3⟩, HT, HR⟩
    isplitl [H1]; · iexact H1
    isplitl [H2]; · iexact H2
    isplitl [H3 HT]
    · isplitl [H3] <;> iassumption
    iexact HR
theorem at1 {s s' t0 t2 t3 : sProp 𝕄}
    (h : iprop(own m K c p ∗ opsX m c ∗ s) ⊢ wpp c q fun _ => iprop(own m K c p' ∗ opsX m c ∗ s')) :
    St m K c p t0 s t2 t3 ⊢ wpp c q fun _ => St m K c p' t0 s' t2 t3 := by
  unfold St
  refine last h (R := iprop(t0 ∗ (t2 ∗ t3) ∗ rest c)) ?_ ?_
  · iintro ⟨H1, H2, ⟨H0, H3, HT⟩, HR⟩
    isplitl [H1 H2 H3]
    · isplitl [H1]; · iexact H1
      isplitl [H2] <;> iassumption
    isplitl [H0]; · iexact H0
    isplitl [HT] <;> iassumption
  · iintro ⟨⟨H1, H2, H3⟩, H0, HT, HR⟩
    isplitl [H1]; · iexact H1
    isplitl [H2]; · iexact H2
    isplitl [H0 H3 HT]
    · isplitl [H0]; · iexact H0
      isplitl [H3] <;> iassumption
    iexact HR
theorem at2 {s s' t0 t1 t3 : sProp 𝕄}
    (h : iprop(own m K c p ∗ opsX m c ∗ s) ⊢ wpp c q fun _ => iprop(own m K c p' ∗ opsX m c ∗ s')) :
    St m K c p t0 t1 s t3 ⊢ wpp c q fun _ => St m K c p' t0 t1 s' t3 := by
  unfold St
  refine last h (R := iprop(t0 ∗ t1 ∗ t3 ∗ rest c)) ?_ ?_
  · iintro ⟨H1, H2, ⟨H0, H4, H3, HT⟩, HR⟩
    isplitl [H1 H2 H3]
    · isplitl [H1]; · iexact H1
      isplitl [H2] <;> iassumption
    isplitl [H0]; · iexact H0
    isplitl [H4]; · iexact H4
    isplitl [HT] <;> iassumption
  · iintro ⟨⟨H1, H2, H3⟩, H0, H4, HT, HR⟩
    isplitl [H1]; · iexact H1
    isplitl [H2]; · iexact H2
    isplitl [H0 H3 H4 HT]
    · isplitl [H0]; · iexact H0
      isplitl [H4]; · iexact H4
      isplitl [H3] <;> iassumption
    iexact HR
theorem at3 {s s' t0 t1 t2 : sProp 𝕄}
    (h : iprop(own m K c p ∗ opsX m c ∗ s) ⊢ wpp c q fun _ => iprop(own m K c p' ∗ opsX m c ∗ s')) :
    St m K c p t0 t1 t2 s ⊢ wpp c q fun _ => St m K c p' t0 t1 t2 s' := by
  unfold St
  refine last h (R := iprop(t0 ∗ t1 ∗ t2 ∗ rest c)) ?_ ?_
  · iintro ⟨H1, H2, ⟨H0, H4, H5, H3⟩, HR⟩
    isplitl [H1 H2 H3]
    · isplitl [H1]; · iexact H1
      isplitl [H2] <;> iassumption
    isplitl [H0]; · iexact H0
    isplitl [H4]; · iexact H4
    isplitl [H5] <;> iassumption
  · iintro ⟨⟨H1, H2, H3⟩, H0, H4, H5, HR⟩
    isplitl [H1]; · iexact H1
    isplitl [H2]; · iexact H2
    isplitl [H0 H3 H4 H5]
    · isplitl [H0]; · iexact H0
      isplitl [H4]; · iexact H4
      isplitl [H5] <;> iassumption
    iexact HR
end

/-! ## The order of the payments -/

theorem cut_bar : ∀ o ∈ p0, 1 < pord o := by decide +kernel
theorem cut_xw : ∀ o ∈ p1, 2 < pord o := by decide +kernel
theorem cut_ag0 : ∀ o ∈ lag 0 ++ p4, ord (.rs 0 0) < pord o := by decide +kernel
theorem cut_ag1 : ∀ o ∈ lag 1 ++ p6, ord (.rs 1 0) < pord o := by decide +kernel
theorem cut_ag2 : ∀ o ∈ lag 2 ++ p9, ord (.rs 2 0) < pord o := by decide +kernel
theorem cut_ag3 : ∀ o ∈ lag 3 ++ p11, ord (.rs 3 0) < pord o := by decide +kernel
theorem cut_x0 : ∀ o ∈ lx2 0 ++ p7, ord (.ag 0 0) < pord o := by decide +kernel
theorem cut_x1 : ∀ o ∈ lx2 1 ++ p10, ord (.ag 1 0) < pord o := by decide +kernel
theorem cut_x2 : ∀ o ∈ lx2 2 ++ p12, ord (.ag 2 0) < pord o := by decide +kernel
theorem cut_x3 : ∀ o ∈ lx2 3 ++ p13, ord (.ag 3 0) < pord o := by decide +kernel

/-! ## The body -/

/-- What a device ends with. -/
def bodyOut (c : Dev nD) : sProp 𝕄 :=
  iprop((own m K c [] ∗ (z c (.snd (.xw 0)) ∗ z c (.snd (.xw 1))) ∗ any c cc0_scratch0 Finset.univ ∗ any c cc0_scratch1 Finset.univ)
    ∗ opsX m c ∗ (A4 m c 0 ∗ A4 m c 1 ∗ A4 m c 2 ∗ A4 m c 3) ∗ (z c (.rcv (.xw 0)) ∗ z c (.rcv (.xw 1))) ∗ z c .bar)

/-- The body after the operands are exchanged. -/
def pMid (A : Addr) : PR F :=
  (pR2 A 0).bind fun _ => (pR2 A 1).bind fun _ => (pAG A 0).bind fun _ => (pR2 A 2).bind fun _ =>
      (pAG A 1).bind fun _ => (pX2 A 0).bind fun _ => (pR2 A 3).bind fun _ => (pAG A 2).bind fun _ =>
      (pX2 A 1).bind fun _ => (pAG A 3).bind fun _ => (pX2 A 2).bind fun _ => (pX2 A 3).bind fun _ =>
      (pTail A 0).bind fun _ => (pTail A 1).bind fun _ => (pTail A 2).bind fun _ => (pTail A 3).bind fun _ => pEnd

theorem prog_eq (A : Addr) : prog (F := F) A = (pBar A).bind fun _ => (pXW A).bind fun _ => pMid A := by
  unfold prog pMid; rfl

/-- From the operands exchanged to the end. -/
theorem groups_wp (c : Dev nD) :
    St m K c p1 (A0 c 0) (A0 c 1) (A0 c 2) (A0 c 3) ⊢ wpp c
      (pMid (addr c))
      fun _ => bodyOut m K c := by
  unfold pMid
  refine seq0 (at0 (pR2_wp m K c 0 p2)) ?_
  refine seq0 (at1 (pR2_wp m K c 1 p3)) ?_
  refine seq0 (at0 (withX m K (pAG_wp m K c 0 p4 cut_ag0))) ?_
  refine seq0 (at2 (pR2_wp m K c 2 p5)) ?_
  refine seq0 (at1 (withX m K (pAG_wp m K c 1 p6 cut_ag1))) ?_
  refine seq0 (at0 (withX m K (pX2_wp m K c 0 p7 cut_x0))) ?_
  refine seq0 (at3 (pR2_wp m K c 3 p8)) ?_
  refine seq0 (at2 (withX m K (pAG_wp m K c 2 p9 cut_ag2))) ?_
  refine seq0 (at1 (withX m K (pX2_wp m K c 1 p10 cut_x1))) ?_
  refine seq0 (at3 (withX m K (pAG_wp m K c 3 p11 cut_ag3))) ?_
  refine seq0 (at2 (withX m K (pX2_wp m K c 2 p12 cut_x2))) ?_
  refine seq0 (at3 (withX m K (pX2_wp m K c 3 p13 cut_x3))) ?_
  refine seq0 (at0 (withX m K (pTail_wp m K c 0))) ?_
  refine seq0 (at1 (withX m K (pTail_wp m K c 1))) ?_
  refine seq0 (at2 (withX m K (pTail_wp m K c 2))) ?_
  refine seq0 (at3 (withX m K (pTail_wp m K c 3))) ?_
  unfold St rest bodyOut
  refine last (pEnd_wp m K c) (R := iprop(opsX m c ∗ (A4 m c 0 ∗ A4 m c 1 ∗ A4 m c 2 ∗ A4 m c 3) ∗ (z c (.rcv (.xw 0)) ∗ z c (.rcv (.xw 1))) ∗ z c .bar)) ?_ ?_
  · iintro ⟨HO, HX, HA, Hs, HR⟩
    isplitl [HO Hs]
    · isplitl [HO] <;> iassumption
    isplitl [HX]; · iexact HX
    isplitl [HA] <;> iassumption
  · iintro H; iexact H

/-- What a device starts its transfers with: tokens, positions, and the memory its own groups use. -/
def bodyIn (c : Dev nD) : sProp 𝕄 :=
  iprop((pts c cc0_stg0_0 Finset.univ fullShare (XT m c) ∗ pts c cc0_stg1_0 Finset.univ fullShare (WT m c))
    ∗ (any c cc0_scratch0 Finset.univ ∗ any c cc0_scratch1 Finset.univ)
    ∗ (bigSep Finset.univ fun h : Chan => iprop(sT c h ∗ sA c h)) ∗ (bigSep Finset.univ fun h : Chan => rA c h)
    ∗ (bigSep Finset.univ fun g : G4 => any c cc0_scratch4 (gR g).set) ∗ (bigSep Finset.univ fun g : G4 => any c cc0_scratch6 (aR g).set)
    ∗ (bigSep Finset.univ fun g : G4 => any c cc0_scratch8 (gR g).set)
    ∗ (bigSep Finset.univ fun g : G4 => any c cc0_stg2_0 (hR c g).set) ∗ bigSep Finset.univ fun g : G4 => any c cc0_stg2_0 (hR (prt c) g).set)

/-- A channel's tokens, its send cell, and its place on the device it leads to. -/
def sres (c : Dev nD) (h : Chan) : sProp 𝕄 := iprop(sT c h ∗ sA c h ∗ slotMem (chd c h) h)

theorem sres_all (c : Dev nD) :
    iprop((bigSep Finset.univ fun h : Chan => iprop(sT c h ∗ sA c h)) ∗ bigSep Finset.univ fun h : Chan => (slotMem (chd c h) h : sProp 𝕄))
      ⊢ bigSep Finset.univ fun h : Chan => sres (F := F) c h := by
  unfold sres
  simp only [bigSep_sep']
  iintro ⟨⟨H1, H2⟩, H3⟩
  isplitl [H1]; · iexact H1
  isplitl [H2] <;> iassumption

/-- The groups' first states. -/
theorem groups_intro (c : Dev nD) :
    iprop(((bigSep Finset.univ fun g : G4 => bigSep Finset.univ fun j : J15 => sres (F := F) c (.rs g j))
        ∗ (bigSep Finset.univ fun g : G4 => bigSep Finset.univ fun j : J15 => sres (F := F) c (.ag g j)) ∗ bigSep Finset.univ fun g : G4 => sres (F := F) c (.x2 g))
      ∗ ((bigSep Finset.univ fun g : G4 => bigSep Finset.univ fun j : J15 => rA (F := F) c (.rs g j))
        ∗ (bigSep Finset.univ fun g : G4 => bigSep Finset.univ fun j : J15 => rA (F := F) c (.ag g j)) ∗ bigSep Finset.univ fun g : G4 => rA (F := F) c (.x2 g))
      ∗ (bigSep Finset.univ fun g : G4 => any (F := F) c cc0_scratch4 (gR g).set) ∗ (bigSep Finset.univ fun g : G4 => any (F := F) c cc0_scratch6 (aR g).set)
      ∗ (bigSep Finset.univ fun g : G4 => any (F := F) c cc0_scratch8 (gR g).set)
      ∗ (bigSep Finset.univ fun g : G4 => any (F := F) c cc0_stg2_0 (hR c g).set) ∗ bigSep Finset.univ fun g : G4 => any (F := F) c cc0_stg2_0 (hR (prt c) g).set)
      ⊢ iprop(A0 (F := F) c 0 ∗ A0 c 1 ∗ A0 c 2 ∗ A0 c 3) := by
  have h : (bigSep Finset.univ fun g : G4 => iprop((bigSep Finset.univ fun j : J15 => sres (F := F) c (.rs g j))
      ∗ (bigSep Finset.univ fun j : J15 => rA c (.rs g j)) ∗ any c cc0_scratch4 (gR g).set ∗ any c cc0_stg2_0 (hR c g).set
      ∗ ((bigSep Finset.univ fun j : J15 => sres (F := F) c (.ag g j)) ∗ (bigSep Finset.univ fun j : J15 => rA c (.ag g j)) ∗ any c cc0_scratch6 (aR g).set)
      ∗ (sres (F := F) c (.x2 g) ∗ rA c (.x2 g) ∗ any c cc0_scratch8 (gR g).set ∗ any c cc0_stg2_0 (hR (prt c) g).set)))
      = bigSep Finset.univ fun g : G4 => A0 (F := F) c g := rfl
  rw [← bigSep_four (fun g => A0 (F := F) c g), ← h]
  simp only [bigSep_sep' (I := G4)]
  iintro ⟨⟨H1, H2, H3⟩, ⟨H4, H5, H6⟩, H7, H8, H9, H10, H11⟩
  isplitl [H1]; · iexact H1
  isplitl [H4]; · iexact H4
  isplitl [H7]; · iexact H7
  isplitl [H10]; · iexact H10
  isplitl [H2 H5 H8]
  · isplitl [H2]; · iexact H2
    isplitl [H5] <;> iassumption
  isplitl [H3]; · iexact H3
  isplitl [H6]; · iexact H6
  isplitl [H9]; · iexact H9
  iexact H11

/-- The body at its closed addresses. -/
theorem prog_wp (c : Dev nD) :
    iprop(((own m K c pAll ∗ bigSep Finset.univ fun i : Fin 16 => iprop(dutyTok ER (cell (sg c i) .bar) 0 i ∗ barGive c i))
        ∗ atPos ER (cell c .bar) 0 (∅ : Finset (Fin 16)) 0 ∗ cred (tallyAt (cell c .bar) () 16)) ∗ bodyIn m c)
      ⊢ wpp c (prog (addr c)) fun _ => bodyOut m K c := by
  rw [prog_eq]
  refine seq (pBar_wp m K c p0 cut_bar) ?_
  refine step (pXW_wp m K c p1 cut_xw) (R := iprop((A0 (F := F) c 0 ∗ A0 c 1 ∗ A0 c 2 ∗ A0 c 3) ∗ z c .bar)) ?_ ?_
  · unfold bodyIn
    iintro ⟨⟨HO, Hz, Hg⟩, ⟨Hx, Hs, HT, Hr, H4, H6, H8, Ho, Ho'⟩⟩
    ihave Hg := (give_iff (F := F) (gs c)).1 $$ Hg
    rw [show (fun h : Chan => (slotMem (gs c (chi h)) h : sProp 𝕄)) = fun h => slotMem (chd c h) h from funext fun h => by rw [gs_chi]]
    ihave HT := (sres_all (F := F) c) $$ [HT Hg]
    · isplitl [HT] <;> iassumption
    ihave HT := (Entails.of_eq (bigSep_chan _)) $$ HT
    ihave Hr := (Entails.of_eq (bigSep_chan _)) $$ Hr
    icases HT with ⟨⟨Hx0, Hx1⟩, HT⟩
    icases Hr with ⟨⟨Hr0, Hr1⟩, Hr⟩
    ihave Hx0 := (Entails.of_eq (show sres (F := F) c (.xw 0) = iprop(sT c (.xw 0) ∗ sA c (.xw 0) ∗ any (prt c) cc0_scratch2 Finset.univ) from rfl)) $$ Hx0
    ihave Hx1 := (Entails.of_eq (show sres (F := F) c (.xw 1) = iprop(sT c (.xw 1) ∗ sA c (.xw 1) ∗ any (prt c) cc0_scratch3 Finset.univ) from rfl)) $$ Hx1
    isplitl [HO Hx Hs Hx0 Hx1 Hr0 Hr1]
    · isplitl [HO]; · iexact HO
      isplitl [Hx]; · iexact Hx
      isplitl [Hs]; · iexact Hs
      isplitl [Hx0]; · iexact Hx0
      isplitl [Hx1]; · iexact Hx1
      isplitl [Hr0] <;> iassumption
    isplitr [Hz]
    · iapply (groups_intro (F := F) c)
      isplitl [HT]; · iexact HT
      isplitl [Hr]; · iexact Hr
      isplitl [H4]; · iexact H4
      isplitl [H6]; · iexact H6
      isplitl [H8]; · iexact H8
      isplitl [Ho]; · iexact Ho
      iexact Ho'
    iexact Hz
  refine BIBase.Entails.trans ?_ (groups_wp m K c)
  unfold St rest
  iintro ⟨⟨HO, HX, Hs, Hz⟩, HA, Hb⟩
  isplitl [HO]; · iexact HO
  isplitl [HX]; · iexact HX
  isplitl [HA]; · iexact HA
  isplitl [Hs]; · iexact Hs
  isplitl [Hz] <;> iassumption

end Cert.KernelIdeal.MM

end
-- ==== Proof.Memory.lean ====
/-
  A device's memory before and after the body: its buffers in the pieces the body works on, and the
  pieces put together again.
-/
module

public import proofs.«01_k».proof.Proof.Body

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-! ## Before -/

theorem rs_split (c : Dev nD) : any (F := F) c cc0_scratch5 Finset.univ
    ⊢ bigSep Finset.univ fun g : G4 => bigSep Finset.univ fun j : J15 => any c cc0_scratch5 (sR g j).set :=
  (any_split c cc0_scratch5 Finset.univ gOf4 (fun g => (rR g).set) rR_cl).trans
    (show (bigSep Finset.univ fun g : G4 => any (F := F) c cc0_scratch5 (rR g).set) ⊢ _ from
      bigSep_mono fun g _ => any_split c cc0_scratch5 (rR g).set jOf4 (fun j => (sR g j).set) (sR_cl g))
theorem ag_split (c : Dev nD) : any (F := F) c cc0_scratch7 Finset.univ
    ⊢ bigSep Finset.univ fun g : G4 => bigSep Finset.univ fun j : J15 => any c cc0_scratch7 (sR g j).set :=
  (any_split c cc0_scratch7 Finset.univ gOf4 (fun g => (rR g).set) rR_cl).trans
    (show (bigSep Finset.univ fun g : G4 => any (F := F) c cc0_scratch7 (rR g).set) ⊢ _ from
      bigSep_mono fun g _ => any_split c cc0_scratch7 (rR g).set jOf4 (fun j => (sR g j).set) (sR_cl g))

/-- The buffers others write, in their places. -/
theorem places (c : Dev nD) :
    iprop(any (F := F) c cc0_scratch2 Finset.univ ∗ any c cc0_scratch3 Finset.univ ∗ any c cc0_scratch5 Finset.univ
        ∗ any c cc0_scratch7 Finset.univ ∗ any c cc0_scratch9 Finset.univ)
      ⊢ bigSep Finset.univ fun h : Chan => slotMem (F := F) c h := by
  refine BIBase.Entails.trans ?_ (Entails.of_eq (bigSep_chan _).symm)
  iintro ⟨H2, H3, H5, H7, H9⟩
  ihave H2 := (Entails.of_eq (show any (F := F) c cc0_scratch2 Finset.univ = slotMem c (.xw 0) from rfl)) $$ H2
  ihave H3 := (Entails.of_eq (show any (F := F) c cc0_scratch3 Finset.univ = slotMem c (.xw 1) from rfl)) $$ H3
  isplitl [H2 H3]
  · isplitl [H2]; · iexact H2
    iexact H3
  isplitl [H5]; · iapply (rs_split (F := F) c); iexact H5
  isplitl [H7]; · iapply (ag_split (F := F) c); iexact H7
  iapply (any_split (F := F) c cc0_scratch9 Finset.univ gOf3 (fun g => (gR g).set) gR_cl); iexact H9

/-- The result's buffer in its halves and column groups. -/
theorem out_split (c : Dev nD) : any (F := F) c cc0_stg2_0 Finset.univ
    ⊢ iprop((bigSep Finset.univ fun g : G4 => any c cc0_stg2_0 (hR c g).set) ∗ bigSep Finset.univ fun g : G4 => any c cc0_stg2_0 (hR (prt c) g).set) :=
  (any_split c cc0_stg2_0 Finset.univ (fun x => (ownHalf c x, gOfO x)) (fun t : Bool × G4 => (halfR c t.1 t.2).set) (halfR_cl c)).trans
    (Entails.of_eq (bigSep_half c fun b g => any (F := F) c cc0_stg2_0 (halfR c b g).set))

/-- The scratch buffers, holding anything. -/
def scr (c : Dev nD) : sProp 𝕄 :=
  iprop(any c cc0_scratch0 Finset.univ ∗ any c cc0_scratch1 Finset.univ ∗ any c cc0_scratch2 Finset.univ ∗ any c cc0_scratch3 Finset.univ
    ∗ any c cc0_scratch4 Finset.univ ∗ any c cc0_scratch5 Finset.univ ∗ any c cc0_scratch6 Finset.univ ∗ any c cc0_scratch7 Finset.univ
    ∗ any c cc0_scratch8 Finset.univ ∗ any c cc0_scratch9 Finset.univ)

/-- The tokens and positions a device starts with. -/
def gear (c : Dev nD) : sProp 𝕄 :=
  iprop((bigSep Finset.univ fun h : Chan => iprop(sT c h ∗ sA c h)) ∗ bigSep Finset.univ fun h : Chan => rA c h)

/-- The body from whole buffers. -/
theorem whole_wp (c : Dev nD) :
    iprop(own m K c pAll ∗ (bigSep Finset.univ fun i : Fin 16 => dutyTok ER (cell (sg c i) .bar) 0 i)
        ∗ (atPos ER (cell c .bar) 0 (∅ : Finset (Fin 16)) 0 ∗ cred (tallyAt (cell c .bar) () 16)) ∗ gear c ∗ scr c
        ∗ pts c cc0_stg0_0 Finset.univ fullShare (XT m c) ∗ pts c cc0_stg1_0 Finset.univ fullShare (WT m c) ∗ any c cc0_stg2_0 Finset.univ)
      ⊢ wpp c (prog (addr c)) fun _ => bodyOut m K c := by
  refine BIBase.Entails.trans ?_ (prog_wp m K c)
  unfold scr gear bodyIn
  iintro ⟨HO, Ht, Hb, ⟨HT, HR⟩, ⟨H0, H1, H2, H3, H4, H5, H6, H7, H8, H9⟩, Hx, Hw, Ho⟩
  ihave Hp := (places (F := F) c) $$ [H2 H3 H5 H7 H9]
  · isplitl [H2]; · iexact H2
    isplitl [H3]; · iexact H3
    isplitl [H5]; · iexact H5
    isplitl [H7] <;> iassumption
  ihave Hp := (give_iff (F := F) fun _ => c).2 $$ Hp
  ihave Ho := (out_split (F := F) c) $$ Ho
  icases Ho with ⟨Ho, Ho'⟩
  isplitl [HO Ht Hp Hb]
  · isplitl [HO Ht Hp]
    · isplitl [HO]; · iexact HO
      iapply (Entails.of_eq (bigSep_sep' Finset.univ (fun i : Fin 16 => (dutyTok ER (cell (sg c i) .bar) 0 i : sProp 𝕄)) fun i => barGive c i).symm)
      isplitl [Ht]; · iexact Ht
      iexact Hp
    iexact Hb
  isplitl [Hx Hw]
  · isplitl [Hx]; · iexact Hx
    iexact Hw
  isplitl [H0 H1]
  · isplitl [H0]; · iexact H0
    iexact H1
  isplitl [HT]; · iexact HT
  isplitl [HR]; · iexact HR
  isplitl [H4]; · iapply (any_split (F := F) c cc0_scratch4 Finset.univ gOf3 (fun g => (gR g).set) gR_cl); iexact H4
  isplitl [H6]; · iapply (any_split (F := F) c cc0_scratch6 Finset.univ aOf3 (fun g => (aR g).set) aR_cl); iexact H6
  isplitl [H8]; · iapply (any_split (F := F) c cc0_scratch8 Finset.univ gOf3 (fun g => (gR g).set) gR_cl); iexact H8
  isplitl [Ho]; · iexact Ho
  iexact Ho'

/-! ## After -/

include m in
theorem con_nonempty (b : Ref sig .tc) (c : Dev nD) : Nonempty (Con F b) := ⟨old m c b⟩

/-- The cells of the transfers, all at zero. -/
def zeros (c : Dev nD) : sProp 𝕄 :=
  iprop((bigSep Finset.univ fun h : Chan => z c (.snd h)) ∗ bigSep Finset.univ fun h : Chan => z c (.rcv h))

/-- What the groups end with, by kind. -/
theorem groups_out (c : Dev nD) :
    iprop(A4 m c 0 ∗ A4 m c 1 ∗ A4 m c 2 ∗ A4 m c 3) ⊢
      iprop((((bigSep Finset.univ fun g : G4 => bigSep Finset.univ fun j : J15 => z c (.snd (.rs g j)))
          ∗ (bigSep Finset.univ fun g : G4 => bigSep Finset.univ fun j : J15 => z c (.rcv (.rs g j)))
          ∗ (bigSep Finset.univ fun g : G4 => bigSep Finset.univ fun j : J15 => z c (.snd (.ag g j)))
          ∗ (bigSep Finset.univ fun g : G4 => bigSep Finset.univ fun j : J15 => z c (.rcv (.ag g j)))
          ∗ (bigSep Finset.univ fun g : G4 => z c (.snd (.x2 g))) ∗ bigSep Finset.univ fun g : G4 => z c (.rcv (.x2 g))))
        ∗ ((bigSep Finset.univ fun g : G4 => any c cc0_scratch4 (gR g).set) ∗ (bigSep Finset.univ fun g : G4 => any c cc0_scratch5 (rR g).set)
          ∗ (bigSep Finset.univ fun g : G4 => any c cc0_scratch6 (aR g).set) ∗ (bigSep Finset.univ fun g : G4 => any c cc0_scratch7 (rR g).set)
          ∗ (bigSep Finset.univ fun g : G4 => any c cc0_scratch8 (gR g).set) ∗ bigSep Finset.univ fun g : G4 => any c cc0_scratch9 (gR g).set)
        ∗ (bigSep Finset.univ fun g : G4 => pts c cc0_stg2_0 (hR c g).set fullShare (FIN m c))
        ∗ bigSep Finset.univ fun g : G4 => pts c cc0_stg2_0 (hR (prt c) g).set fullShare (FIN m c)) := by
  rw [← bigSep_four (fun g => A4 m c g)]
  unfold A4
  simp only [bigSep_sep' (I := G4)]
  exact BIBase.Entails.refl

/-- The result's buffer from its pieces. -/
theorem out_join (c : Dev nD) :
    iprop((bigSep Finset.univ fun g : G4 => pts c cc0_stg2_0 (hR c g).set fullShare (FIN m c))
        ∗ bigSep Finset.univ fun g : G4 => pts c cc0_stg2_0 (hR (prt c) g).set fullShare (FIN m c))
      ⊢ pts c cc0_stg2_0 Finset.univ fullShare (FIN m c) :=
  (Entails.of_eq (bigSep_half c fun b g => pts c cc0_stg2_0 (halfR c b g).set fullShare (FIN m c)).symm).trans
    (Entails.of_eq (pts_split c cc0_stg2_0 Finset.univ fullShare (FIN m c) (fun x => (ownHalf c x, gOfO x)) (fun t : Bool × G4 => (halfR c t.1 t.2).set) (halfR_cl c)).symm)

/-- The buffers whole again, and the cells at zero. -/
theorem whole_out (c : Dev nD) :
    bodyOut m K c ⊢ iprop(own m K c [] ∗ zeros c ∗ z c .bar ∗ scr c
      ∗ pts c cc0_stg0_0 Finset.univ fullShare (XT m c) ∗ pts c cc0_stg1_0 Finset.univ fullShare (WT m c) ∗ pts c cc0_stg2_0 Finset.univ fullShare (FIN m c)) := by
  haveI : ∀ b : Ref sig .tc, Nonempty (Con F b) := fun b => con_nonempty m b c
  unfold bodyOut opsX zeros scr
  iintro ⟨⟨HO, ⟨Hs0, Hs1⟩, H0, H1⟩, ⟨Hx, Hw, H2, H3⟩, HA, ⟨Hr0, Hr1⟩, Hb⟩
  ihave HA := (groups_out m c) $$ HA
  icases HA with ⟨⟨Hz1, Hz2, Hz3, Hz4, Hz5, Hz6⟩, ⟨H4, H5, H6, H7, H8, H9⟩, Ho, Ho'⟩
  isplitl [HO]; · iexact HO
  isplitl [Hs0 Hs1 Hr0 Hr1 Hz1 Hz2 Hz3 Hz4 Hz5 Hz6]
  · isplitl [Hs0 Hs1 Hz1 Hz3 Hz5]
    · iapply (Entails.of_eq (bigSep_chan fun h => z (F := F) c (.snd h)).symm)
      isplitl [Hs0 Hs1]
      · isplitl [Hs0]; · iexact Hs0
        iexact Hs1
      isplitl [Hz1]; · iexact Hz1
      isplitl [Hz3]; · iexact Hz3
      iexact Hz5
    iapply (Entails.of_eq (bigSep_chan fun h => z (F := F) c (.rcv h)).symm)
    isplitl [Hr0 Hr1]
    · isplitl [Hr0]; · iexact Hr0
      iexact Hr1
    isplitl [Hz2]; · iexact Hz2
    isplitl [Hz4]; · iexact Hz4
    iexact Hz6
  isplitl [Hb]; · iexact Hb
  isplitl [H0 H1 H2 H3 H4 H5 H6 H7 H8 H9]
  · isplitl [H0]; · iexact H0
    isplitl [H1]; · iexact H1
    isplitl [H2]; · iapply (pts_any c cc0_scratch2 Finset.univ (XP m c)); iexact H2
    isplitl [H3]; · iapply (pts_any c cc0_scratch3 Finset.univ (WP m c)); iexact H3
    isplitl [H4]; · iapply (any_join (F := F) c cc0_scratch4 Finset.univ gOf3 (fun g => (gR g).set) gR_cl); iexact H4
    isplitl [H5]; · iapply (any_join (F := F) c cc0_scratch5 Finset.univ gOf4 (fun g => (rR g).set) rR_cl); iexact H5
    isplitl [H6]; · iapply (any_join (F := F) c cc0_scratch6 Finset.univ aOf3 (fun g => (aR g).set) aR_cl); iexact H6
    isplitl [H7]; · iapply (any_join (F := F) c cc0_scratch7 Finset.univ gOf4 (fun g => (rR g).set) rR_cl); iexact H7
    isplitl [H8]; · iapply (any_join (F := F) c cc0_scratch8 Finset.univ gOf3 (fun g => (gR g).set) gR_cl); iexact H8
    iapply (any_join (F := F) c cc0_scratch9 Finset.univ gOf3 (fun g => (gR g).set) gR_cl); iexact H9
  isplitl [Hx]; · iexact Hx
  isplitl [Hw]; · iexact Hw
  iapply (out_join m c)
  isplitl [Ho]; · iexact Ho
  iexact Ho'

end Cert.KernelIdeal.MM

end
-- ==== Proof.Launch.lean ====
/-
  The launch: what each device is dealt, the body's obligation, and the run of the whole program from
  any memory with its counters at zero.
-/
module

public import proofs.«01_k».proof.Proof.Memory

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline carries -/

/-- A device's positions and the tokens of the payments it makes. -/
def linear (c : Dev nD) : sProp 𝕄 :=
  iprop((bigSep Finset.univ fun k : Cell => atPos ER (cell c k) 0 (∅ : Finset (Fin 16)) 0)
    ∗ (bigSep Finset.univ fun i : Fin 16 => dutyTok ER (cell (sg c i) .bar) 0 i) ∗ bigSep Finset.univ fun h : Chan => sT c h)

/-- The same, and the cells' invariants. -/
def G' (c : Dev nD) : sProp 𝕄 := iprop(∃ K, recs m K ∗ linear c)

/-- What a device starts with beside its buffers. -/
def start (c : Dev nD) : sProp 𝕄 :=
  iprop(G' m c ∗ cred (tallyAt (cell c .bar) () 16) ∗ (bigSep Finset.univ fun h : Chan => cred (tallyAt (cell c (.rcv h)) () (amt h))) ∗ levAts L lv)

def Φ₀ (c : Dev nD) : sProp 𝕄 := iprop(start m c ∗ scr c)
def Φ₁ (c : Dev nD) : sProp 𝕄 := iprop(scr c ∗ zeros c ∗ z c .bar)

/-- The pipeline's one point: the windows' contents, and what it carries before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XT m c
    | ⟨1, _⟩ => WT m c
    | ⟨2, _⟩ => FIN m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_iff (c : Dev nD) (b : Ref sig .tc) (X : Con F b) : stg c b X ⊣⊢ pts c b Finset.univ fullShare X := by
  unfold pts
  constructor
  · iintro ⟨%f, %hf, H⟩
    subst hf
    iexact H
  · iintro H
    iexists X
    isplitr; · (ipureintro; rfl)
    iexact H

/-! ## The body's obligation -/

theorem bigSep_cell (Φ : Cell → sProp 𝕄) :
    bigSep Finset.univ Φ = iprop(Φ .bar ∗ (bigSep Finset.univ fun h : Chan => Φ (.snd h)) ∗ bigSep Finset.univ fun h : Chan => Φ (.rcv h)) := by
  refine (bigSep_univ_sum Φ).trans ?_
  rw [bigSep_univ_sum (fun b : Chan ⊕ Chan => Φ (.inr b)), show (bigSep Finset.univ fun a : Unit => Φ (.inl a)) = Φ .bar from bigSep_univ_eq_bigSepL [()] (by decide) (by decide) _]
  rfl

/-- A device's start, as the body takes it. -/
theorem start_gear (K : Dev nD × Cell → ℕ) (c : Dev nD) :
    iprop(linear (F := F) c ∗ cred (tallyAt (cell c .bar) () 16) ∗ bigSep Finset.univ fun h : Chan => cred (tallyAt (cell c (.rcv h)) () (amt h)))
      ⊢ iprop((bigSep Finset.univ fun i : Fin 16 => dutyTok ER (cell (sg c i) .bar) 0 i)
        ∗ (atPos ER (cell c .bar) 0 (∅ : Finset (Fin 16)) 0 ∗ cred (tallyAt (cell c .bar) () 16)) ∗ gear c) := by
  unfold linear gear sA rA
  rw [bigSep_cell]
  simp only [bigSep_sep']
  iintro ⟨⟨⟨Hb, Hs, Hr⟩, Hi, HT⟩, Hcb, Hcr⟩
  isplitl [Hi]; · iexact Hi
  isplitl [Hb Hcb]
  · isplitl [Hb]; · iexact Hb
    iexact Hcb
  isplitl [HT Hs]
  · isplitl [HT]; · iexact HT
    iexact Hs
  isplitl [Hr]; · iexact Hr
  iexact Hcr

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (XT m c) ∗ stg c cc0_stg1_0 (WT m c) ∗ stg c cc0_stg2_0 (FIN m c))

theorem before_x (c : Dev nD) (d) : (dats m ρ 0 c).before (0 : Fin 3) t0_0 d = XT m c := by
  unfold Dat.before; rw [if_pos (fetch0_0 t0_0)]; rfl
theorem before_w (c : Dev nD) (d) : (dats m ρ 0 c).before (1 : Fin 3) t0_0 d = WT m c := by
  unfold Dat.before; rw [if_pos (fetch0_1 t0_0)]; rfl

theorem enter (c : Dev nD) : bodyPre m ρ c ⊢ iprop(∃ K, own m K c pAll ∗ (bigSep Finset.univ fun i : Fin 16 => dutyTok ER (cell (sg c i) .bar) 0 i)
        ∗ (atPos ER (cell c .bar) 0 (∅ : Finset (Fin 16)) 0 ∗ cred (tallyAt (cell c .bar) () 16)) ∗ gear c ∗ scr c
        ∗ pts c cc0_stg0_0 Finset.univ fullShare (XT m c) ∗ pts c cc0_stg1_0 Finset.univ fullShare (WT m c) ∗ any c cc0_stg2_0 Finset.univ) := by
  unfold bodyPre Φ₀ start G'
  iintro ⟨⟨⟨⟨%K, #HR, Hl⟩, Hcb, Hcr, #Hlev⟩, Hscr⟩, Ho, ⟨%d0, Hx⟩, ⟨%d1, Hw⟩, ⟨%d2, Hf⟩⟩
  rw [before_x, before_w]
  unfold Dat.owesAt Pipeline.owesWithin
  icases Ho with ⟨%W, %hW, HO⟩
  rw [show (dats m ρ 0 c).owed t0_0.castSucc = oweL c pAll from rfl]
  ihave Hx := (stg_iff (F := F) c cc0_stg0_0 (XT m c)).1 $$ Hx
  ihave Hw := (stg_iff (F := F) c cc0_stg1_0 (WT m c)).1 $$ Hw
  ihave Hf := (stg_iff (F := F) c cc0_stg2_0 ((dats m ρ 0 c).before (2 : Fin 3) t0_0 d2)).1 $$ Hf
  ihave Hf := (pts_any (F := F) c cc0_stg2_0 Finset.univ ((dats m ρ 0 c).before (2 : Fin 3) t0_0 d2)) $$ Hf
  ihave H := (start_gear (F := F) K c) $$ [Hl Hcb Hcr]
  · isplitl [Hl]; · iexact Hl
    isplitl [Hcb]; · iexact Hcb
    iexact Hcr
  icases H with ⟨Hi, Hb, Hg⟩
  iexists K
  isplitl [HO]
  · unfold own ctx
    isplitr
    · isplitr; · iexact HR
      iexact Hlev
    iexists W; iexact HO
  isplitl [Hi]; · iexact Hi
  isplitl [Hb]; · iexact Hb
  isplitl [Hg]; · iexact Hg
  isplitl [Hscr]; · iexact Hscr
  isplitl [Hx]; · iexact Hx
  isplitl [Hw]; · iexact Hw
  iexact Hf

theorem leave (K : Dev nD × Cell → ℕ) (c : Dev nD) : bodyOut m K c ⊢ bodyPost m ρ c := by
  refine (whole_out m K c).trans ?_
  unfold bodyPost Φ₁ own Dat.owesAt Pipeline.owesWithin
  rw [show (dats m ρ 0 c).owed t0_0.succ = oweL c [] from rfl]
  iintro ⟨⟨-, ⟨%W, HO⟩⟩, Hz, Hb, Hs, Hx, Hw, Hf⟩
  isplitl [Hz Hb Hs]
  · isplitl [Hs]; · iexact Hs
    isplitl [Hz]; · iexact Hz
    iexact Hb
  isplitl [HO]
  · iexists W
    isplitr; · (ipureintro; exact fun _ _ => Or.inl trivial)
    iexact HO
  isplitl [Hx]; · iapply (stg_iff (F := F) c cc0_stg0_0 (XT m c)).2; iexact Hx
  isplitl [Hw]; · iapply (stg_iff (F := F) c cc0_stg1_0 (WT m c)).2; iexact Hw
  iapply (stg_iff (F := F) c cc0_stg2_0 (FIN m c)).2; iexact Hf

theorem id_wp (c : Dev nD) (X : sProp 𝕄) (k : Dev nD → PR F) (Q : PUnit → sProp 𝕄) (h : X ⊢ wpp c (k c) Q) : X ⊢ wpp c (.op .deviceId k) Q := by
  unfold wpp at h ⊢
  rw [wp_deviceId]
  exact h

/-- The body, from what the pipeline hands it to what the pipeline takes back. -/
theorem body_wp (c : Dev nD) : bodyPre m ρ c ⊢ wpp c (bodyAt0 (F := F) t0_0) fun _ => bodyPost m ρ c := by
  rw [body_eq]
  refine id_wp c _ (fun d => prog (addrP d)) _ ?_
  rw [addr_eq]
  iintro H
  ihave H := (enter m ρ c) $$ H
  icases H with ⟨%K, H⟩
  iapply (wpp_post (whole_wp m K c) (leave m ρ K c)) $$ H

theorem row_eq : defs₀ (F := F) Proc.tc 0 (t0_0, cfg0.slots t0_0) = bodyAt0 (F := F) t0_0 := by
  sl_kernel_rfl

theorem body_obligation (c : Dev nD) : BodyObligation (dats (F := F) m ρ 0 c) (defs₀ (F := F)) 𝒱₀ () Set.univ := fun t => by
  rw [fin_N0 t]
  rw [bigSep_W, bigSep_W]
  simp only [owns_whole]
  rw [row_eq]
  have h := body_wp m ρ c
  generalize bodyAt0 (F := F) t0_0 = p at h ⊢
  exact h

end Cert.KernelIdeal.MM

end
-- ==== Proof.Run.lean ====
/-
  The run: the cells and tokens minted at launch and dealt to the devices that use them, the credit a
  device's cells are owed, and the theorem that every fair execution of the program ends, with the
  windows' arrays at the computed contents and every counter at zero.
-/
module

public import Idealize.ShloMosaic.Lib.Pipeline.CollectiveSegs
public import proofs.«01_k».proof.Proof.Launch

@[expose] public section

set_option maxRecDepth 16384

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens minted -/

def ringCells : Finset (GSem nD τ sig) := Finset.univ.map ⟨fun x : Dev nD × Cell => cell x.1 x.2, cell_injective⟩

/-- A duty of a device's own cells: a signal received, a transfer sent, or a transfer received. -/
abbrev Tok := Fin 16 ⊕ Chan ⊕ Chan
def tokOf (x : Dev nD × Tok) : GSem nD τ sig × ℕ × Fin 16 :=
  match x.2 with
  | .inl i => (cell x.1 .bar, 0, i)
  | .inr (.inl h) => (cell x.1 (.snd h), 0, 0)
  | .inr (.inr h) => (cell x.1 (.rcv h), 0, 0)

theorem tokOf_injective : Function.Injective tokOf := by
  have key : ∀ {c c' : Dev nD} {k k' : Cell}, cell c k = cell c' k' → c = c' ∧ k = k' := fun h => by
    have := cell_injective (a₁ := (_, _)) (a₂ := (_, _)) h
    exact ⟨congrArg Prod.fst this, congrArg Prod.snd this⟩
  rintro ⟨c, i | h | h⟩ ⟨c', i' | h' | h'⟩ e
  all_goals
    have e1 := key (congrArg Prod.fst e)
    have e2 := congrArg (fun x : GSem nD τ sig × ℕ × Fin 16 => x.2.2) e
    obtain ⟨rfl, e1⟩ := e1
  · exact congrArg (fun i => (c, Sum.inl i)) e2
  · cases e1
  · cases e1
  · cases e1
  · rw [Sum.inl.inj (Sum.inr.inj e1)]
  · cases e1
  · cases e1
  · cases e1
  · rw [Sum.inr.inj (Sum.inr.inj e1)]

def ringToks : Finset (GSem nD τ sig × ℕ × Fin 16) := Finset.univ.map ⟨tokOf, tokOf_injective⟩

/-- The resource at launch. -/
def u₀ : UU := (initOf (Pipeline.cells cfgs cellOf_inj) (Pipeline.launchToks cfgs cellOf_inj), initOf ringCells ringToks)

/-- The tokens of a device's own cells. -/
def toks (c : Dev nD) : sProp 𝕄 :=
  iprop((bigSep Finset.univ fun i : Fin 16 => dutyTok ER (cell c .bar) 0 i) ∗ (bigSep Finset.univ fun h : Chan => dutyTok ER (cell c (.snd h)) 0 (0 : Fin 16))
    ∗ bigSep Finset.univ fun h : Chan => dutyTok ER (cell c (.rcv h)) 0 (0 : Fin 16))

/-- What the launch deals a device. -/
def G (c : Dev nD) : sProp 𝕄 :=
  iprop((bigSep Finset.univ fun k : Cell => roundState ER (Rd m) (cell c k) 0)
    ∗ (bigSep Finset.univ fun k : Cell => iprop(atPos ER (cell c k) 0 (∅ : Finset (Fin 16)) 0 ∗ reached ER (cell c k) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    refine (bigSep_univ_sum _).trans ?_
    rw [bigSep_univ_sum]
    rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The semaphores -/

/-- The kernel's own semaphores: every transfer's. -/
abbrev osem : Chan ⊕ Chan → SemLoc sig := fun k => csem (.inr k)

theorem osem_lookup (k : Chan ⊕ Chan) : lookup (osem k) = some (.inr k) := lookup_csem _

theorem stage_lookup : ∀ (w : Fin 3) (s : Fin (spec0 w).nbuf), lookup (.dma ((spec0 w).sem s)) = none := by decide +kernel

theorem ownSemFacts : Pipeline.OwnSemFacts cfg0.spec osem where
  isScoped := by decide +kernel
  inj := fun a b h => Sum.inr_injective (csem_injective h)
  disj := fun k w s h => by
    have e := osem_lookup k
    rw [h] at e
    exact absurd ((stage_lookup w s).symm.trans e) (by intro h; cases h)

theorem ownSems_eq (c : Dev nD) : (Pipeline.ownSems0 (Ix := Unit) (Name := ℕ) (U := UU) (Lvl := ℕ) (Val := Elt F) (τ := τ) osem c : sProp 𝕄) = zeros c := by
  unfold Pipeline.ownSems0 zeros z
  exact bigSep_univ_sum _
theorem unscopedSems_eq (c : Dev nD) : (unscopedSems0 c : sProp 𝕄) = z c .bar := by
  unfold unscopedSems0 z; rw [bigSep_eq_bigSepL_of_eq [SemLoc.reg barS] (by decide +kernel) (by decide)]; rfl

theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cell c k) 0 : sProp 𝕄) := by
  rw [ownSems_eq, unscopedSems_eq, bigSep_cell]
  unfold zeros z
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (cell c k)))
          ∗ (bigSep Finset.univ fun k : Cell => iprop(atPos ER (cell c k) 0 (∅ : Finset (Fin 16)) 0 ∗ reached ER (cell c k) 0)) ∗ toks c) := by
  unfold G
  iintro ⟨Hos, Hus, Hst, Hat, Htok⟩
  ihave Hv := (sems_cells (F := F) c) $$ [Hos Hus]
  · isplitl [Hos]; · iexact Hos
    iexact Hus
  imod (show iprop((bigSep Finset.univ fun k : Cell => semVal (cell c k) 0) ∗ bigSep Finset.univ fun k : Cell => roundState ER (Rd m) (cell c k) 0)
      ⊢ (|={Set.univ}=> bigSep Finset.univ fun k : Cell => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens dealt to the payers -/

def sgE (i : Fin 16) : Dev nD ≃ Dev nD := ⟨fun c => sg c i, fun c => gs c i, fun c => gs_sg c i, fun c => sg_gs c i⟩
def chE (h : Chan) : Dev nD ≃ Dev nD := ⟨fun c => chd c h, fun c => chs c h, fun c => chs_chd c h, fun c => chd_chs c h⟩

theorem toks_around : (bigSep Finset.univ fun c : Dev nD => (toks c : sProp 𝕄))
    ⊢ bigSep Finset.univ fun c : Dev nD => iprop((bigSep Finset.univ fun i : Fin 16 => dutyTok ER (cell (sg c i) .bar) 0 i) ∗ bigSep Finset.univ fun h : Chan => sT c h) := by
  have h1 : (bigSep Finset.univ fun c : Dev nD => bigSep Finset.univ fun i : Fin 16 => (dutyTok ER (cell c .bar) 0 i : sProp 𝕄))
      = bigSep Finset.univ fun c : Dev nD => bigSep Finset.univ fun i : Fin 16 => dutyTok ER (cell (sg c i) .bar) 0 i := by
    rw [BI.bigSep_univ_comm, BI.bigSep_univ_comm (fun (c : Dev nD) (i : Fin 16) => (dutyTok ER (cell (sg c i) .bar) 0 i : sProp 𝕄))]
    exact bigSep_congr fun i _ => bigSep_univ_equiv (sgE i) _
  have h2 : (bigSep Finset.univ fun c : Dev nD => bigSep Finset.univ fun h : Chan => (dutyTok ER (cell c (.rcv h)) 0 (0 : Fin 16) : sProp 𝕄))
      = bigSep Finset.univ fun c : Dev nD => bigSep Finset.univ fun h : Chan => dutyTok ER (cell (chd c h) (.rcv h)) 0 (0 : Fin 16) := by
    rw [BI.bigSep_univ_comm, BI.bigSep_univ_comm (fun (c : Dev nD) (h : Chan) => (dutyTok ER (cell (chd c h) (.rcv h)) 0 (0 : Fin 16) : sProp 𝕄))]
    exact bigSep_congr fun h _ => bigSep_univ_equiv (chE h) _
  unfold toks sT
  simp only [bigSep_sep']
  rw [h1, h2]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd m) κ (cell c k)))
          ∗ (bigSep Finset.univ fun k : Cell => iprop(atPos ER (cell c k) 0 (∅ : Finset (Fin 16)) 0 ∗ reached ER (cell c k) 0)) ∗ toks c) : sProp 𝕄)
      ⊢ bigSep Finset.univ (G' m) := by
  rw [bigSep_sep', bigSep_sep', ← bigSep_univ_prod (fun x : Dev nD × Cell => iprop(∃ κ : ℕ, cellInv ER (Rd m) κ (cell x.1 x.2))),
    bigSep_congr (s := Finset.univ) (fun (c : Dev nD) _ => bigSep_sep' Finset.univ (fun k : Cell => (atPos ER (cell c k) 0 (∅ : Finset (Fin 16)) 0 : sProp 𝕄)) (fun k => reached ER (cell c k) 0)),
    bigSep_sep', ← bigSep_univ_prod (fun x : Dev nD × Cell => (reached ER (cell x.1 x.2) 0 : sProp 𝕄))]
  iintro ⟨HI, ⟨Hat, #HR⟩, Htok⟩
  ihave HK := (BI.bigSep_exists_pi Finset.univ (fun (x : Dev nD × Cell) (κ : ℕ) => (cellInv ER (Rd m) κ (cell x.1 x.2) : sProp 𝕄))) $$ HI
  icases HK with ⟨%K, #HI⟩
  ihave Htk := (toks_around (F := F)) $$ Htok
  iapply (bigSep_with_persistent (R := recs m K) (Φ := fun c => linear c) (Ψ := G' m) fun c _ => by
    unfold G'
    iintro ⟨#HR, Hl⟩
    iexists K
    isplitr; · iexact HR
    iexact Hl)
  isplitr
  · unfold recs
    iapply (Entails.of_eq (bigSep_sep' Finset.univ (fun x : Dev nD × Cell => (cellInv ER (Rd m) (K x) (cell x.1 x.2) : sProp 𝕄)) fun x => reached ER (cell x.1 x.2) 0).symm)
    isplitr; · iexact HI
    iexact HR
  · unfold linear
    iapply (Entails.of_eq (bigSep_sep' Finset.univ (fun c : Dev nD => bigSep Finset.univ fun k : Cell => (atPos ER (cell c k) 0 (∅ : Finset (Fin 16)) 0 : sProp 𝕄))
      fun c => iprop((bigSep Finset.univ fun i : Fin 16 => dutyTok ER (cell (sg c i) .bar) 0 i) ∗ bigSep Finset.univ fun h : Chan => sT c h)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes a cell, one payment at a time. -/
theorem oweL_sum (d : Dev nD) (g : GSem nD τ sig) (l : List Pay) : oweL d l g () = (l.map fun o => if g = tcell d o then pamt o else 0).sum := by
  induction l with
  | nil => rfl
  | cons o l ih =>
    unfold oweL
    rw [Pi.add_apply, Finsupp.add_apply, ih, tallyAt_apply, List.map_cons, List.sum_cons, Nat.add_comm]
    congr 1
    by_cases h : g = tcell d o
    · rw [if_pos ⟨h, rfl⟩, if_pos h]
    · rw [if_neg (fun h' => h h'.1), if_neg h]

theorem owed_sum (d : Dev nD) (g : GSem nD τ sig) : O₀ d g () = ∑ o : Pay, if g = tcell d o then pamt o else 0 := by
  unfold O₀
  rw [oweL_sum, ← List.sum_toFinset _ pAll_nodup]
  exact Finset.sum_congr (Finset.ext fun o => by simp only [List.mem_toFinset, Finset.mem_univ, iff_true]; exact pAll_mem o) fun _ _ => rfl

theorem cell_eq {c c' : Dev nD} {k k' : Cell} (h : cell c k = cell c' k') : c = c' ∧ k = k' :=
  have := cell_injective (a₁ := (_, _)) (a₂ := (_, _)) h
  ⟨congrArg Prod.fst this, congrArg Prod.snd this⟩

theorem owed_bar (c : Dev nD) : ∑ d : Dev nD, O₀ d (cell c .bar) () = 16 := by
  rw [Finset.sum_congr rfl fun d _ => owed_sum d (cell c .bar), Finset.sum_comm, Fintype.sum_sum_type]
  have h1 : ∀ i : Fin 16, (∑ d : Dev nD, if cell c .bar = tcell d (.sig i) then pamt (.sig i) else 0) = 1 := fun i => by
    rw [Finset.sum_eq_single (gs c i)]
    · rw [if_pos (by show _ = cell (sg (gs c i) i) .bar; rw [sg_gs])]; rfl
    · intro d _ hd
      refine if_neg fun h => hd ?_
      rw [(cell_eq (k' := .bar) h).1, gs_sg]
    · intro h; exact absurd (Finset.mem_univ _) h
  have h2 : ∀ h : Chan, (∑ d : Dev nD, if cell c .bar = tcell d (.ch h) then pamt (.ch h) else 0) = 0 := fun h =>
    Finset.sum_eq_zero fun d _ => if_neg fun e => by cases (cell_eq (k' := .rcv h) e).2
  rw [Finset.sum_congr rfl fun i _ => h1 i, Finset.sum_congr rfl fun h _ => h2 h]
  rfl

theorem owed_rcv (c : Dev nD) (h : Chan) : ∑ d : Dev nD, O₀ d (cell c (.rcv h)) () = amt h := by
  rw [Finset.sum_congr rfl fun d _ => owed_sum d (cell c (.rcv h)), Finset.sum_comm, Finset.sum_eq_single (Pay.ch h)]
  · rw [Finset.sum_eq_single (chs c h)]
    · rw [if_pos (by show _ = cell (chd (chs c h) h) (.rcv h); rw [chd_chs])]; rfl
    · intro d _ hd
      refine if_neg fun e => hd ?_
      rw [(cell_eq (k' := .rcv h) e).1, chs_chd]
    · intro h; exact absurd (Finset.mem_univ _) h
  · intro o _ ho
    refine Finset.sum_eq_zero fun d _ => if_neg fun e => ho ?_
    rcases o with i | h'
    · cases (cell_eq (k' := .bar) e).2
    · rw [Sum.inr.inj (Sum.inr.inj (cell_eq (k' := .rcv h') e).2)]
  · intro h; exact absurd (Finset.mem_univ _) h

theorem launch_cell (c : Dev nD) (k : Cell) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem bar_rcv (h : Chan) : csem (.rcv h) ≠ SemLoc.reg barS := by intro e; cases e

theorem creds (c : Dev nD) :
    (Pipeline.launchCred O₀ c : sProp 𝕄) ⊢ iprop(cred (tallyAt (cell c .bar) () 16) ∗ bigSep Finset.univ fun h : Chan => cred (tallyAt (cell c (.rcv h)) () (amt h))) := by
  unfold Pipeline.launchCred
  rw [bigSep_univ_at _ (SemLoc.reg barS), show tallyOn ((c.tc : Thread nD τ), SemLoc.reg barS) (launchCredit (Pipeline.owing O₀) 0 ((c.tc : Thread nD τ), SemLoc.reg barS))
    = (tallyAt (cell c .bar) () 16 : CellTallies nD τ sig Unit) from launch_cell c .bar 16 (owed_bar c)]
  refine sep_mono_right ?_
  refine BIBase.Entails.trans (Q := bigSep ((Finset.univ : Finset Chan).map ⟨fun h => csem (.rcv h), fun a b e => Sum.inr_injective (Sum.inr_injective (csem_injective e))⟩)
    fun sm : SemLoc sig => cred (tallyOn ((c.tc : Thread nD τ), sm) (launchCredit (Pipeline.owing O₀) 0 ((c.tc : Thread nD τ), sm)))) ?_ ?_
  · refine bigSep_subset fun sm hs => ?_
    obtain ⟨h, _, rfl⟩ := Finset.mem_map.mp hs
    exact Finset.mem_erase.mpr ⟨bar_rcv h, Finset.mem_univ _⟩
  · rw [bigSep_map]
    exact Entails.of_eq (bigSep_congr fun h _ => congrArg cred (launch_cell c (.rcv h) (amt h) (owed_rcv c h)))

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem scr_eq (c : Dev nD) : (Pipeline.scopedRest (Ix := Unit) (Name := ℕ) (U := UU) (Lvl := ℕ) (Val := Elt F) cfg0.spec c : sProp 𝕄) = scr c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems_eq, unscopedSems_eq]
  unfold Φ₁
  iintro ⟨Hr, Hz, HzB⟩
  isplitl [HzB]; · iexact HzB
  isplitl [Hz]; · iexact Hz
  iexact Hr

theorem pord_pos : ∀ o ∈ pAll, 0 < pord o := by decide +kernel

theorem lv_stage (c : Dev nD) (w : Fin 3) (s : Fin (spec0 w).nbuf) : lv ((c : Thread nD τ), .dma ((spec0 w).sem s)) () ≤ 0 := by
  unfold lv
  rw [stage_lookup]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 pAll (lv_stage c w s) pord_pos
    · exact mayWait c _ 0 [] (lv_stage c w s) (fun o ho => absurd ho List.not_mem_nil)

/-! ## The run -/

/-- The contents of a window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem main_eq (c : Dev nD) : main (F := F) c = .op (.customCall (Pipeline.entry 0) ()) fun _ => .ret ⟨⟩ := rfl
theorem owed_first (c : Dev nD) : (dats m ρ 0 c).owed 0 = O₀ c := rfl
theorem owed_last (c : Dev nD) : (dats m ρ 0 c).owed (Fin.last cfg0.N) = 0 := rfl
theorem arr_first (c : Dev nD) (w : Fin cfg0.W) : (dats m ρ 0 c).A w = (s₀ m ρ).mem ((cfg0.win w).arr.view.loc (c : Thread nD τ)) := rfl

/-- Every fair execution from a memory with zero counters ends, with each window's array at its final contents on every
    device and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_eq)
    (hbody := fun c => (body_obligation m ρ c).loose) (hne := block_pos0) (harr := arr_whole0) (hstage := stage_whole0) (hshare := share_eq m ρ)
    (hdistinct := winFacts0.arr_inj)
    (O₀ := O₀) (howed₀ := owed_first m ρ) (howedN := owed_last m ρ)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := arr_first m ρ) (hpf := fun _ k => k.elim0)
    (X := start m) (Y := fun c => unscopedSems0 c) (Z := fun _ => iprop(emp)) (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first factor's array is unchanged. -/
theorem finalA_x (c : Dev nD) : finalA m ρ c (0 : Fin 3) = (s₀ m ρ).mem (win0_0.arr.view.loc (c : Thread nD τ)) :=
  (dats (F := F) m ρ 0 c).arrAt_in (0 : Fin 3) rfl _
/-- The second factor's array is unchanged. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.MM

end
-- ==== Proof.Frames.lean ====
/-
  The three frames: the kernel as printed, the kernel read over the extended reals, and the reference
  each run to the end, leave their arguments as they were and every counter at zero.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Run

@[expose] public section

set_option maxRecDepth 16384

noncomputable section

namespace Cert.Proof

open Idealize.ShloMosaic Idealize.SL.Sem
open Cert.KernelIdeal.MM (run_main finalA_x finalA_w)

/-- The kernel read over the extended reals runs to the end, keeps its arguments and leaves every counter at zero. -/
theorem frame_kernel_ideal : Cert.quiescent_KernelIdeal := fun m ρ _ =>
  (θ_run Cert.KernelIdeal.defs _ _).mono
    (fun _ h => ⟨fun c => ⟨(h.1 c 0).trans (finalA_x m ρ c), (h.1 c 1).trans (finalA_w m ρ c)⟩, h.2⟩) (run_main (F := Ideal) m ρ)

/-- The two printings of the kernel have the same main function. -/
theorem main_same : Cert.Kernel.main (F := Bits) = Cert.KernelIdeal.main (F := Bits) := rfl
/-- The two printings of the kernel have the same functions. -/
theorem defs_same : Cert.Kernel.defs (F := Bits) = Cert.KernelIdeal.defs (F := Bits) := by sl_kernel_rfl

/-- The kernel as printed, over machine floats, runs to the end, keeps its arguments and leaves every counter at zero. -/
theorem frame_kernel : Cert.quiescent_Kernel := fun m ρ _ => by
  rw [main_same, defs_same]
  exact (θ_run Cert.KernelIdeal.defs _ _).mono
    (fun _ h => ⟨fun c => ⟨(h.1 c 0).trans (finalA_x m ρ c), (h.1 c 1).trans (finalA_w m ρ c)⟩, h.2⟩) (run_main (F := Bits) m ρ)

/-- The reference runs to the end and keeps its arguments; it declares no counter. -/
theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Sums.lean ====
/-
  What the body's computed values are over the extended reals, element by element: a cast between float
  formats is the identity, a product of blocks is a sum over the contracted axis, and the reduction adds
  the fifteen received chunks.
-/
module

public import proofs.«01_k».proof.Proof.Contents
public import Idealize.ShloMosaic.Lib.Pointwise

@[expose] public section

set_option maxRecDepth 16384

noncomputable section

namespace Cert.KernelIdeal.MM

open Idealize.ShloMosaic
open Idealize.SL Idealize.SL.Sem Cert.KernelIdeal.Gen

theorem pay1_at (v : Vec Ideal S512x32 .f32) (a : Fin 512) (k : Fin 32) : k0_pay1 (F := Ideal) v (ix2 a k) = v (ix2 a k) := by
  pointwise [k0_pay1]

theorem pay2_at (v : Vec Ideal S32x1024 .f32) (k : Fin 32) (n : Fin 1024) : k0_pay2 (F := Ideal) v (ix2 k n) = v (ix2 k n) := by
  pointwise [k0_pay2]

/-- Two block products added. -/
theorem pay3_at (x : Vec Ideal S512x32 .f32) (w : Vec Ideal S32x256 .f32) (x' : Vec Ideal S512x32 .bf16) (w' : Vec Ideal S32x256 .bf16)
    (a : Fin 512) (b : Fin 256) :
    k0_pay3 (F := Ideal) x w x' w' (ix2 a b)
      = (∑ k : Fin 32, (x (ix2 a k) * w (ix2 k b) : EReal)) + ∑ k : Fin 32, (x' (ix2 a k) * w' (ix2 k b) : EReal) := by
  pointwise [k0_pay3]

theorem pay4_at (x : Vec Ideal S512x32 .f32) (w : Vec Ideal S32x256 .f32) (x' : Vec Ideal S512x32 .bf16) (w' : Vec Ideal S32x256 .bf16)
    (a : Fin 512) (b : Fin 256) :
    k0_pay4 (F := Ideal) x w x' w' (ix3 0 a b) = k0_pay3 (F := Ideal) x w x' w' (ix2 a b) := by
  pointwise [k0_pay4]

/-- A chunk and the fifteen received ones added. -/
theorem pay7_at (o : Vec Ideal S32x256 .f32) (r : Vec Ideal S1x15x32x256 .bf16) (a : Fin 32) (b : Fin 256) :
    k0_pay7 (F := Ideal) o r (ix2 a b) = (o (ix2 a b) : EReal) + ∑ j : Fin 15, (r (ix4 0 j a b) : EReal) := by
  pointwise [k0_pay7]

theorem pay8_at (o : Vec Ideal S32x256 .f32) (r : Vec Ideal S1x15x32x256 .bf16) (a : Fin 32) (b : Fin 256) :
    k0_pay8 (F := Ideal) o r (ix3 0 a b) = k0_pay7 (F := Ideal) o r (ix2 a b) := by
  pointwise [k0_pay8]

theorem pay14_at (v : Vec Ideal S1x1x32x256 .bf16) (a : Fin 32) (b : Fin 256) : k0_pay14 (F := Ideal) v (ix2 a b) = v (ix4 0 0 a b) := by
  pointwise [k0_pay14]

theorem pay29_at (v : Vec Ideal S512x256 .f32) (a : Fin 512) (b : Fin 256) :
    k0_pay30 (F := Ideal) (k0_pay29 (F := Ideal) v) (ix3 0 a b) = v (ix2 a b) := by
  pointwise [k0_pay30, k0_pay29]

theorem pay86_at (v : Vec Ideal S1x512x256 .bf16) (a : Fin 512) (b : Fin 256) : k0_pay86 (F := Ideal) v (ix2 a b) = v (ix3 0 a b) := by
  pointwise [k0_pay86]

end Cert.KernelIdeal.MM

end
-- ==== Proof.Reads.lean ====
/-
  Where the body's rectangles lie: a read through one, or a write through one, at an element named by its
  coordinates.
-/
module

public import proofs.«01_k».proof.Proof.Sums

@[expose] public section

set_option maxRecDepth 16384

noncomputable section

namespace Cert.KernelIdeal.MM

open Idealize.ShloMosaic
open Idealize.SL Idealize.SL.Sem Cert.KernelIdeal.Gen

variable {Val : EltTy → Type}

/-- A read of a whole buffer through a rectangle, at the element the rectangle's offset and the index add up to. -/
theorem read_rect (b : Ref sig .tc) {off size : Fin b.ty.shape.rank → Nat} (inb : ∀ a, off a + size a ≤ b.ty.shape.size a)
    (X : b.ty.Contents Val) (x : (Rect.unit off size inb).shape.Idx) (i : b.ty.shape.Idx) (h : ∀ a, (i a).val = off a + (x a).val) :
    (Memref.whole b).view.readAt Val (Rect.unit off size inb).toLoadRect X x = X i := by
  show X _ = X i
  congr 1
  funext a
  refine Fin.ext ?_
  rw [h a]
  show off a + 1 * (x a).val = _
  rw [Nat.one_mul]

/-- A write through a rectangle of a whole buffer, at such an element. -/
theorem write_rect (b : Ref sig .tc) {off size : Fin b.ty.shape.rank → Nat} (inb : ∀ a, off a + size a ≤ b.ty.shape.size a)
    (f : b.ty.Contents Val) (w : (Rect.unit off size inb).shape.Idx → Val b.ty.elt) (x : (Rect.unit off size inb).shape.Idx)
    (i : b.ty.shape.Idx) (h : ∀ a, (i a).val = off a + (x a).val) :
    ((Memref.whole b).access (Rect.unit off size inb)).write Val f w Finset.univ i = w x := by
  have e : i = ((Memref.whole b).access (Rect.unit off size inb)).emb x := by
    funext a
    refine Fin.ext ?_
    rw [h a]
    show _ = off a + 1 * (x a).val
    rw [Nat.one_mul]
  rw [e]
  exact View.write_emb_of_mem (v := (Memref.whole b).access (Rect.unit off size inb)) f w (Finset.mem_univ x)

/-! ## The elements of the transfers' views -/

theorem drop3_512 (a : Fin 512) (b : Fin 256) :
    Shape.reshapeEquiv (s := S1x512x256) (s' := S512x256) squeezes_S1x512x256_S512x256.numel_eq (ix2 a b) = ix3 0 a b := by pointwise
theorem drop3_32 (a : Fin 32) (b : Fin 256) :
    Shape.reshapeEquiv (s := S1x32x256) (s' := S32x256) squeezes_S1x32x256_S32x256.numel_eq (ix2 a b) = ix3 0 a b := by pointwise
theorem drop4_32 (a : Fin 32) (b : Fin 256) :
    Shape.reshapeEquiv (s := S1x1x32x256) (s' := S32x256) squeezes_S1x1x32x256_S32x256.numel_eq (ix2 a b) = ix4 0 0 a b := by pointwise

theorem emb_gR (g : G4) (a : Fin 512) (b : Fin 256) : (gR g).emb (ix3 0 a b) = ix3 g a b := by
  funext k
  fin_cases k <;> refine Fin.ext ?_
  · show g.val + 1 * 0 = g.val; omega
  · show 0 + 1 * a.val = a.val; omega
  · show 0 + 1 * b.val = b.val; omega
theorem emb_aR (g : G4) (a : Fin 32) (b : Fin 256) : (aR g).emb (ix3 0 a b) = ix3 g a b := by
  funext k
  fin_cases k <;> refine Fin.ext ?_
  · show g.val + 1 * 0 = g.val; omega
  · show 0 + 1 * a.val = a.val; omega
  · show 0 + 1 * b.val = b.val; omega
theorem emb_sR (g : G4) (j : J15) (a : Fin 32) (b : Fin 256) : (sR g j).emb (ix4 0 0 a b) = ix4 g j a b := by
  funext k
  fin_cases k <;> refine Fin.ext ?_
  · show g.val + 1 * 0 = g.val; omega
  · show j.val + 1 * 0 = j.val; omega
  · show 0 + 1 * a.val = a.val; omega
  · show 0 + 1 * b.val = b.val; omega

theorem emb_xb (g : G4) (a : Fin 512) (b : Fin 256) : (gM xbM g).view.emb (ix2 a b) = ix3 g a b := by
  rw [← emb_gR, ← drop3_512]; rfl
theorem emb_xr (g : G4) (a : Fin 512) (b : Fin 256) : (gM xrM g).view.emb (ix2 a b) = ix3 g a b := by
  rw [← emb_gR, ← drop3_512]; rfl
theorem emb_ab (g : G4) (a : Fin 32) (b : Fin 256) : (aM g).view.emb (ix2 a b) = ix3 g a b := by
  rw [← emb_aR, ← drop3_32]; rfl
theorem emb_rs (g : G4) (j : J15) (a : Fin 32) (b : Fin 256) : (sM rsM g j).view.emb (ix2 a b) = ix4 g j a b := by
  rw [← emb_sR, ← drop4_32]; rfl
theorem emb_ag (g : G4) (j : J15) (a : Fin 32) (b : Fin 256) : (sM agM g j).view.emb (ix2 a b) = ix4 g j a b := by
  rw [← emb_sR, ← drop4_32]; rfl
theorem emb_cb (g : G4) (d : Dev nD) (a : Fin 32) (b : Fin 256) :
    (kM g d).view.emb (ix2 a b) = ix3 g ⟨crow d + a.val, by have := crow_le d; omega⟩ b := by
  have e : (Rect.unit (s := S4x512x256) ![g.val, crow d, 0] S1x32x256.size (words_cb d g).choose).emb (ix3 0 a b)
      = ix3 g ⟨crow d + a.val, by have := crow_le d; omega⟩ b := by
    funext k
    fin_cases k <;> refine Fin.ext ?_
    · show g.val + 1 * 0 = g.val; omega
    · show crow d + 1 * a.val = crow d + a.val; omega
    · show 0 + 1 * b.val = b.val; omega
  rw [← e, ← drop3_32]; rfl

end Cert.KernelIdeal.MM

end
-- ==== Proof.Value.lean ====
/-
  What every device's result is, over the extended reals: the sum over all devices of the products of the
  columns and rows each of them staged.
-/
module

public import proofs.«01_k».proof.Proof.Reads

@[expose] public section

set_option maxRecDepth 16384

noncomputable section

namespace Cert.KernelIdeal.MM

open Idealize.ShloMosaic Idealize.ShloMosaic.TcCoe
open Idealize.SL Idealize.SL.Sem Cert.KernelIdeal.Gen

variable (m : (ℓ : Loc nD τ sig) → Buf (Elt Ideal) ℓ)

/-! ## The sum over the devices -/

/-- What device `d` staged of the first factor, at a row and a column. -/
def xt (d : Dev nD) (r : Fin 1024) (k : Fin 32) : EReal := XT m d (ix2 r k)
/-- What device `d` staged of the second factor, at a row and a column. -/
def wt (d : Dev nD) (k : Fin 32) (n : Fin 1024) : EReal := WT m d (ix2 k n)
/-- The product of what device `d` staged, at a row and a column. -/
def lp (d : Dev nD) (r n : Fin 1024) : EReal := ∑ k : Fin 32, xt m d r k * wt m d k n
/-- The same for a device and its partner together. -/
def pp (d : Dev nD) (r n : Fin 1024) : EReal := lp m d r n + lp m (prt d) r n
/-- The same for all devices together. -/
def tot (r n : Fin 1024) : EReal := ∑ d : Dev nD, lp m d r n

/-- A device and its slots' senders, each with its partner, are all devices, each once. -/
def allDev (c : Dev nD) : Dev nD ≃ (Option J15 ⊕ Option J15) where
  toFun d := if d.val % 2 = c.val % 2 then .inl (inOf c (rk d)) else .inr (inOf c (rk d))
  invFun t := t.elim (inp c) fun t => prt (inp c t)
  left_inv := by revert c; decide +kernel
  right_inv := by revert c; decide +kernel

theorem sum_all (c : Dev nD) (f : Dev nD → EReal) :
    ∑ d : Dev nD, f d = (f c + f (prt c)) + ∑ j : J15, (f (pv c (j.val + 1)) + f (prt (pv c (j.val + 1)))) := by
  rw [← (allDev c).symm.sum_comp f, Fintype.sum_sum_type, Fintype.sum_option, Fintype.sum_option, Finset.sum_add_distrib]
  show (f c + ∑ j : J15, f (pv c (j.val + 1))) + (f (prt c) + ∑ j : J15, f (prt (pv c (j.val + 1)))) = _
  exact add_add_add_comm _ _ _ _

theorem tot_eq (c : Dev nD) (r n : Fin 1024) : tot m r n = pp m c r n + ∑ j : J15, pp m (pv c (j.val + 1)) r n :=
  sum_all c fun d => lp m d r n

/-! ## The buffers, element by element -/

theorem WP_at (c : Dev nD) (k : Fin 32) (n : Fin 1024) : WP m c (ix2 k n) = WT m (prt c) (ix2 k n) := by
  unfold WP WS
  refine (pay2_at _ k n).trans (read_rect cc0_stg1_0 _ _ (ix2 k n) (ix2 k n) fun a => ?_)
  fin_cases a
  · show k.val = 0 + k.val; omega
  · show n.val = 0 + n.val; omega

theorem XP_at (c : Dev nD) (a : Fin 512) (r : Fin 1024) (h : r.val = hrow c + a.val) (k : Fin 32) : XP m c (ix2 a k) = XT m (prt c) (ix2 r k) := by
  unfold XP XS
  refine (pay1_at _ a k).trans (read_rect cc0_stg0_0 _ _ (ix2 a k) (ix2 r k) fun b => ?_)
  fin_cases b
  · show r.val = hrow (prt (prt c)) + a.val; rw [prt_prt]; exact h
  · show k.val = 0 + k.val; omega

/-- The combined product a device forms on its half of the rows. -/
theorem comb_at (c : Dev nD) (g : G4) (a : Fin 512) (b : Fin 256) (r n : Fin 1024) (hr : r.val = hrow c + a.val) (hn : n.val = 256 * g.val + b.val) :
    k0_pay3 (F := Ideal) (xM.view.readAt (Elt Ideal) (xoR c).toLoadRect (XT m c)) (wM.view.readAt (Elt Ideal) (wR g).toLoadRect (WT m c))
      (xpM.view.readAt (Elt Ideal) xR0.toLoadRect (XP m c)) (wpM.view.readAt (Elt Ideal) (wR g).toLoadRect (WP m c)) (ix2 a b)
      = pp m c r n := by
  refine (pay3_at _ _ _ _ a b).trans ?_
  unfold pp lp
  have e1 (k : Fin 32) : xM.view.readAt (Elt Ideal) (xoR c).toLoadRect (XT m c) (ix2 a k) = XT m c (ix2 r k) :=
    read_rect cc0_stg0_0 _ _ (ix2 a k) (ix2 r k) fun b => by
      fin_cases b
      · exact hr
      · show k.val = 0 + k.val; omega
  have e2 (k : Fin 32) : wM.view.readAt (Elt Ideal) (wR g).toLoadRect (WT m c) (ix2 k b) = WT m c (ix2 k n) :=
    read_rect cc0_stg1_0 _ _ (ix2 k b) (ix2 k n) fun b => by
      fin_cases b
      · show k.val = 0 + k.val; omega
      · exact hn
  have e3 (k : Fin 32) : xpM.view.readAt (Elt Ideal) xR0.toLoadRect (XP m c) (ix2 a k) = XT m (prt c) (ix2 r k) :=
    (read_rect cc0_scratch2 _ _ (ix2 a k) (ix2 a k) fun b => by
      fin_cases b
      · show a.val = 0 + a.val; omega
      · show k.val = 0 + k.val; omega).trans (XP_at m c a r hr k)
  have e4 (k : Fin 32) : wpM.view.readAt (Elt Ideal) (wR g).toLoadRect (WP m c) (ix2 k b) = WT m (prt c) (ix2 k n) :=
    (read_rect cc0_scratch3 _ _ (ix2 k b) (ix2 k n) fun b => by
      fin_cases b
      · show k.val = 0 + k.val; omega
      · exact hn).trans (WP_at m c k n)
  exact congrArg₂ (fun p q : EReal => p + q)
    (Finset.sum_congr rfl fun k _ => congrArg₂ (fun p q : EReal => p * q) (e1 k) (e2 k))
    (Finset.sum_congr rfl fun k _ => congrArg₂ (fun p q : EReal => p * q) (e3 k) (e4 k))

theorem O1_at (c : Dev nD) (r n : Fin 1024) (h : r.val / 512 = c.val % 2) : O1 m c (ix2 r n) = pp m c r n := by
  have hr : r.val = hrow c + (r.val - hrow c) := by unfold hrow; omega
  have ha : r.val - hrow c < 512 := by unfold hrow; omega
  have hn : n.val = 256 * (n.val / 256) + n.val % 256 := by omega
  have hb : n.val % 256 < 256 := by omega
  unfold O1
  refine (write_rect cc0_stg2_0 _ _ _ (ix2 ⟨r.val - hrow c, ha⟩ ⟨n.val % 256, hb⟩) (ix2 r n) fun a => ?_).trans (comb_at m c _ _ _ r n hr hn)
  fin_cases a
  · exact hr
  · exact hn

theorem CB_at (c : Dev nD) (g : G4) (a : Fin 512) (b : Fin 256) (r n : Fin 1024) (hr : r.val = hrow c + a.val) (hn : n.val = 256 * g.val + b.val) :
    CB m c (ix3 g a b) = pp m c r n := by
  unfold CB
  refine (write_rect cc0_scratch4 _ _ _ (ix3 0 a b) (ix3 g a b) fun k => ?_).trans ((pay4_at _ _ _ _ a b).trans (comb_at m c g a b r n hr hn))
  fin_cases k
  · show g.val = g.val + 0; omega
  · show a.val = 0 + a.val; omega
  · show b.val = 0 + b.val; omega

theorem RS_at (c : Dev nD) (g : G4) (j : J15) (a : Fin 32) (b : Fin 256) (r n : Fin 1024) (hr : r.val = hrow c + crow c + a.val)
    (hn : n.val = 256 * g.val + b.val) : RS m c (ix4 g j a b) = pp m (pv c (j.val + 1)) r n := by
  unfold RS
  rw [show gOf4 (ix4 g j a b) = g from rfl, show jOf4 (ix4 g j a b) = j from rfl]
  have e := View.write_emb_of_mem (v := (sM rsM g j).view) (Val := Elt Ideal) (old m c cc0_scratch5)
    ((kM g c).view.read (Elt Ideal) (CB m (pv c (j.val + 1)))) (Finset.mem_univ (ix2 a b))
  rw [emb_rs] at e
  refine e.trans ?_
  rw [View.read_apply, cast_cast, emb_cb]
  refine (cast_eq _ _).trans ?_
  exact CB_at m _ g _ b r n (by rw [hrow_pv, hr]; exact Nat.add_assoc _ _ _) hn

/-- The chunk a device reduces holds the sum over all devices. -/
theorem red_at (c : Dev nD) (g : G4) (a : Fin 32) (b : Fin 256) (r n : Fin 1024) (hr : r.val = hrow c + crow c + a.val)
    (hn : n.val = 256 * g.val + b.val) :
    k0_pay7 (F := Ideal) (oM.view.readAt (Elt Ideal) (oR c g).toLoadRect (O1 m c)) (rsM.view.readAt (Elt Ideal) (rR g).toLoadRect (RS m c)) (ix2 a b)
      = tot m r n := by
  refine (pay7_at _ _ a b).trans ?_
  rw [tot_eq m c]
  refine congrArg₂ (fun p q : EReal => p + q) ?_ (Finset.sum_congr rfl fun j _ => ?_)
  · refine (read_rect cc0_stg2_0 _ _ (ix2 a b) (ix2 r n) fun k => ?_).trans (O1_at m c r n ?_)
    · fin_cases k
      · exact hr
      · exact hn
    · have := crow_le c; unfold hrow at hr; omega
  · refine (read_rect cc0_scratch5 _ _ (ix4 0 j a b) (ix4 g j a b) fun k => ?_).trans (RS_at m c g j a b r n hr hn)
    fin_cases k
    · show g.val = g.val + 0; omega
    · show j.val = 0 + j.val; omega
    · show a.val = 0 + a.val; omega
    · show b.val = 0 + b.val; omega

theorem AB_at (c : Dev nD) (g : G4) (a : Fin 32) (b : Fin 256) (r n : Fin 1024) (hr : r.val = hrow c + crow c + a.val)
    (hn : n.val = 256 * g.val + b.val) : AB m c (ix3 g a b) = tot m r n := by
  unfold AB
  refine (write_rect cc0_scratch6 _ _ _ (ix3 0 a b) (ix3 g a b) fun k => ?_).trans ((pay8_at _ _ a b).trans (red_at m c g a b r n hr hn))
  fin_cases k
  · show g.val = g.val + 0; omega
  · show a.val = 0 + a.val; omega
  · show b.val = 0 + b.val; omega

theorem AG_at (c : Dev nD) (g : G4) (j : J15) (a : Fin 32) (b : Fin 256) : AG m c (ix4 g j a b) = AB m (pv c (j.val + 1)) (ix3 g a b) := by
  unfold AG
  rw [show gOf4 (ix4 g j a b) = g from rfl, show jOf4 (ix4 g j a b) = j from rfl]
  have e := View.write_emb_of_mem (v := (sM agM g j).view) (Val := Elt Ideal) (old m c cc0_scratch7)
    ((aM g).view.read (Elt Ideal) (AB m (pv c (j.val + 1)))) (Finset.mem_univ (ix2 a b))
  rw [emb_ag] at e
  refine e.trans ?_
  rw [View.read_apply, cast_cast, emb_ab]
  refine (cast_eq _ _).trans ?_
  rfl

/-- A device's finished half holds the sum over all devices. -/
theorem FH_at (c : Dev nD) (r n : Fin 1024) (h : r.val / 512 = c.val % 2) : FH m c (ix2 r n) = tot m r n := by
  have hn : n.val = 256 * (n.val / 256) + n.val % 256 := by omega
  have hb : n.val % 256 < 256 := by omega
  have hk : r.val % 32 < 32 := by omega
  have row (d : Dev nD) (hd : d.val % 2 = c.val % 2) (hr : rk d = kOfO (ix2 r n)) : r.val = hrow d + crow d + r.val % 32 := by
    have e : (rk d).val = r.val % 512 / 32 := congrArg Fin.val hr
    rw [crow_eq, e]
    unfold hrow
    omega
  unfold FH
  generalize ht : inOf c (kOfO (ix2 r n)) = t
  have hi := (inOf_iff c _ t).mp ht
  have hp := par_inp c t
  cases t with
  | none =>
    have hr := row c rfl hi
    refine (write_rect cc0_stg2_0 _ _ _ (ix2 ⟨r.val % 32, hk⟩ ⟨n.val % 256, hb⟩) (ix2 r n) fun a => ?_).trans (red_at m c _ _ _ r n hr hn)
    fin_cases a
    · exact hr
    · exact hn
  | some j =>
    have hr := row _ hp hi
    refine (write_rect cc0_stg2_0 _ _ _ (ix2 ⟨r.val % 32, hk⟩ ⟨n.val % 256, hb⟩) (ix2 r n) fun a => ?_).trans ((pay14_at _ _ _).trans
      ((read_rect cc0_scratch7 _ _ (ix4 0 0 ⟨r.val % 32, hk⟩ ⟨n.val % 256, hb⟩) (ix4 (gOfO (ix2 r n)) j ⟨r.val % 32, hk⟩ ⟨n.val % 256, hb⟩) fun k => ?_).trans
        ((AG_at m c _ j _ _).trans (AB_at m _ _ _ _ r n hr hn))))
    · fin_cases a
      · exact hr
      · exact hn
    · fin_cases k
      · rfl
      · rfl
      · show r.val % 32 = 0 + r.val % 32; omega
      · show n.val % 256 = 0 + n.val % 256; omega

theorem XB_at (c : Dev nD) (g : G4) (a : Fin 512) (b : Fin 256) (r n : Fin 1024) (hr : r.val = hrow c + a.val) (hn : n.val = 256 * g.val + b.val) :
    XB m c (ix3 g a b) = tot m r n := by
  unfold XB
  refine (write_rect cc0_scratch8 _ _ _ (ix3 0 a b) (ix3 g a b) fun k => ?_).trans ((pay29_at _ a b).trans
    ((read_rect cc0_stg2_0 _ _ (ix2 a b) (ix2 r n) fun k => ?_).trans (FH_at m c r n ?_)))
  · fin_cases k
    · show g.val = g.val + 0; omega
    · show a.val = 0 + a.val; omega
    · show b.val = 0 + b.val; omega
  · fin_cases k
    · exact hr
    · exact hn
  · unfold hrow at hr; omega

theorem XR_at (c : Dev nD) (g : G4) (a : Fin 512) (b : Fin 256) : XR m c (ix3 g a b) = XB m (prt c) (ix3 g a b) := by
  unfold XR
  rw [show gOf3 (ix3 g a b) = g from rfl]
  have e := View.write_emb_of_mem (v := (gM xrM g).view) (Val := Elt Ideal) (old m c cc0_scratch9)
    ((gM xbM g).view.read (Elt Ideal) (XB m (prt c))) (Finset.mem_univ (ix2 a b))
  rw [emb_xr] at e
  refine e.trans ?_
  rw [View.read_apply, cast_cast, emb_xb]
  refine (cast_eq _ _).trans ?_
  rfl

/-- Every device's result holds, at every row and column, the sum over all devices. -/
theorem FIN_at (c : Dev nD) (r n : Fin 1024) : FIN m c (ix2 r n) = tot m r n := by
  unfold FIN
  by_cases h : r.val / 512 = c.val % 2
  · exact (if_pos h).trans (FH_at m c r n h)
  · refine (if_neg h).trans ?_
    have hp := par_prt c
    have hr : r.val = hrow (prt c) + (r.val - hrow (prt c)) := by unfold hrow; omega
    have ha : r.val - hrow (prt c) < 512 := by unfold hrow; omega
    have hn : n.val = 256 * (n.val / 256) + n.val % 256 := by omega
    have hb : n.val % 256 < 256 := by omega
    refine (write_rect cc0_stg2_0 _ _ _ (ix2 ⟨r.val - hrow (prt c), ha⟩ ⟨n.val % 256, hb⟩) (ix2 r n) fun a => ?_).trans ((pay86_at _ _ _).trans
      ((read_rect cc0_scratch9 _ _ (ix3 0 ⟨r.val - hrow (prt c), ha⟩ ⟨n.val % 256, hb⟩)
        (ix3 (gOfO (ix2 r n)) ⟨r.val - hrow (prt c), ha⟩ ⟨n.val % 256, hb⟩) fun k => ?_).trans
        ((XR_at m c _ _ _).trans (XB_at m _ _ _ _ r n hr hn))))
    · fin_cases a
      · exact hr
      · exact hn
    · fin_cases k
      · rfl
      · show r.val - hrow (prt c) = 0 + (r.val - hrow (prt c)); omega
      · show n.val % 256 = 0 + n.val % 256; omega

end Cert.KernelIdeal.MM

end
-- ==== Proof.Result.lean ====
/-
  The result array after the run, and its agreement with the plain product.
-/
module

public import proofs.«01_k».proof.Defs
public import proofs.«01_k».proof.Proof.Gen.ReferenceIdeal.Run
public import proofs.«01_k».proof.Proof.Run
public import proofs.«01_k».proof.Proof.Value
public import Idealize.ShloMosaic.Lib.Pipeline.Value

@[expose] public section

set_option maxRecDepth 16384

noncomputable section

namespace Cert.KernelIdeal.MM

open Idealize.ShloMosaic Idealize.ShloMosaic.TcCoe
open Idealize.SL Idealize.SL.Sem Cert.KernelIdeal.Gen
open Idealize.ShloMosaic.Pipeline (Dat Cfg Window)

section AnyFloat
variable {F : FTy → Type} [FloatOps F]

/-- A block that is the whole array has the array's elements in their own places. -/
theorem blk_emb_out (t : Fin cfg0.N) (i : S1024x1024.Idx) : (win0_2.blk t).view.emb i = i := by
  funext a
  fin_cases a <;> refine Fin.ext ?_
  · show 0 * 1024 + 1 * (i 0).val = (i 0).val; omega
  · show 0 * 1024 + 1 * (i 1).val = (i 1).val; omega

/-- After the run the result array holds what the body left. -/
theorem finalA_out (m : (ℓ : Loc nD τ sig) → Buf (Elt F) ℓ) (ρ : Dev nD → PrngReg) (c : Dev nD) : finalA m ρ c (2 : Fin 3) = FIN m c := by
  refine (dats (F := F) m ρ 0 c).arrAt_eq_of_cover (2 : Fin 3) (FIN m c) (fun t _ => ?_) (fun i => ⟨t0_0, flush0_2 t0_0, ?_⟩)
  · funext y
    rw [View.read_apply]
    refine Eq.trans ?_ (cast_eq _ _).symm
    exact congrArg (FIN m c) ((blk_emb_out t y).symm)
  · have h := (win0_2.blk t0_0).view.emb_mem_set i
    rwa [blk_emb_out] at h

theorem XT_at (m : (ℓ : Loc nD τ sig) → Buf (Elt F) ℓ) (c : Dev nD) (i : S1024x32.Idx) : XT m c i = m ((c : Thread nD τ).loc main_arg0) i := by
  have e : (win0_0.blk (0 : Fin 1)).view.emb i = i := by
    funext a
    fin_cases a <;> refine Fin.ext ?_
    · show 0 * 1024 + 1 * (i 0).val = (i 0).val; omega
    · show 0 * 32 + 1 * (i 1).val = (i 1).val; omega
  unfold XT
  rw [View.read_apply, e]
  rfl

theorem WT_at (m : (ℓ : Loc nD τ sig) → Buf (Elt F) ℓ) (c : Dev nD) (i : S32x1024.Idx) : WT m c i = m ((c : Thread nD τ).loc main_arg1) i := by
  have e : (win0_1.blk (0 : Fin 1)).view.emb i = i := by
    funext a
    fin_cases a <;> refine Fin.ext ?_
    · show 0 * 32 + 1 * (i 0).val = (i 0).val; omega
    · show 0 * 1024 + 1 * (i 1).val = (i 1).val; omega
  unfold WT
  rw [View.read_apply, e]
  rfl

end AnyFloat

/-- The plain product at a row and a column. -/
theorem ref_at (x w : FVec Ideal S1024x1024 .f32) (r n : Fin 1024) :
    Host.dotGeneral (F := Ideal) Cert.ReferenceIdeal.dot_S1024x1024_S1024x1024_S1024x1024_1_0_0_1_n_n none x w (ix2 r n)
      = ∑ k : Fin 1024, (x (ix2 r k) * w (ix2 k n) : EReal) := by
  pointwise

/-- A sum over the contracted axis, taken block by block. -/
theorem sum_blocks (f : Fin 1024 → EReal) :
    ∑ d : Dev nD, ∑ k : Fin 32, f ⟨d.val * 32 + k.val, by have : d.val < 32 := d.isLt; omega⟩ = ∑ k : Fin 1024, f k := by
  rw [← Fintype.sum_prod_type' (f := fun (d : Dev nD) (k : Fin 32) => f ⟨d.val * 32 + k.val, by have : d.val < 32 := d.isLt; omega⟩)]
  refine Fintype.sum_equiv (finProdFinEquiv (m := 32) (n := 32)) _ _ fun p => congrArg f (Fin.ext ?_)
  show p.1.val * 32 + p.2.val = p.2.val + 32 * p.1.val
  omega

/-- Where each device's arguments are its blocks of two arrays, the total at a row and a column is the sum over the whole contracted axis. -/
theorem tot_blocks (m : (ℓ : Loc nD τ sig) → Buf (Elt Ideal) ℓ) (x w : FVec Ideal S1024x1024 .f32)
    (hx : ∀ c : Dev nD, m ((c : Thread nD τ).loc main_arg0) = Layout.block ⟨2, ![1024, 32]⟩ ⟨2, ![1024, 1024]⟩ 1 32 c x)
    (hw : ∀ c : Dev nD, m ((c : Thread nD τ).loc main_arg1) = Layout.block ⟨2, ![32, 1024]⟩ ⟨2, ![1024, 1024]⟩ 0 32 c w) (r n : Fin 1024) :
    tot m r n = ∑ k : Fin 1024, (x (ix2 r k) * w (ix2 k n) : EReal) := by
  refine Eq.trans ?_ (sum_blocks fun k => (x (ix2 r k) * w (ix2 k n) : EReal))
  unfold tot lp
  refine Finset.sum_congr rfl fun d _ => Finset.sum_congr rfl fun k _ => congrArg₂ (fun p q : EReal => p * q) ?_ ?_
  · unfold xt
    rw [XT_at, hx d]
    refine congrArg x (funext fun a => Fin.ext ?_)
    fin_cases a <;> rfl
  · unfold wt
    rw [WT_at, hw d]
    refine congrArg w (funext fun a => Fin.ext ?_)
    fin_cases a <;> rfl

/-- Where each device's arguments are its blocks of two arrays, every device's result is the arrays' product. -/
theorem result_eq (m : (ℓ : Loc nD τ sig) → Buf (Elt Ideal) ℓ) (x w : FVec Ideal S1024x1024 .f32)
    (hx : ∀ c : Dev nD, m ((c : Thread nD τ).loc main_arg0) = Layout.block ⟨2, ![1024, 32]⟩ ⟨2, ![1024, 1024]⟩ 1 32 c x)
    (hw : ∀ c : Dev nD, m ((c : Thread nD τ).loc main_arg1) = Layout.block ⟨2, ![32, 1024]⟩ ⟨2, ![1024, 1024]⟩ 0 32 c w) (c : Dev nD) :
    FIN m c = Host.dotGeneral (F := Ideal) Cert.ReferenceIdeal.dot_S1024x1024_S1024x1024_S1024x1024_1_0_0_1_n_n none x w := by
  funext i
  obtain ⟨r, n, rfl⟩ : ∃ (r n : Fin 1024), i = ix2 r n := ⟨i 0, i 1, eq_ix2 i⟩
  exact (FIN_at m c r n).trans ((tot_blocks m x w hx hw r n).trans (ref_at x w r n).symm)

end Cert.KernelIdeal.MM

namespace Cert.Proof

open Idealize.ShloMosaic Idealize.SL.Sem
open Cert.KernelIdeal.MM (run_main finalA_x finalA_w finalA_out result_eq)

/-- Over the extended reals, where each device holds its blocks of the reference's arguments, the result on every device is
    the reference's result; both programs keep their arguments. -/
theorem value_kernel : Cert.algebraic_KernelIdeal_ReferenceIdeal := fun m g m' g' _ h =>
  ⟨_, (θ_run Cert.KernelIdeal.defs _ _).mono
      (fun _ hr c => ⟨(hr.1 c 2).trans ((finalA_out m g c).trans (result_eq m _ _ (fun c => (h c).1) (fun c => (h c).2) c)),
        (hr.1 c 0).trans (finalA_x m g c), (hr.1 c 1).trans (finalA_w m g c)⟩) (run_main (F := Ideal) m g),
    (θ_run Cert.ReferenceIdeal.defs _ _).mono (fun _ hr => hr 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_kernel_ideal, frame_reference_ideal, trivial, value_kernel⟩

end Cert.Proof

end
